-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_ExpertsCtx (m : (ℓ : Loc Cert.ExpertsCtx.nD Cert.ExpertsCtx.τ Cert.ExpertsCtx.sig) → Buf (Elt Bits) ℓ) : Prop :=
  True

def Pre_ExpertsCtxIdeal (m : (ℓ : Loc Cert.ExpertsCtxIdeal.nD Cert.ExpertsCtxIdeal.τ Cert.ExpertsCtxIdeal.sig) → Buf (Elt Ideal) ℓ) : Prop :=
  True

def Pre_ExpertsCtxRefIdeal (m : (ℓ : Loc Cert.ExpertsCtxRefIdeal.nD Cert.ExpertsCtxRefIdeal.τ Cert.ExpertsCtxRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvLast (m : (ℓ : Loc Cert.ConvLast.nD Cert.ConvLast.τ Cert.ConvLast.sig) → Buf (Elt Bits) ℓ) : Prop :=
  True

def Pre_ConvLastIdeal (m : (ℓ : Loc Cert.ConvLastIdeal.nD Cert.ConvLastIdeal.τ Cert.ConvLastIdeal.sig) → Buf (Elt Ideal) ℓ) : Prop :=
  True

def Pre_ConvLastRefIdeal (m : (ℓ : Loc Cert.ConvLastRefIdeal.nD Cert.ConvLastRefIdeal.τ Cert.ConvLastRefIdeal.sig) → Buf (Elt Ideal) ℓ) : Prop :=
  True

def Pre_ScanIn (m : (ℓ : Loc Cert.ScanIn.nD Cert.ScanIn.τ Cert.ScanIn.sig) → Buf (Elt Bits) ℓ) : Prop :=
  True

def Pre_ScanInIdeal (m : (ℓ : Loc Cert.ScanInIdeal.nD Cert.ScanInIdeal.τ Cert.ScanInIdeal.sig) → Buf (Elt Ideal) ℓ) : Prop :=
  True

def Pre_ScanInRefIdeal (m : (ℓ : Loc Cert.ScanInRefIdeal.nD Cert.ScanInRefIdeal.τ Cert.ScanInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsCtx [hExpertsCtx : Cert.ExpertsCtx.Facts] : Prop :=
  ∀ (m : (ℓ : Loc Cert.ExpertsCtx.nD Cert.ExpertsCtx.τ Cert.ExpertsCtx.sig) → Buf (Elt Bits) ℓ) (g : Dev Cert.ExpertsCtx.nD → PrngReg), Pre_ExpertsCtx m →
    θ_run (Cert.ExpertsCtx.defs (F := Bits)) (onTc (τ := Cert.ExpertsCtx.τ) (Cert.ExpertsCtx.main (F := Bits))) ⟨m, fun _ => 0, g⟩ (fun r => (∀ c : Dev Cert.ExpertsCtx.nD,
      r.2.mem ((c.tc : Thread Cert.ExpertsCtx.nD Cert.ExpertsCtx.τ).loc Cert.ExpertsCtx.main_arg0) = m ((c.tc : Thread Cert.ExpertsCtx.nD Cert.ExpertsCtx.τ).loc Cert.ExpertsCtx.main_arg0)
      ∧ r.2.mem ((c.tc : Thread Cert.ExpertsCtx.nD Cert.ExpertsCtx.τ).loc Cert.ExpertsCtx.main_arg1) = m ((c.tc : Thread Cert.ExpertsCtx.nD Cert.ExpertsCtx.τ).loc Cert.ExpertsCtx.main_arg1)
      ∧ r.2.mem ((c.tc : Thread Cert.ExpertsCtx.nD Cert.ExpertsCtx.τ).loc Cert.ExpertsCtx.main_arg2) = m ((c.tc : Thread Cert.ExpertsCtx.nD Cert.ExpertsCtx.τ).loc Cert.ExpertsCtx.main_arg2)
      ∧ r.2.mem ((c.tc : Thread Cert.ExpertsCtx.nD Cert.ExpertsCtx.τ).loc Cert.ExpertsCtx.main_arg3) = m ((c.tc : Thread Cert.ExpertsCtx.nD Cert.ExpertsCtx.τ).loc Cert.ExpertsCtx.main_arg3)
      ∧ r.2.mem ((c.tc : Thread Cert.ExpertsCtx.nD Cert.ExpertsCtx.τ).loc Cert.ExpertsCtx.main_arg4) = m ((c.tc : Thread Cert.ExpertsCtx.nD Cert.ExpertsCtx.τ).loc Cert.ExpertsCtx.main_arg4))
      ∧ r.2.sem = fun _ => 0)

def quiescent_ExpertsCtxIdeal [hExpertsCtxIdeal : Cert.ExpertsCtxIdeal.Facts] : Prop :=
  ∀ (m : (ℓ : Loc Cert.ExpertsCtxIdeal.nD Cert.ExpertsCtxIdeal.τ Cert.ExpertsCtxIdeal.sig) → Buf (Elt Ideal) ℓ) (g : Dev Cert.ExpertsCtxIdeal.nD → PrngReg), Pre_ExpertsCtxIdeal m →
    θ_run (Cert.ExpertsCtxIdeal.defs (F := Ideal)) (onTc (τ := Cert.ExpertsCtxIdeal.τ) (Cert.ExpertsCtxIdeal.main (F := Ideal))) ⟨m, fun _ => 0, g⟩ (fun r => (∀ c : Dev Cert.ExpertsCtxIdeal.nD,
      r.2.mem ((c.tc : Thread Cert.ExpertsCtxIdeal.nD Cert.ExpertsCtxIdeal.τ).loc Cert.ExpertsCtxIdeal.main_arg0) = m ((c.tc : Thread Cert.ExpertsCtxIdeal.nD Cert.ExpertsCtxIdeal.τ).loc Cert.ExpertsCtxIdeal.main_arg0)
      ∧ r.2.mem ((c.tc : Thread Cert.ExpertsCtxIdeal.nD Cert.ExpertsCtxIdeal.τ).loc Cert.ExpertsCtxIdeal.main_arg1) = m ((c.tc : Thread Cert.ExpertsCtxIdeal.nD Cert.ExpertsCtxIdeal.τ).loc Cert.ExpertsCtxIdeal.main_arg1)
      ∧ r.2.mem ((c.tc : Thread Cert.ExpertsCtxIdeal.nD Cert.ExpertsCtxIdeal.τ).loc Cert.ExpertsCtxIdeal.main_arg2) = m ((c.tc : Thread Cert.ExpertsCtxIdeal.nD Cert.ExpertsCtxIdeal.τ).loc Cert.ExpertsCtxIdeal.main_arg2)
      ∧ r.2.mem ((c.tc : Thread Cert.ExpertsCtxIdeal.nD Cert.ExpertsCtxIdeal.τ).loc Cert.ExpertsCtxIdeal.main_arg3) = m ((c.tc : Thread Cert.ExpertsCtxIdeal.nD Cert.ExpertsCtxIdeal.τ).loc Cert.ExpertsCtxIdeal.main_arg3)
      ∧ r.2.mem ((c.tc : Thread Cert.ExpertsCtxIdeal.nD Cert.ExpertsCtxIdeal.τ).loc Cert.ExpertsCtxIdeal.main_arg4) = m ((c.tc : Thread Cert.ExpertsCtxIdeal.nD Cert.ExpertsCtxIdeal.τ).loc Cert.ExpertsCtxIdeal.main_arg4))
      ∧ r.2.sem = fun _ => 0)

def quiescent_ExpertsCtxRefIdeal [hExpertsCtxRefIdeal : Cert.ExpertsCtxRefIdeal.Facts] : Prop :=
  ∀ (m : (ℓ : Loc Cert.ExpertsCtxRefIdeal.nD Cert.ExpertsCtxRefIdeal.τ Cert.ExpertsCtxRefIdeal.sig) → Buf (Elt Ideal) ℓ) (g : Dev Cert.ExpertsCtxRefIdeal.nD → PrngReg), Pre_ExpertsCtxRefIdeal m →
    θ_run (Cert.ExpertsCtxRefIdeal.defs (F := Ideal)) (onTc (τ := Cert.ExpertsCtxRefIdeal.τ) (Cert.ExpertsCtxRefIdeal.main (F := Ideal))) ⟨m, fun _ => 0, g⟩ (fun r => (∀ c : Dev Cert.ExpertsCtxRefIdeal.nD,
      r.2.mem ((c.tc : Thread Cert.ExpertsCtxRefIdeal.nD Cert.ExpertsCtxRefIdeal.τ).loc Cert.ExpertsCtxRefIdeal.main_arg0) = m ((c.tc : Thread Cert.ExpertsCtxRefIdeal.nD Cert.ExpertsCtxRefIdeal.τ).loc Cert.ExpertsCtxRefIdeal.main_arg0)
      ∧ r.2.mem ((c.tc : Thread Cert.ExpertsCtxRefIdeal.nD Cert.ExpertsCtxRefIdeal.τ).loc Cert.ExpertsCtxRefIdeal.main_arg1) = m ((c.tc : Thread Cert.ExpertsCtxRefIdeal.nD Cert.ExpertsCtxRefIdeal.τ).loc Cert.ExpertsCtxRefIdeal.main_arg1)
      ∧ r.2.mem ((c.tc : Thread Cert.ExpertsCtxRefIdeal.nD Cert.ExpertsCtxRefIdeal.τ).loc Cert.ExpertsCtxRefIdeal.main_arg2) = m ((c.tc : Thread Cert.ExpertsCtxRefIdeal.nD Cert.ExpertsCtxRefIdeal.τ).loc Cert.ExpertsCtxRefIdeal.main_arg2)
      ∧ r.2.mem ((c.tc : Thread Cert.ExpertsCtxRefIdeal.nD Cert.ExpertsCtxRefIdeal.τ).loc Cert.ExpertsCtxRefIdeal.main_arg3) = m ((c.tc : Thread Cert.ExpertsCtxRefIdeal.nD Cert.ExpertsCtxRefIdeal.τ).loc Cert.ExpertsCtxRefIdeal.main_arg3)
      ∧ r.2.mem ((c.tc : Thread Cert.ExpertsCtxRefIdeal.nD Cert.ExpertsCtxRefIdeal.τ).loc Cert.ExpertsCtxRefIdeal.main_arg4) = m ((c.tc : Thread Cert.ExpertsCtxRefIdeal.nD Cert.ExpertsCtxRefIdeal.τ).loc Cert.ExpertsCtxRefIdeal.main_arg4))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3))
      ∧ r.2.sem = fun _ => 0)

def quiescent_ConvLast [hConvLast : Cert.ConvLast.Facts] : Prop :=
  ∀ (m : (ℓ : Loc Cert.ConvLast.nD Cert.ConvLast.τ Cert.ConvLast.sig) → Buf (Elt Bits) ℓ) (g : Dev Cert.ConvLast.nD → PrngReg), Pre_ConvLast m →
    θ_run (Cert.ConvLast.defs (F := Bits)) (onTc (τ := Cert.ConvLast.τ) (Cert.ConvLast.main (F := Bits))) ⟨m, fun _ => 0, g⟩ (fun r => (∀ c : Dev Cert.ConvLast.nD,
      r.2.mem ((c.tc : Thread Cert.ConvLast.nD Cert.ConvLast.τ).loc Cert.ConvLast.main_arg0) = m ((c.tc : Thread Cert.ConvLast.nD Cert.ConvLast.τ).loc Cert.ConvLast.main_arg0)
      ∧ r.2.mem ((c.tc : Thread Cert.ConvLast.nD Cert.ConvLast.τ).loc Cert.ConvLast.main_arg1) = m ((c.tc : Thread Cert.ConvLast.nD Cert.ConvLast.τ).loc Cert.ConvLast.main_arg1)
      ∧ r.2.mem ((c.tc : Thread Cert.ConvLast.nD Cert.ConvLast.τ).loc Cert.ConvLast.main_arg2) = m ((c.tc : Thread Cert.ConvLast.nD Cert.ConvLast.τ).loc Cert.ConvLast.main_arg2)
      ∧ r.2.mem ((c.tc : Thread Cert.ConvLast.nD Cert.ConvLast.τ).loc Cert.ConvLast.main_arg3) = m ((c.tc : Thread Cert.ConvLast.nD Cert.ConvLast.τ).loc Cert.ConvLast.main_arg3))
      ∧ r.2.sem = fun _ => 0)

def quiescent_ConvLastIdeal [hConvLastIdeal : Cert.ConvLastIdeal.Facts] : Prop :=
  ∀ (m : (ℓ : Loc Cert.ConvLastIdeal.nD Cert.ConvLastIdeal.τ Cert.ConvLastIdeal.sig) → Buf (Elt Ideal) ℓ) (g : Dev Cert.ConvLastIdeal.nD → PrngReg), Pre_ConvLastIdeal m →
    θ_run (Cert.ConvLastIdeal.defs (F := Ideal)) (onTc (τ := Cert.ConvLastIdeal.τ) (Cert.ConvLastIdeal.main (F := Ideal))) ⟨m, fun _ => 0, g⟩ (fun r => (∀ c : Dev Cert.ConvLastIdeal.nD,
      r.2.mem ((c.tc : Thread Cert.ConvLastIdeal.nD Cert.ConvLastIdeal.τ).loc Cert.ConvLastIdeal.main_arg0) = m ((c.tc : Thread Cert.ConvLastIdeal.nD Cert.ConvLastIdeal.τ).loc Cert.ConvLastIdeal.main_arg0)
      ∧ r.2.mem ((c.tc : Thread Cert.ConvLastIdeal.nD Cert.ConvLastIdeal.τ).loc Cert.ConvLastIdeal.main_arg1) = m ((c.tc : Thread Cert.ConvLastIdeal.nD Cert.ConvLastIdeal.τ).loc Cert.ConvLastIdeal.main_arg1)
      ∧ r.2.mem ((c.tc : Thread Cert.ConvLastIdeal.nD Cert.ConvLastIdeal.τ).loc Cert.ConvLastIdeal.main_arg2) = m ((c.tc : Thread Cert.ConvLastIdeal.nD Cert.ConvLastIdeal.τ).loc Cert.ConvLastIdeal.main_arg2)
      ∧ r.2.mem ((c.tc : Thread Cert.ConvLastIdeal.nD Cert.ConvLastIdeal.τ).loc Cert.ConvLastIdeal.main_arg3) = m ((c.tc : Thread Cert.ConvLastIdeal.nD Cert.ConvLastIdeal.τ).loc Cert.ConvLastIdeal.main_arg3))
      ∧ r.2.sem = fun _ => 0)

def quiescent_ConvLastRefIdeal [hConvLastRefIdeal : Cert.ConvLastRefIdeal.Facts] : Prop :=
  ∀ (m : (ℓ : Loc Cert.ConvLastRefIdeal.nD Cert.ConvLastRefIdeal.τ Cert.ConvLastRefIdeal.sig) → Buf (Elt Ideal) ℓ) (g : Dev Cert.ConvLastRefIdeal.nD → PrngReg), Pre_ConvLastRefIdeal m →
    θ_run (Cert.ConvLastRefIdeal.defs (F := Ideal)) (onTc (τ := Cert.ConvLastRefIdeal.τ) (Cert.ConvLastRefIdeal.main (F := Ideal))) ⟨m, fun _ => 0, g⟩ (fun r => (∀ c : Dev Cert.ConvLastRefIdeal.nD,
      r.2.mem ((c.tc : Thread Cert.ConvLastRefIdeal.nD Cert.ConvLastRefIdeal.τ).loc Cert.ConvLastRefIdeal.main_arg0) = m ((c.tc : Thread Cert.ConvLastRefIdeal.nD Cert.ConvLastRefIdeal.τ).loc Cert.ConvLastRefIdeal.main_arg0)
      ∧ r.2.mem ((c.tc : Thread Cert.ConvLastRefIdeal.nD Cert.ConvLastRefIdeal.τ).loc Cert.ConvLastRefIdeal.main_arg1) = m ((c.tc : Thread Cert.ConvLastRefIdeal.nD Cert.ConvLastRefIdeal.τ).loc Cert.ConvLastRefIdeal.main_arg1)
      ∧ r.2.mem ((c.tc : Thread Cert.ConvLastRefIdeal.nD Cert.ConvLastRefIdeal.τ).loc Cert.ConvLastRefIdeal.main_arg2) = m ((c.tc : Thread Cert.ConvLastRefIdeal.nD Cert.ConvLastRefIdeal.τ).loc Cert.ConvLastRefIdeal.main_arg2)
      ∧ r.2.mem ((c.tc : Thread Cert.ConvLastRefIdeal.nD Cert.ConvLastRefIdeal.τ).loc Cert.ConvLastRefIdeal.main_arg3) = m ((c.tc : Thread Cert.ConvLastRefIdeal.nD Cert.ConvLastRefIdeal.τ).loc Cert.ConvLastRefIdeal.main_arg3))
      ∧ r.2.sem = fun _ => 0)

def quiescent_ScanIn [hScanIn : Cert.ScanIn.Facts] : Prop :=
  ∀ (m : (ℓ : Loc Cert.ScanIn.nD Cert.ScanIn.τ Cert.ScanIn.sig) → Buf (Elt Bits) ℓ) (g : Dev Cert.ScanIn.nD → PrngReg), Pre_ScanIn m →
    θ_run (Cert.ScanIn.defs (F := Bits)) (onTc (τ := Cert.ScanIn.τ) (Cert.ScanIn.main (F := Bits))) ⟨m, fun _ => 0, g⟩ (fun r => (∀ c : Dev Cert.ScanIn.nD,
      r.2.mem ((c.tc : Thread Cert.ScanIn.nD Cert.ScanIn.τ).loc Cert.ScanIn.main_arg0) = m ((c.tc : Thread Cert.ScanIn.nD Cert.ScanIn.τ).loc Cert.ScanIn.main_arg0)
      ∧ r.2.mem ((c.tc : Thread Cert.ScanIn.nD Cert.ScanIn.τ).loc Cert.ScanIn.main_arg1) = m ((c.tc : Thread Cert.ScanIn.nD Cert.ScanIn.τ).loc Cert.ScanIn.main_arg1)
      ∧ r.2.mem ((c.tc : Thread Cert.ScanIn.nD Cert.ScanIn.τ).loc Cert.ScanIn.main_arg2) = m ((c.tc : Thread Cert.ScanIn.nD Cert.ScanIn.τ).loc Cert.ScanIn.main_arg2)
      ∧ r.2.mem ((c.tc : Thread Cert.ScanIn.nD Cert.ScanIn.τ).loc Cert.ScanIn.main_arg3) = m ((c.tc : Thread Cert.ScanIn.nD Cert.ScanIn.τ).loc Cert.ScanIn.main_arg3))
      ∧ r.2.sem = fun _ => 0)

def quiescent_ScanInIdeal [hScanInIdeal : Cert.ScanInIdeal.Facts] : Prop :=
  ∀ (m : (ℓ : Loc Cert.ScanInIdeal.nD Cert.ScanInIdeal.τ Cert.ScanInIdeal.sig) → Buf (Elt Ideal) ℓ) (g : Dev Cert.ScanInIdeal.nD → PrngReg), Pre_ScanInIdeal m →
    θ_run (Cert.ScanInIdeal.defs (F := Ideal)) (onTc (τ := Cert.ScanInIdeal.τ) (Cert.ScanInIdeal.main (F := Ideal))) ⟨m, fun _ => 0, g⟩ (fun r => (∀ c : Dev Cert.ScanInIdeal.nD,
      r.2.mem ((c.tc : Thread Cert.ScanInIdeal.nD Cert.ScanInIdeal.τ).loc Cert.ScanInIdeal.main_arg0) = m ((c.tc : Thread Cert.ScanInIdeal.nD Cert.ScanInIdeal.τ).loc Cert.ScanInIdeal.main_arg0)
      ∧ r.2.mem ((c.tc : Thread Cert.ScanInIdeal.nD Cert.ScanInIdeal.τ).loc Cert.ScanInIdeal.main_arg1) = m ((c.tc : Thread Cert.ScanInIdeal.nD Cert.ScanInIdeal.τ).loc Cert.ScanInIdeal.main_arg1)
      ∧ r.2.mem ((c.tc : Thread Cert.ScanInIdeal.nD Cert.ScanInIdeal.τ).loc Cert.ScanInIdeal.main_arg2) = m ((c.tc : Thread Cert.ScanInIdeal.nD Cert.ScanInIdeal.τ).loc Cert.ScanInIdeal.main_arg2)
      ∧ r.2.mem ((c.tc : Thread Cert.ScanInIdeal.nD Cert.ScanInIdeal.τ).loc Cert.ScanInIdeal.main_arg3) = m ((c.tc : Thread Cert.ScanInIdeal.nD Cert.ScanInIdeal.τ).loc Cert.ScanInIdeal.main_arg3))
      ∧ r.2.sem = fun _ => 0)

def quiescent_ScanInRefIdeal [hScanInRefIdeal : Cert.ScanInRefIdeal.Facts] : Prop :=
  ∀ (m : (ℓ : Loc Cert.ScanInRefIdeal.nD Cert.ScanInRefIdeal.τ Cert.ScanInRefIdeal.sig) → Buf (Elt Ideal) ℓ) (g : Dev Cert.ScanInRefIdeal.nD → PrngReg), Pre_ScanInRefIdeal m →
    θ_run (Cert.ScanInRefIdeal.defs (F := Ideal)) (onTc (τ := Cert.ScanInRefIdeal.τ) (Cert.ScanInRefIdeal.main (F := Ideal))) ⟨m, fun _ => 0, g⟩ (fun r => (∀ c : Dev Cert.ScanInRefIdeal.nD,
      r.2.mem ((c.tc : Thread Cert.ScanInRefIdeal.nD Cert.ScanInRefIdeal.τ).loc Cert.ScanInRefIdeal.main_arg0) = m ((c.tc : Thread Cert.ScanInRefIdeal.nD Cert.ScanInRefIdeal.τ).loc Cert.ScanInRefIdeal.main_arg0)
      ∧ r.2.mem ((c.tc : Thread Cert.ScanInRefIdeal.nD Cert.ScanInRefIdeal.τ).loc Cert.ScanInRefIdeal.main_arg1) = m ((c.tc : Thread Cert.ScanInRefIdeal.nD Cert.ScanInRefIdeal.τ).loc Cert.ScanInRefIdeal.main_arg1)
      ∧ r.2.mem ((c.tc : Thread Cert.ScanInRefIdeal.nD Cert.ScanInRefIdeal.τ).loc Cert.ScanInRefIdeal.main_arg2) = m ((c.tc : Thread Cert.ScanInRefIdeal.nD Cert.ScanInRefIdeal.τ).loc Cert.ScanInRefIdeal.main_arg2)
      ∧ r.2.mem ((c.tc : Thread Cert.ScanInRefIdeal.nD Cert.ScanInRefIdeal.τ).loc Cert.ScanInRefIdeal.main_arg3) = m ((c.tc : Thread Cert.ScanInRefIdeal.nD Cert.ScanInRefIdeal.τ).loc Cert.ScanInRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def preserves_Kernel_KernelIdeal : Prop :=
  True

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![20480, 2048]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![20480, 2048]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v72) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v20) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_ExpertsCtx_ExpertsCtxIdeal : Prop :=
  True

def algebraic_ExpertsCtxIdeal_ExpertsCtxRefIdeal_on_chosen_rows [hExpertsCtxIdeal : Cert.ExpertsCtxIdeal.Facts] [hExpertsCtxRefIdeal : Cert.ExpertsCtxRefIdeal.Facts] [hOn_chosen_rows : Cert.On_chosen_rows.Facts] : Prop :=
  ∀ (m : (ℓ : Loc Cert.ExpertsCtxIdeal.nD Cert.ExpertsCtxIdeal.τ Cert.ExpertsCtxIdeal.sig) → Buf (Elt Ideal) ℓ) (g : Dev Cert.ExpertsCtxIdeal.nD → PrngReg)
    (m' : (ℓ : Loc Cert.ExpertsCtxRefIdeal.nD Cert.ExpertsCtxRefIdeal.τ Cert.ExpertsCtxRefIdeal.sig) → Buf (Elt Ideal) ℓ) (g' : Dev Cert.ExpertsCtxRefIdeal.nD → PrngReg), Pre_ExpertsCtxIdeal m →
    (∀ c : Dev Cert.ExpertsCtxIdeal.nD,
      m' ((c.tc : Thread Cert.ExpertsCtxRefIdeal.nD Cert.ExpertsCtxRefIdeal.τ).loc Cert.ExpertsCtxRefIdeal.main_arg0) = m ((c.tc : Thread Cert.ExpertsCtxIdeal.nD Cert.ExpertsCtxIdeal.τ).loc Cert.ExpertsCtxIdeal.main_arg0)
      ∧ m' ((c.tc : Thread Cert.ExpertsCtxRefIdeal.nD Cert.ExpertsCtxRefIdeal.τ).loc Cert.ExpertsCtxRefIdeal.main_arg1) = m ((c.tc : Thread Cert.ExpertsCtxIdeal.nD Cert.ExpertsCtxIdeal.τ).loc Cert.ExpertsCtxIdeal.main_arg1)
      ∧ m' ((c.tc : Thread Cert.ExpertsCtxRefIdeal.nD Cert.ExpertsCtxRefIdeal.τ).loc Cert.ExpertsCtxRefIdeal.main_arg2) = m ((c.tc : Thread Cert.ExpertsCtxIdeal.nD Cert.ExpertsCtxIdeal.τ).loc Cert.ExpertsCtxIdeal.main_arg2)
      ∧ m' ((c.tc : Thread Cert.ExpertsCtxRefIdeal.nD Cert.ExpertsCtxRefIdeal.τ).loc Cert.ExpertsCtxRefIdeal.main_arg3) = m ((c.tc : Thread Cert.ExpertsCtxIdeal.nD Cert.ExpertsCtxIdeal.τ).loc Cert.ExpertsCtxIdeal.main_arg3)
      ∧ m' ((c.tc : Thread Cert.ExpertsCtxRefIdeal.nD Cert.ExpertsCtxRefIdeal.τ).loc Cert.ExpertsCtxRefIdeal.main_arg4) = m ((c.tc : Thread Cert.ExpertsCtxIdeal.nD Cert.ExpertsCtxIdeal.τ).loc Cert.ExpertsCtxIdeal.main_arg4)) →
    ∃ (v0 : (c : Dev Cert.ExpertsCtxIdeal.nD) → Buf (Elt Ideal) ((c.tc : Thread Cert.ExpertsCtxIdeal.nD Cert.ExpertsCtxIdeal.τ).loc Cert.ExpertsCtxIdeal.main_v0)),
      θ_run (Cert.ExpertsCtxIdeal.defs (F := Ideal)) (onTc (τ := Cert.ExpertsCtxIdeal.τ) (Cert.ExpertsCtxIdeal.main (F := Ideal))) ⟨m, fun _ => 0, g⟩ (fun r => ∀ c : Dev Cert.ExpertsCtxIdeal.nD,
          (∀ i : (⟨3, ![17, 2560, 2048]⟩ : Shape).Idx, (Cert.On_chosen_rows.fn (F := Ideal) (m ((c.tc : Thread Cert.ExpertsCtxIdeal.nD Cert.ExpertsCtxIdeal.τ).loc Cert.ExpertsCtxIdeal.main_arg0)) (m ((c.tc : Thread Cert.ExpertsCtxIdeal.nD Cert.ExpertsCtxIdeal.τ).loc Cert.ExpertsCtxIdeal.main_arg1)) (m ((c.tc : Thread Cert.ExpertsCtxIdeal.nD Cert.ExpertsCtxIdeal.τ).loc Cert.ExpertsCtxIdeal.main_arg2)) (m ((c.tc : Thread Cert.ExpertsCtxIdeal.nD Cert.ExpertsCtxIdeal.τ).loc Cert.ExpertsCtxIdeal.main_arg3)) (m ((c.tc : Thread Cert.ExpertsCtxIdeal.nD Cert.ExpertsCtxIdeal.τ).loc Cert.ExpertsCtxIdeal.main_arg4))) i = 1#1 → r.2.mem ((c.tc : Thread Cert.ExpertsCtxIdeal.nD Cert.ExpertsCtxIdeal.τ).loc Cert.ExpertsCtxIdeal.main_v0) i = v0 c i)
          ∧ r.2.mem ((c.tc : Thread Cert.ExpertsCtxIdeal.nD Cert.ExpertsCtxIdeal.τ).loc Cert.ExpertsCtxIdeal.main_arg0) = m ((c.tc : Thread Cert.ExpertsCtxIdeal.nD Cert.ExpertsCtxIdeal.τ).loc Cert.ExpertsCtxIdeal.main_arg0)
          ∧ r.2.mem ((c.tc : Thread Cert.ExpertsCtxIdeal.nD Cert.ExpertsCtxIdeal.τ).loc Cert.ExpertsCtxIdeal.main_arg1) = m ((c.tc : Thread Cert.ExpertsCtxIdeal.nD Cert.ExpertsCtxIdeal.τ).loc Cert.ExpertsCtxIdeal.main_arg1)
          ∧ r.2.mem ((c.tc : Thread Cert.ExpertsCtxIdeal.nD Cert.ExpertsCtxIdeal.τ).loc Cert.ExpertsCtxIdeal.main_arg2) = m ((c.tc : Thread Cert.ExpertsCtxIdeal.nD Cert.ExpertsCtxIdeal.τ).loc Cert.ExpertsCtxIdeal.main_arg2)
          ∧ r.2.mem ((c.tc : Thread Cert.ExpertsCtxIdeal.nD Cert.ExpertsCtxIdeal.τ).loc Cert.ExpertsCtxIdeal.main_arg3) = m ((c.tc : Thread Cert.ExpertsCtxIdeal.nD Cert.ExpertsCtxIdeal.τ).loc Cert.ExpertsCtxIdeal.main_arg3)
          ∧ r.2.mem ((c.tc : Thread Cert.ExpertsCtxIdeal.nD Cert.ExpertsCtxIdeal.τ).loc Cert.ExpertsCtxIdeal.main_arg4) = m ((c.tc : Thread Cert.ExpertsCtxIdeal.nD Cert.ExpertsCtxIdeal.τ).loc Cert.ExpertsCtxIdeal.main_arg4))
      ∧ θ_run (Cert.ExpertsCtxRefIdeal.defs (F := Ideal)) (onTc (τ := Cert.ExpertsCtxRefIdeal.τ) (Cert.ExpertsCtxRefIdeal.main (F := Ideal))) ⟨m', fun _ => 0, g'⟩ (fun r => ∀ c : Dev Cert.ExpertsCtxRefIdeal.nD,
          (∀ i : (⟨3, ![17, 2560, 2048]⟩ : Shape).Idx, (Cert.On_chosen_rows.fn (F := Ideal) (m ((c.tc : Thread Cert.ExpertsCtxIdeal.nD Cert.ExpertsCtxIdeal.τ).loc Cert.ExpertsCtxIdeal.main_arg0)) (m ((c.tc : Thread Cert.ExpertsCtxIdeal.nD Cert.ExpertsCtxIdeal.τ).loc Cert.ExpertsCtxIdeal.main_arg1)) (m ((c.tc : Thread Cert.ExpertsCtxIdeal.nD Cert.ExpertsCtxIdeal.τ).loc Cert.ExpertsCtxIdeal.main_arg2)) (m ((c.tc : Thread Cert.ExpertsCtxIdeal.nD Cert.ExpertsCtxIdeal.τ).loc Cert.ExpertsCtxIdeal.main_arg3)) (m ((c.tc : Thread Cert.ExpertsCtxIdeal.nD Cert.ExpertsCtxIdeal.τ).loc Cert.ExpertsCtxIdeal.main_arg4))) i = 1#1 → r.2.mem ((c.tc : Thread Cert.ExpertsCtxRefIdeal.nD Cert.ExpertsCtxRefIdeal.τ).loc Cert.ExpertsCtxRefIdeal.main_v20) i = v0 c i)
          ∧ r.2.mem ((c.tc : Thread Cert.ExpertsCtxRefIdeal.nD Cert.ExpertsCtxRefIdeal.τ).loc Cert.ExpertsCtxRefIdeal.main_arg0) = m' ((c.tc : Thread Cert.ExpertsCtxRefIdeal.nD Cert.ExpertsCtxRefIdeal.τ).loc Cert.ExpertsCtxRefIdeal.main_arg0)
          ∧ r.2.mem ((c.tc : Thread Cert.ExpertsCtxRefIdeal.nD Cert.ExpertsCtxRefIdeal.τ).loc Cert.ExpertsCtxRefIdeal.main_arg1) = m' ((c.tc : Thread Cert.ExpertsCtxRefIdeal.nD Cert.ExpertsCtxRefIdeal.τ).loc Cert.ExpertsCtxRefIdeal.main_arg1)
          ∧ r.2.mem ((c.tc : Thread Cert.ExpertsCtxRefIdeal.nD Cert.ExpertsCtxRefIdeal.τ).loc Cert.ExpertsCtxRefIdeal.main_arg2) = m' ((c.tc : Thread Cert.ExpertsCtxRefIdeal.nD Cert.ExpertsCtxRefIdeal.τ).loc Cert.ExpertsCtxRefIdeal.main_arg2)
          ∧ r.2.mem ((c.tc : Thread Cert.ExpertsCtxRefIdeal.nD Cert.ExpertsCtxRefIdeal.τ).loc Cert.ExpertsCtxRefIdeal.main_arg3) = m' ((c.tc : Thread Cert.ExpertsCtxRefIdeal.nD Cert.ExpertsCtxRefIdeal.τ).loc Cert.ExpertsCtxRefIdeal.main_arg3)
          ∧ r.2.mem ((c.tc : Thread Cert.ExpertsCtxRefIdeal.nD Cert.ExpertsCtxRefIdeal.τ).loc Cert.ExpertsCtxRefIdeal.main_arg4) = m' ((c.tc : Thread Cert.ExpertsCtxRefIdeal.nD Cert.ExpertsCtxRefIdeal.τ).loc Cert.ExpertsCtxRefIdeal.main_arg4))

def preserves_ConvIn_ConvInIdeal : Prop :=
  True

def algebraic_ConvInIdeal_ConvInRefIdeal_on_token_rows [hConvInIdeal : Cert.ConvInIdeal.Facts] [hConvInRefIdeal : Cert.ConvInRefIdeal.Facts] [hOn_token_rows : Cert.On_token_rows.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v2_0)) (v1 : (c : Dev Cert.ConvInIdeal.nD) → Buf (Elt Ideal) ((c.tc : Thread Cert.ConvInIdeal.nD Cert.ConvInIdeal.τ).loc Cert.ConvInIdeal.main_v2_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          (∀ i : (⟨2, ![20480, 2048]⟩ : Shape).Idx, (Cert.On_token_rows.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3))).1 i = 1#1 → r.2.mem ((c.tc : Thread Cert.ConvInIdeal.nD Cert.ConvInIdeal.τ).loc Cert.ConvInIdeal.main_v2_0) i = v0 c i)
          ∧ (∀ i : (⟨2, ![20480, 2048]⟩ : Shape).Idx, (Cert.On_token_rows.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3))).2 i = 1#1 → r.2.mem ((c.tc : Thread Cert.ConvInIdeal.nD Cert.ConvInIdeal.τ).loc Cert.ConvInIdeal.main_v2_1) i = v1 c i)
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          (∀ i : (⟨2, ![20480, 2048]⟩ : Shape).Idx, (Cert.On_token_rows.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3))).1 i = 1#1 → r.2.mem ((c.tc : Thread Cert.ConvInRefIdeal.nD Cert.ConvInRefIdeal.τ).loc Cert.ConvInRefIdeal.main_v56) i = v0 c i)
          ∧ (∀ i : (⟨2, ![20480, 2048]⟩ : Shape).Idx, (Cert.On_token_rows.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3))).2 i = 1#1 → r.2.mem ((c.tc : Thread Cert.ConvInRefIdeal.nD Cert.ConvInRefIdeal.τ).loc Cert.ConvInRefIdeal.main_v59) i = v1 c i)
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3))

def preserves_ConvLast_ConvLastIdeal : Prop :=
  True

def algebraic_ConvLastIdeal_ConvLastRefIdeal_on_latent_row_pairs [hConvLastIdeal : Cert.ConvLastIdeal.Facts] [hConvLastRefIdeal : Cert.ConvLastRefIdeal.Facts] [hOn_latent_row_pairs : Cert.On_latent_row_pairs.Facts] : Prop :=
  ∀ (m : (ℓ : Loc Cert.ConvLastIdeal.nD Cert.ConvLastIdeal.τ Cert.ConvLastIdeal.sig) → Buf (Elt Ideal) ℓ) (g : Dev Cert.ConvLastIdeal.nD → PrngReg)
    (m' : (ℓ : Loc Cert.ConvLastRefIdeal.nD Cert.ConvLastRefIdeal.τ Cert.ConvLastRefIdeal.sig) → Buf (Elt Ideal) ℓ) (g' : Dev Cert.ConvLastRefIdeal.nD → PrngReg), Pre_ConvLastIdeal m →
    (∀ c : Dev Cert.ConvLastIdeal.nD,
      m' ((c.tc : Thread Cert.ConvLastRefIdeal.nD Cert.ConvLastRefIdeal.τ).loc Cert.ConvLastRefIdeal.main_arg0) = m ((c.tc : Thread Cert.ConvLastIdeal.nD Cert.ConvLastIdeal.τ).loc Cert.ConvLastIdeal.main_arg0)
      ∧ m' ((c.tc : Thread Cert.ConvLastRefIdeal.nD Cert.ConvLastRefIdeal.τ).loc Cert.ConvLastRefIdeal.main_arg1) = m ((c.tc : Thread Cert.ConvLastIdeal.nD Cert.ConvLastIdeal.τ).loc Cert.ConvLastIdeal.main_arg1)
      ∧ m' ((c.tc : Thread Cert.ConvLastRefIdeal.nD Cert.ConvLastRefIdeal.τ).loc Cert.ConvLastRefIdeal.main_arg2) = m ((c.tc : Thread Cert.ConvLastIdeal.nD Cert.ConvLastIdeal.τ).loc Cert.ConvLastIdeal.main_arg2)
      ∧ m' ((c.tc : Thread Cert.ConvLastRefIdeal.nD Cert.ConvLastRefIdeal.τ).loc Cert.ConvLastRefIdeal.main_arg3) = m ((c.tc : Thread Cert.ConvLastIdeal.nD Cert.ConvLastIdeal.τ).loc Cert.ConvLastIdeal.main_arg3)) →
    ∃ (v0 : (c : Dev Cert.ConvLastIdeal.nD) → Buf (Elt Ideal) ((c.tc : Thread Cert.ConvLastIdeal.nD Cert.ConvLastIdeal.τ).loc Cert.ConvLastIdeal.main_v2_0)) (v1 : (c : Dev Cert.ConvLastIdeal.nD) → Buf (Elt Ideal) ((c.tc : Thread Cert.ConvLastIdeal.nD Cert.ConvLastIdeal.τ).loc Cert.ConvLastIdeal.main_v2_1)),
      θ_run (Cert.ConvLastIdeal.defs (F := Ideal)) (onTc (τ := Cert.ConvLastIdeal.τ) (Cert.ConvLastIdeal.main (F := Ideal))) ⟨m, fun _ => 0, g⟩ (fun r => ∀ c : Dev Cert.ConvLastIdeal.nD,
          (∀ i : (⟨2, ![20480, 2048]⟩ : Shape).Idx, (Cert.On_latent_row_pairs.fn (F := Ideal) (m ((c.tc : Thread Cert.ConvLastIdeal.nD Cert.ConvLastIdeal.τ).loc Cert.ConvLastIdeal.main_arg0)) (m ((c.tc : Thread Cert.ConvLastIdeal.nD Cert.ConvLastIdeal.τ).loc Cert.ConvLastIdeal.main_arg1)) (m ((c.tc : Thread Cert.ConvLastIdeal.nD Cert.ConvLastIdeal.τ).loc Cert.ConvLastIdeal.main_arg2)) (m ((c.tc : Thread Cert.ConvLastIdeal.nD Cert.ConvLastIdeal.τ).loc Cert.ConvLastIdeal.main_arg3))).1 i = 1#1 → r.2.mem ((c.tc : Thread Cert.ConvLastIdeal.nD Cert.ConvLastIdeal.τ).loc Cert.ConvLastIdeal.main_v2_0) i = v0 c i)
          ∧ (∀ i : (⟨2, ![20480, 2048]⟩ : Shape).Idx, (Cert.On_latent_row_pairs.fn (F := Ideal) (m ((c.tc : Thread Cert.ConvLastIdeal.nD Cert.ConvLastIdeal.τ).loc Cert.ConvLastIdeal.main_arg0)) (m ((c.tc : Thread Cert.ConvLastIdeal.nD Cert.ConvLastIdeal.τ).loc Cert.ConvLastIdeal.main_arg1)) (m ((c.tc : Thread Cert.ConvLastIdeal.nD Cert.ConvLastIdeal.τ).loc Cert.ConvLastIdeal.main_arg2)) (m ((c.tc : Thread Cert.ConvLastIdeal.nD Cert.ConvLastIdeal.τ).loc Cert.ConvLastIdeal.main_arg3))).2 i = 1#1 → r.2.mem ((c.tc : Thread Cert.ConvLastIdeal.nD Cert.ConvLastIdeal.τ).loc Cert.ConvLastIdeal.main_v2_1) i = v1 c i)
          ∧ r.2.mem ((c.tc : Thread Cert.ConvLastIdeal.nD Cert.ConvLastIdeal.τ).loc Cert.ConvLastIdeal.main_arg0) = m ((c.tc : Thread Cert.ConvLastIdeal.nD Cert.ConvLastIdeal.τ).loc Cert.ConvLastIdeal.main_arg0)
          ∧ r.2.mem ((c.tc : Thread Cert.ConvLastIdeal.nD Cert.ConvLastIdeal.τ).loc Cert.ConvLastIdeal.main_arg1) = m ((c.tc : Thread Cert.ConvLastIdeal.nD Cert.ConvLastIdeal.τ).loc Cert.ConvLastIdeal.main_arg1)
          ∧ r.2.mem ((c.tc : Thread Cert.ConvLastIdeal.nD Cert.ConvLastIdeal.τ).loc Cert.ConvLastIdeal.main_arg2) = m ((c.tc : Thread Cert.ConvLastIdeal.nD Cert.ConvLastIdeal.τ).loc Cert.ConvLastIdeal.main_arg2)
          ∧ r.2.mem ((c.tc : Thread Cert.ConvLastIdeal.nD Cert.ConvLastIdeal.τ).loc Cert.ConvLastIdeal.main_arg3) = m ((c.tc : Thread Cert.ConvLastIdeal.nD Cert.ConvLastIdeal.τ).loc Cert.ConvLastIdeal.main_arg3))
      ∧ θ_run (Cert.ConvLastRefIdeal.defs (F := Ideal)) (onTc (τ := Cert.ConvLastRefIdeal.τ) (Cert.ConvLastRefIdeal.main (F := Ideal))) ⟨m', fun _ => 0, g'⟩ (fun r => ∀ c : Dev Cert.ConvLastRefIdeal.nD,
          (∀ i : (⟨2, ![20480, 2048]⟩ : Shape).Idx, (Cert.On_latent_row_pairs.fn (F := Ideal) (m ((c.tc : Thread Cert.ConvLastIdeal.nD Cert.ConvLastIdeal.τ).loc Cert.ConvLastIdeal.main_arg0)) (m ((c.tc : Thread Cert.ConvLastIdeal.nD Cert.ConvLastIdeal.τ).loc Cert.ConvLastIdeal.main_arg1)) (m ((c.tc : Thread Cert.ConvLastIdeal.nD Cert.ConvLastIdeal.τ).loc Cert.ConvLastIdeal.main_arg2)) (m ((c.tc : Thread Cert.ConvLastIdeal.nD Cert.ConvLastIdeal.τ).loc Cert.ConvLastIdeal.main_arg3))).1 i = 1#1 → r.2.mem ((c.tc : Thread Cert.ConvLastRefIdeal.nD Cert.ConvLastRefIdeal.τ).loc Cert.ConvLastRefIdeal.main_v31) i = v0 c i)
          ∧ (∀ i : (⟨2, ![20480, 2048]⟩ : Shape).Idx, (Cert.On_latent_row_pairs.fn (F := Ideal) (m ((c.tc : Thread Cert.ConvLastIdeal.nD Cert.ConvLastIdeal.τ).loc Cert.ConvLastIdeal.main_arg0)) (m ((c.tc : Thread Cert.ConvLastIdeal.nD Cert.ConvLastIdeal.τ).loc Cert.ConvLastIdeal.main_arg1)) (m ((c.tc : Thread Cert.ConvLastIdeal.nD Cert.ConvLastIdeal.τ).loc Cert.ConvLastIdeal.main_arg2)) (m ((c.tc : Thread Cert.ConvLastIdeal.nD Cert.ConvLastIdeal.τ).loc Cert.ConvLastIdeal.main_arg3))).2 i = 1#1 → r.2.mem ((c.tc : Thread Cert.ConvLastRefIdeal.nD Cert.ConvLastRefIdeal.τ).loc Cert.ConvLastRefIdeal.main_v34) i = v1 c i)
          ∧ r.2.mem ((c.tc : Thread Cert.ConvLastRefIdeal.nD Cert.ConvLastRefIdeal.τ).loc Cert.ConvLastRefIdeal.main_arg0) = m' ((c.tc : Thread Cert.ConvLastRefIdeal.nD Cert.ConvLastRefIdeal.τ).loc Cert.ConvLastRefIdeal.main_arg0)
          ∧ r.2.mem ((c.tc : Thread Cert.ConvLastRefIdeal.nD Cert.ConvLastRefIdeal.τ).loc Cert.ConvLastRefIdeal.main_arg1) = m' ((c.tc : Thread Cert.ConvLastRefIdeal.nD Cert.ConvLastRefIdeal.τ).loc Cert.ConvLastRefIdeal.main_arg1)
          ∧ r.2.mem ((c.tc : Thread Cert.ConvLastRefIdeal.nD Cert.ConvLastRefIdeal.τ).loc Cert.ConvLastRefIdeal.main_arg2) = m' ((c.tc : Thread Cert.ConvLastRefIdeal.nD Cert.ConvLastRefIdeal.τ).loc Cert.ConvLastRefIdeal.main_arg2)
          ∧ r.2.mem ((c.tc : Thread Cert.ConvLastRefIdeal.nD Cert.ConvLastRefIdeal.τ).loc Cert.ConvLastRefIdeal.main_arg3) = m' ((c.tc : Thread Cert.ConvLastRefIdeal.nD Cert.ConvLastRefIdeal.τ).loc Cert.ConvLastRefIdeal.main_arg3))

def preserves_ScanIn_ScanInIdeal : Prop :=
  True

def algebraic_ScanInIdeal_ScanInRefIdeal_on_scan_rows [hScanInIdeal : Cert.ScanInIdeal.Facts] [hScanInRefIdeal : Cert.ScanInRefIdeal.Facts] [hOn_scan_rows : Cert.On_scan_rows.Facts] : Prop :=
  ∀ (m : (ℓ : Loc Cert.ScanInIdeal.nD Cert.ScanInIdeal.τ Cert.ScanInIdeal.sig) → Buf (Elt Ideal) ℓ) (g : Dev Cert.ScanInIdeal.nD → PrngReg)
    (m' : (ℓ : Loc Cert.ScanInRefIdeal.nD Cert.ScanInRefIdeal.τ Cert.ScanInRefIdeal.sig) → Buf (Elt Ideal) ℓ) (g' : Dev Cert.ScanInRefIdeal.nD → PrngReg), Pre_ScanInIdeal m →
    (∀ c : Dev Cert.ScanInIdeal.nD,
      m' ((c.tc : Thread Cert.ScanInRefIdeal.nD Cert.ScanInRefIdeal.τ).loc Cert.ScanInRefIdeal.main_arg0) = m ((c.tc : Thread Cert.ScanInIdeal.nD Cert.ScanInIdeal.τ).loc Cert.ScanInIdeal.main_arg0)
      ∧ m' ((c.tc : Thread Cert.ScanInRefIdeal.nD Cert.ScanInRefIdeal.τ).loc Cert.ScanInRefIdeal.main_arg1) = m ((c.tc : Thread Cert.ScanInIdeal.nD Cert.ScanInIdeal.τ).loc Cert.ScanInIdeal.main_arg1)
      ∧ m' ((c.tc : Thread Cert.ScanInRefIdeal.nD Cert.ScanInRefIdeal.τ).loc Cert.ScanInRefIdeal.main_arg2) = m ((c.tc : Thread Cert.ScanInIdeal.nD Cert.ScanInIdeal.τ).loc Cert.ScanInIdeal.main_arg2)
      ∧ m' ((c.tc : Thread Cert.ScanInRefIdeal.nD Cert.ScanInRefIdeal.τ).loc Cert.ScanInRefIdeal.main_arg3) = m ((c.tc : Thread Cert.ScanInIdeal.nD Cert.ScanInIdeal.τ).loc Cert.ScanInIdeal.main_arg3)) →
    ∃ (v0 : (c : Dev Cert.ScanInIdeal.nD) → Buf (Elt Ideal) ((c.tc : Thread Cert.ScanInIdeal.nD Cert.ScanInIdeal.τ).loc Cert.ScanInIdeal.main_v2)),
      θ_run (Cert.ScanInIdeal.defs (F := Ideal)) (onTc (τ := Cert.ScanInIdeal.τ) (Cert.ScanInIdeal.main (F := Ideal))) ⟨m, fun _ => 0, g⟩ (fun r => ∀ c : Dev Cert.ScanInIdeal.nD,
          (∀ i : (⟨2, ![20480, 2048]⟩ : Shape).Idx, (Cert.On_scan_rows.fn (F := Ideal) (m ((c.tc : Thread Cert.ScanInIdeal.nD Cert.ScanInIdeal.τ).loc Cert.ScanInIdeal.main_arg0)) (m ((c.tc : Thread Cert.ScanInIdeal.nD Cert.ScanInIdeal.τ).loc Cert.ScanInIdeal.main_arg1)) (m ((c.tc : Thread Cert.ScanInIdeal.nD Cert.ScanInIdeal.τ).loc Cert.ScanInIdeal.main_arg2)) (m ((c.tc : Thread Cert.ScanInIdeal.nD Cert.ScanInIdeal.τ).loc Cert.ScanInIdeal.main_arg3))) i = 1#1 → r.2.mem ((c.tc : Thread Cert.ScanInIdeal.nD Cert.ScanInIdeal.τ).loc Cert.ScanInIdeal.main_v2) i = v0 c i)
          ∧ r.2.mem ((c.tc : Thread Cert.ScanInIdeal.nD Cert.ScanInIdeal.τ).loc Cert.ScanInIdeal.main_arg0) = m ((c.tc : Thread Cert.ScanInIdeal.nD Cert.ScanInIdeal.τ).loc Cert.ScanInIdeal.main_arg0)
          ∧ r.2.mem ((c.tc : Thread Cert.ScanInIdeal.nD Cert.ScanInIdeal.τ).loc Cert.ScanInIdeal.main_arg1) = m ((c.tc : Thread Cert.ScanInIdeal.nD Cert.ScanInIdeal.τ).loc Cert.ScanInIdeal.main_arg1)
          ∧ r.2.mem ((c.tc : Thread Cert.ScanInIdeal.nD Cert.ScanInIdeal.τ).loc Cert.ScanInIdeal.main_arg2) = m ((c.tc : Thread Cert.ScanInIdeal.nD Cert.ScanInIdeal.τ).loc Cert.ScanInIdeal.main_arg2)
          ∧ r.2.mem ((c.tc : Thread Cert.ScanInIdeal.nD Cert.ScanInIdeal.τ).loc Cert.ScanInIdeal.main_arg3) = m ((c.tc : Thread Cert.ScanInIdeal.nD Cert.ScanInIdeal.τ).loc Cert.ScanInIdeal.main_arg3))
      ∧ θ_run (Cert.ScanInRefIdeal.defs (F := Ideal)) (onTc (τ := Cert.ScanInRefIdeal.τ) (Cert.ScanInRefIdeal.main (F := Ideal))) ⟨m', fun _ => 0, g'⟩ (fun r => ∀ c : Dev Cert.ScanInRefIdeal.nD,
          (∀ i : (⟨2, ![20480, 2048]⟩ : Shape).Idx, (Cert.On_scan_rows.fn (F := Ideal) (m ((c.tc : Thread Cert.ScanInIdeal.nD Cert.ScanInIdeal.τ).loc Cert.ScanInIdeal.main_arg0)) (m ((c.tc : Thread Cert.ScanInIdeal.nD Cert.ScanInIdeal.τ).loc Cert.ScanInIdeal.main_arg1)) (m ((c.tc : Thread Cert.ScanInIdeal.nD Cert.ScanInIdeal.τ).loc Cert.ScanInIdeal.main_arg2)) (m ((c.tc : Thread Cert.ScanInIdeal.nD Cert.ScanInIdeal.τ).loc Cert.ScanInIdeal.main_arg3))) i = 1#1 → r.2.mem ((c.tc : Thread Cert.ScanInRefIdeal.nD Cert.ScanInRefIdeal.τ).loc Cert.ScanInRefIdeal.main_v52) i = v0 c i)
          ∧ r.2.mem ((c.tc : Thread Cert.ScanInRefIdeal.nD Cert.ScanInRefIdeal.τ).loc Cert.ScanInRefIdeal.main_arg0) = m' ((c.tc : Thread Cert.ScanInRefIdeal.nD Cert.ScanInRefIdeal.τ).loc Cert.ScanInRefIdeal.main_arg0)
          ∧ r.2.mem ((c.tc : Thread Cert.ScanInRefIdeal.nD Cert.ScanInRefIdeal.τ).loc Cert.ScanInRefIdeal.main_arg1) = m' ((c.tc : Thread Cert.ScanInRefIdeal.nD Cert.ScanInRefIdeal.τ).loc Cert.ScanInRefIdeal.main_arg1)
          ∧ r.2.mem ((c.tc : Thread Cert.ScanInRefIdeal.nD Cert.ScanInRefIdeal.τ).loc Cert.ScanInRefIdeal.main_arg2) = m' ((c.tc : Thread Cert.ScanInRefIdeal.nD Cert.ScanInRefIdeal.τ).loc Cert.ScanInRefIdeal.main_arg2)
          ∧ r.2.mem ((c.tc : Thread Cert.ScanInRefIdeal.nD Cert.ScanInRefIdeal.τ).loc Cert.ScanInRefIdeal.main_arg3) = m' ((c.tc : Thread Cert.ScanInRefIdeal.nD Cert.ScanInRefIdeal.τ).loc Cert.ScanInRefIdeal.main_arg3))

def preserves_Glu_GluIdeal : Prop :=
  True

def algebraic_GluIdeal_GluRefIdeal_on_glu_rows [hGluIdeal : Cert.GluIdeal.Facts] [hGluRefIdeal : Cert.GluRefIdeal.Facts] [hOn_glu_rows : Cert.On_glu_rows.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          (∀ i : (⟨2, ![20480, 2048]⟩ : Shape).Idx, (Cert.On_glu_rows.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))) i = 1#1 → r.2.mem ((c.tc : Thread Cert.GluIdeal.nD Cert.GluIdeal.τ).loc Cert.GluIdeal.main_v1) i = v0 c i)
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          (∀ i : (⟨2, ![20480, 2048]⟩ : Shape).Idx, (Cert.On_glu_rows.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))) i = 1#1 → r.2.mem ((c.tc : Thread Cert.GluRefIdeal.nD Cert.GluRefIdeal.τ).loc Cert.GluRefIdeal.main_v22) i = v0 c i)
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_AttnOut_AttnOutIdeal : Prop :=
  True

def algebraic_AttnOutIdeal_AttnOutRefIdeal_on_out_rows [hAttnOutIdeal : Cert.AttnOutIdeal.Facts] [hAttnOutRefIdeal : Cert.AttnOutRefIdeal.Facts] [hOn_out_rows : Cert.On_out_rows.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          (∀ i : (⟨2, ![20480, 2048]⟩ : Shape).Idx, (Cert.On_out_rows.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))) i = 1#1 → r.2.mem ((c.tc : Thread Cert.AttnOutIdeal.nD Cert.AttnOutIdeal.τ).loc Cert.AttnOutIdeal.main_v1) i = v0 c i)
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          (∀ i : (⟨2, ![20480, 2048]⟩ : Shape).Idx, (Cert.On_out_rows.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))) i = 1#1 → r.2.mem ((c.tc : Thread Cert.AttnOutRefIdeal.nD Cert.AttnOutRefIdeal.τ).loc Cert.AttnOutRefIdeal.main_v12) i = v0 c i)
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hExpertsCtx : Cert.ExpertsCtx.Facts) (hExpertsCtxIdeal : Cert.ExpertsCtxIdeal.Facts) (hExpertsCtxRefIdeal : Cert.ExpertsCtxRefIdeal.Facts) (hConvIn : Cert.ConvIn.Facts) (hConvInIdeal : Cert.ConvInIdeal.Facts) (hConvInRefIdeal : Cert.ConvInRefIdeal.Facts) (hConvLast : Cert.ConvLast.Facts) (hConvLastIdeal : Cert.ConvLastIdeal.Facts) (hConvLastRefIdeal : Cert.ConvLastRefIdeal.Facts) (hScanIn : Cert.ScanIn.Facts) (hScanInIdeal : Cert.ScanInIdeal.Facts) (hScanInRefIdeal : Cert.ScanInRefIdeal.Facts) (hGlu : Cert.Glu.Facts) (hGluIdeal : Cert.GluIdeal.Facts) (hGluRefIdeal : Cert.GluRefIdeal.Facts) (hAttnOut : Cert.AttnOut.Facts) (hAttnOutIdeal : Cert.AttnOutIdeal.Facts) (hAttnOutRefIdeal : Cert.AttnOutRefIdeal.Facts) (hPre_finite : Cert.Pre_finite.Facts) (hOn_latent_rows : Cert.On_latent_rows.Facts) (hOn_chosen_rows : Cert.On_chosen_rows.Facts) (hOn_token_rows : Cert.On_token_rows.Facts) (hOn_latent_row_pairs : Cert.On_latent_row_pairs.Facts) (hOn_scan_rows : Cert.On_scan_rows.Facts) (hOn_glu_rows : Cert.On_glu_rows.Facts) (hOn_out_rows : Cert.On_out_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_ExpertsCtx (hExpertsCtx := hExpertsCtx)
    ∧ quiescent_ExpertsCtxIdeal (hExpertsCtxIdeal := hExpertsCtxIdeal)
    ∧ quiescent_ExpertsCtxRefIdeal (hExpertsCtxRefIdeal := hExpertsCtxRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvLast (hConvLast := hConvLast)
    ∧ quiescent_ConvLastIdeal (hConvLastIdeal := hConvLastIdeal)
    ∧ quiescent_ConvLastRefIdeal (hConvLastRefIdeal := hConvLastRefIdeal)
    ∧ quiescent_ScanIn (hScanIn := hScanIn)
    ∧ quiescent_ScanInIdeal (hScanInIdeal := hScanInIdeal)
    ∧ quiescent_ScanInRefIdeal (hScanInRefIdeal := hScanInRefIdeal)
    ∧ quiescent_Glu (hGlu := hGlu)
    ∧ quiescent_GluIdeal (hGluIdeal := hGluIdeal)
    ∧ quiescent_GluRefIdeal (hGluRefIdeal := hGluRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_Experts_ExpertsIdeal
    ∧ algebraic_ExpertsIdeal_ExpertsRefIdeal (hExpertsIdeal := hExpertsIdeal) (hExpertsRefIdeal := hExpertsRefIdeal)
    ∧ preserves_ExpertsCtx_ExpertsCtxIdeal
    ∧ algebraic_ExpertsCtxIdeal_ExpertsCtxRefIdeal_on_chosen_rows (hExpertsCtxIdeal := hExpertsCtxIdeal) (hExpertsCtxRefIdeal := hExpertsCtxRefIdeal) (hOn_chosen_rows := hOn_chosen_rows)
    ∧ preserves_ConvIn_ConvInIdeal
    ∧ algebraic_ConvInIdeal_ConvInRefIdeal_on_token_rows (hConvInIdeal := hConvInIdeal) (hConvInRefIdeal := hConvInRefIdeal) (hOn_token_rows := hOn_token_rows)
    ∧ preserves_ConvLast_ConvLastIdeal
    ∧ algebraic_ConvLastIdeal_ConvLastRefIdeal_on_latent_row_pairs (hConvLastIdeal := hConvLastIdeal) (hConvLastRefIdeal := hConvLastRefIdeal) (hOn_latent_row_pairs := hOn_latent_row_pairs)
    ∧ preserves_ScanIn_ScanInIdeal
    ∧ algebraic_ScanInIdeal_ScanInRefIdeal_on_scan_rows (hScanInIdeal := hScanInIdeal) (hScanInRefIdeal := hScanInRefIdeal) (hOn_scan_rows := hOn_scan_rows)
    ∧ preserves_Glu_GluIdeal
    ∧ algebraic_GluIdeal_GluRefIdeal_on_glu_rows (hGluIdeal := hGluIdeal) (hGluRefIdeal := hGluRefIdeal) (hOn_glu_rows := hOn_glu_rows)
    ∧ preserves_AttnOut_AttnOutIdeal
    ∧ algebraic_AttnOutIdeal_AttnOutRefIdeal_on_out_rows (hAttnOutIdeal := hAttnOutIdeal) (hAttnOutRefIdeal := hAttnOutRefIdeal) (hOn_out_rows := hOn_out_rows)
-- ==== On_chosen_rows.lean ====
abbrev S16x2560x1024 : Shape := ⟨3, ![16, 2560, 1024]⟩
abbrev S16x2560x1 : Shape := ⟨3, ![16, 2560, 1]⟩
abbrev S4x16x2048x1024 : Shape := ⟨4, ![4, 16, 2048, 1024]⟩
abbrev S4x16x1024x2048 : Shape := ⟨4, ![4, 16, 1024, 2048]⟩
abbrev S17x2560x2048 : Shape := ⟨3, ![17, 2560, 2048]⟩
abbrev S_ : Shape := ⟨0, ![]⟩

class Facts : Prop where
  bcast_S_S17x2560x2048 : S_.BroadcastsInDim S17x2560x2048 (![] : Fin 0 → Fin S17x2560x2048.rank)

variable [Facts]

def fn {F : FTy → Type} [FloatOps F] (main_arg0 : IVec S16x2560x1024 32) (main_arg1 : FVec F S16x2560x1 .f32) (main_arg2 : FVec F S4x16x2048x1024 .f32) (main_arg3 : FVec F S4x16x2048x1024 .f32) (main_arg4 : FVec F S4x16x1024x2048 .f32) : IVec S17x2560x2048 1 :=
  let main_v0 : IVec S17x2560x2048 32 := iotaInDim S17x2560x2048 32 1
  let main_c : IVec S_ 32 := constantI S_ 32 2176#32
  let main_v1 : IVec S17x2560x2048 32 := broadcastInDim S17x2560x2048 ![] bcast_S_S17x2560x2048 main_c
  let main_v2 : IVec S17x2560x2048 1 := cmpi .slt main_v0 main_v1
  main_v2
-- ==== On_glu_rows.lean ====
abbrev S20480x2048 : Shape := ⟨2, ![20480, 2048]⟩
abbrev S4x8x6x1x2048 : Shape := ⟨5, ![4, 8, 6, 1, 2048]⟩
abbrev S2048x4096 : Shape := ⟨2, ![2048, 4096]⟩
abbrev S_ : Shape := ⟨0, ![]⟩

class Facts : Prop where
  bcast_S_S20480x2048 : S_.BroadcastsInDim S20480x2048 (![] : Fin 0 → Fin S20480x2048.rank)

variable [Facts]

def fn {F : FTy → Type} [FloatOps F] (main_arg0 : FVec F S20480x2048 .f32) (main_arg1 : FVec F S20480x2048 .f32) (main_arg2 : FVec F S4x8x6x1x2048 .f32) (main_arg3 : FVec F S2048x4096 .f32) : IVec S20480x2048 1 :=
  let main_v0 : IVec S20480x2048 32 := iotaInDim S20480x2048 32 0
  let main_c : IVec S_ 32 := constantI S_ 32 17408#32
  let main_v1 : IVec S20480x2048 32 := broadcastInDim S20480x2048 ![] bcast_S_S20480x2048 main_c
  let main_v2 : IVec S20480x2048 1 := cmpi .slt main_v0 main_v1
  main_v2
-- ==== On_latent_row_pairs.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x6144 : Shape := ⟨2, ![2048, 6144]⟩
abbrev S_ : Shape := ⟨0, ![]⟩

class Facts : Prop where
  bcast_S_S20480x2048 : S_.BroadcastsInDim S20480x2048 (![] : Fin 0 → Fin S20480x2048.rank)

variable [Facts]

def fn {F : FTy → Type} [FloatOps F] (main_arg0 : FVec F S20480x2048 .f32) (main_arg1 : FVec F S2048 .f32) (main_arg2 : FVec F S4x8x6x1x2048 .f32) (main_arg3 : FVec F S2048x6144 .f32) : IVec S20480x2048 1 × IVec S20480x2048 1 :=
  let main_v0 : IVec S20480x2048 32 := iotaInDim S20480x2048 32 0
  let main_c : IVec S_ 32 := constantI S_ 32 16384#32
  let main_v1 : IVec S20480x2048 32 := broadcastInDim S20480x2048 ![] bcast_S_S20480x2048 main_c
  let main_v2 : IVec S20480x2048 1 := cmpi .slt main_v0 main_v1
  (main_v2, main_v2)
-- ==== On_latent_rows.lean ====
abbrev S20480x2048 : Shape := ⟨2, ![20480, 2048]⟩
abbrev S4x64 : Shape := ⟨2, ![4, 64]⟩
abbrev S128 : Shape := ⟨1, ![128]⟩
abbrev S_ : Shape := ⟨0, ![]⟩

class Facts : Prop where
  bcast_S_S20480x2048 : S_.BroadcastsInDim S20480x2048 (![] : Fin 0 → Fin S20480x2048.rank)

variable [Facts]

def fn {F : FTy → Type} [FloatOps F] (main_arg0 : FVec F S20480x2048 .bf16) (main_arg1 : FVec F S20480x2048 .bf16) (main_arg2 : FVec F S20480x2048 .bf16) (main_arg3 : FVec F S4x64 .f32) (main_arg4 : FVec F S128 .f32) : IVec S20480x2048 1 :=
  let main_v0 : IVec S20480x2048 32 := iotaInDim S20480x2048 32 0
  let main_c : IVec S_ 32 := constantI S_ 32 16384#32
  let main_v1 : IVec S20480x2048 32 := broadcastInDim S20480x2048 ![] bcast_S_S20480x2048 main_c
  let main_v2 : IVec S20480x2048 1 := cmpi .slt main_v0 main_v1
  main_v2
-- ==== On_out_rows.lean ====
abbrev S20480x2048 : Shape := ⟨2, ![20480, 2048]⟩
abbrev S4x8x6x1x2048 : Shape := ⟨5, ![4, 8, 6, 1, 2048]⟩
abbrev S2048x2048 : Shape := ⟨2, ![2048, 2048]⟩
abbrev S_ : Shape := ⟨0, ![]⟩

class Facts : Prop where
  bcast_S_S20480x2048 : S_.BroadcastsInDim S20480x2048 (![] : Fin 0 → Fin S20480x2048.rank)

variable [Facts]

def fn {F : FTy → Type} [FloatOps F] (main_arg0 : FVec F S20480x2048 .bf16) (main_arg1 : FVec F S20480x2048 .f32) (main_arg2 : FVec F S4x8x6x1x2048 .f32) (main_arg3 : FVec F S2048x2048 .f32) : IVec S20480x2048 1 :=
  let main_v0 : IVec S20480x2048 32 := iotaInDim S20480x2048 32 0
  let main_c : IVec S_ 32 := constantI S_ 32 16384#32
  let main_v1 : IVec S20480x2048 32 := broadcastInDim S20480x2048 ![] bcast_S_S20480x2048 main_c
  let main_v2 : IVec S20480x2048 1 := cmpi .slt main_v0 main_v1
  main_v2
-- ==== On_scan_rows.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x2048 : Shape := ⟨2, ![2048, 2048]⟩
abbrev S_ : Shape := ⟨0, ![]⟩

class Facts : Prop where
  bcast_S_S20480x2048 : S_.BroadcastsInDim S20480x2048 (![] : Fin 0 → Fin S20480x2048.rank)

variable [Facts]

def fn {F : FTy → Type} [FloatOps F] (main_arg0 : FVec F S20480x2048 .f32) (main_arg1 : FVec F S2048 .f32) (main_arg2 : FVec F S4x8x6x1x2048 .f32) (main_arg3 : FVec F S2048x2048 .f32) : IVec S20480x2048 1 :=
  let main_v0 : IVec S20480x2048 32 := iotaInDim S20480x2048 32 0
  let main_c : IVec S_ 32 := constantI S_ 32 17408#32
  let main_v1 : IVec S20480x2048 32 := broadcastInDim S20480x2048 ![] bcast_S_S20480x2048 main_c
  let main_v2 : IVec S20480x2048 1 := cmpi .slt main_v0 main_v1
  main_v2
-- ==== On_token_rows.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x6144 : Shape := ⟨2, ![2048, 6144]⟩
abbrev S_ : Shape := ⟨0, ![]⟩

class Facts : Prop where
  bcast_S_S20480x2048 : S_.BroadcastsInDim S20480x2048 (![] : Fin 0 → Fin S20480x2048.rank)

variable [Facts]

def fn {F : FTy → Type} [FloatOps F] (main_arg0 : FVec F S20480x2048 .f32) (main_arg1 : FVec F S2048 .f32) (main_arg2 : FVec F S4x8x6x1x2048 .f32) (main_arg3 : FVec F S2048x6144 .f32) : IVec S20480x2048 1 × IVec S20480x2048 1 :=
  let main_v0 : IVec S20480x2048 32 := iotaInDim S20480x2048 32 0
  let main_c : IVec S_ 32 := constantI S_ 32 17408#32
  let main_v1 : IVec S20480x2048 32 := broadcastInDim S20480x2048 ![] bcast_S_S20480x2048 main_c
  let main_v2 : IVec S20480x2048 1 := cmpi .slt main_v0 main_v1
  (main_v2, main_v2)
-- ==== Pre_finite.lean ====
abbrev S20480x2048 : Shape := ⟨2, ![20480, 2048]⟩
abbrev S4x64 : Shape := ⟨2, ![4, 64]⟩
abbrev S128 : Shape := ⟨1, ![128]⟩
abbrev S16384x2048 : Shape := ⟨2, ![16384, 2048]⟩
abbrev S_ : Shape := ⟨0, ![]⟩
abbrev S17408x2048 : Shape := ⟨2, ![17408, 2048]⟩

class Facts : Prop where
  slices_S20480x2048_S16384x2048_0_0 : S20480x2048.Slices ![0, 0] S16384x2048
  bitsLt_bf16_f32 : FTy.bits .bf16 < FTy.bits .f32
  bcast_S_S16384x2048 : S_.BroadcastsInDim S16384x2048 (![] : Fin 0 → Fin S16384x2048.rank)
  slices_S20480x2048_S17408x2048_0_0 : S20480x2048.Slices ![0, 0] S17408x2048
  bcast_S_S17408x2048 : S_.BroadcastsInDim S17408x2048 (![] : Fin 0 → Fin S17408x2048.rank)
  bcast_S_S4x64 : S_.BroadcastsInDim S4x64 (![] : Fin 0 → Fin S4x64.rank)

variable [Facts]

def fn {F : FTy → Type} [FloatOps F] (main_arg0 : FVec F S20480x2048 .bf16) (main_arg1 : FVec F S20480x2048 .bf16) (main_arg2 : FVec F S20480x2048 .bf16) (main_arg3 : FVec F S4x64 .f32) (main_arg4 : FVec F S128 .f32) : IVec S16384x2048 1 × IVec S17408x2048 1 × IVec S17408x2048 1 × IVec S4x64 1 :=
  let main_v0 : FVec F S16384x2048 .bf16 := (extractStridedSlice S16384x2048 ![0, 0] · slices_S20480x2048_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_v5 : FVec F S17408x2048 .bf16 := (extractStridedSlice S17408x2048 ![0, 0] · slices_S20480x2048_S17408x2048_0_0) main_arg1
  let main_v6 : FVec F S17408x2048 .f32 := (extf .f32 · bitsLt_bf16_f32) main_v5
  let main_v7 : FVec F S17408x2048 .f32 := Host.absf main_v6
  let main_cst_0 : FVec F S_ .f32 := constant S_ .f32 0x7F800000#32
  let main_v8 : FVec F S17408x2048 .f32 := broadcastInDim S17408x2048 ![] bcast_S_S17408x2048 main_cst_0
  let main_v9 : IVec S17408x2048 1 := cmpf .olt main_v7 main_v8
  let main_v10 : FVec F S17408x2048 .bf16 := (extractStridedSlice S17408x2048 ![0, 0] · slices_S20480x2048_S17408x2048_0_0) main_arg2
  let main_v11 : FVec F S17408x2048 .f32 := (extf .f32 · bitsLt_bf16_f32) main_v10
  let main_v12 : FVec F S17408x2048 .f32 := Host.absf main_v11
  let main_cst_1 : FVec F S_ .f32 := constant S_ .f32 0x7F800000#32
  let main_v13 : FVec F S17408x2048 .f32 := broadcastInDim S17408x2048 ![] bcast_S_S17408x2048 main_cst_1
  let main_v14 : IVec S17408x2048 1 := cmpf .olt main_v12 main_v13
  let main_v15 : FVec F S4x64 .f32 := Host.absf main_arg3
  let main_cst_2 : FVec F S_ .f32 := constant S_ .f32 0x7F800000#32
  let main_v16 : FVec F S4x64 .f32 := broadcastInDim S4x64 ![] bcast_S_S4x64 main_cst_2
  let main_v17 : IVec S4x64 1 := cmpf .olt main_v15 main_v16
  (main_v4, main_v9, main_v14, main_v17)
-- ==== Kernel.lean ====
abbrev S20480x2048 : Shape := ⟨2, ![20480, 2048]⟩
abbrev S4x64 : Shape := ⟨2, ![4, 64]⟩
abbrev S128 : Shape := ⟨1, ![128]⟩
abbrev S1x128 : Shape := ⟨2, ![1, 128]⟩
abbrev S2048x128 : Shape := ⟨2, ![2048, 128]⟩
abbrev S4096x128 : Shape := ⟨2, ![4096, 128]⟩
abbrev S256x128 : Shape := ⟨2, ![256, 128]⟩
abbrev S4352x128 : Shape := ⟨2, ![4352, 128]⟩
abbrev S4352x256 : Shape := ⟨2, ![4352, 256]⟩
abbrev S1x64 : Shape := ⟨2, ![1, 64]⟩
abbrev S1 : Shape := ⟨1, ![1]⟩
abbrev S1x1 : Shape := ⟨2, ![1, 1]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 16
  | .smem => 0
  | _ => 0

abbrev bufTy : (tb : Table) → Fin (tcTables nBuf tb) → BufTy
  | .hbm, ⟨0, _⟩ => ⟨S20480x2048, .bf16⟩
  | .hbm, ⟨1, _⟩ => ⟨S20480x2048, .bf16⟩
  | .hbm, ⟨2, _⟩ => ⟨S20480x2048, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S20480x2048, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S4x64, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S4352x128, .bf16⟩
  | .local _ .vmem, ⟨15, _⟩ => ⟨S4352x256, .bf16⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S20480x2048 : Shape := ⟨2, ![20480, 2048]⟩
abbrev S4x64 : Shape := ⟨2, ![4, 64]⟩
abbrev S128 : Shape := ⟨1, ![128]⟩
abbrev S16384x2048 : Shape := ⟨2, ![16384, 2048]⟩
abbrev S4x4096x16x2x64 : Shape := ⟨5, ![4, 4096, 16, 2, 64]⟩
abbrev S4x4096x16x128 : Shape := ⟨4, ![4, 4096, 16, 128]⟩
abbrev S1024x2048 : Shape := ⟨2, ![1024, 2048]⟩
abbrev S4x256x16x2x64 : Shape := ⟨5, ![4, 256, 16, 2, 64]⟩
abbrev S4x256x16x128 : Shape := ⟨4, ![4, 256, 16, 128]⟩
abbrev S4x4352x16x2x64 : Shape := ⟨5, ![4, 4352, 16, 2, 64]⟩
abbrev S4x4352x16x128 : Shape := ⟨4, ![4, 4352, 16, 128]⟩
abbrev S1x64 : Shape := ⟨2, ![1, 64]⟩
abbrev S64 : Shape := ⟨1, ![64]⟩
abbrev S_ : Shape := ⟨0, ![]⟩
abbrev S4x16x2x4096x4352 : Shape := ⟨5, ![4, 16, 2, 4096, 4352]⟩
abbrev S4x16x2x4096 : Shape := ⟨4, ![4, 16, 2, 4096]⟩
abbrev S4x16x2x4096x1 : Shape := ⟨5, ![4, 16, 2, 4096, 1]⟩
abbrev S4x16x1x4096x4352 : Shape := ⟨5, ![4, 16, 1, 4096, 4352]⟩
abbrev S4x16x4096x4352 : Shape := ⟨4, ![4, 16, 4096, 4352]⟩
abbrev S4x16x128x4096 : Shape := ⟨4, ![4, 16, 128, 4096]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S20480x2048, .bf16⟩
  | .hbm, ⟨2, _⟩ => ⟨S20480x2048, .bf16⟩
  | .hbm, ⟨3, _⟩ => ⟨S4x64, .f32⟩
  | .hbm, ⟨4, _⟩ => ⟨S128, .f32⟩
  | .hbm, ⟨5, _⟩ => ⟨S20480x2048, .f32⟩
  | .hbm, ⟨6, _⟩ => ⟨S20480x2048, .f32⟩
  | .hbm, ⟨7, _⟩ => ⟨S20480x2048, .f32⟩
  | .hbm, ⟨8, _⟩ => ⟨S16384x2048, .f32⟩
  | .hbm, ⟨9, _⟩ => ⟨S4x4096x16x2x64, .f32⟩
  | .hbm, ⟨10, _⟩ => ⟨S16384x2048, .f32⟩
  | .hbm, ⟨11, _⟩ => ⟨S4x4096x16x2x64, .f32⟩
  | .hbm, ⟨12, _⟩ => ⟨S16384x2048, .f32⟩
  | .hbm, ⟨13, _⟩ => ⟨S4x4096x16x128, .f32⟩
  | .hbm, ⟨14, _⟩ => ⟨S1024x2048, .f32⟩
  | .hbm, ⟨15, _⟩ => ⟨S4x256x16x2x64, .f32⟩
  | .hbm, ⟨16, _⟩ => ⟨S1024x2048, .f32⟩
  | .hbm, ⟨17, _⟩ => ⟨S4x256x16x128, .f32⟩
  | .hbm, ⟨18, _⟩ => ⟨S4x4352x16x2x64, .f32⟩
  | .hbm, ⟨19, _⟩ => ⟨S4x4352x16x128, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x16x2x4096x4352, .f32⟩
  | .hbm, ⟨40, _⟩ => ⟨S_, .f32⟩
  | .hbm, ⟨41, _⟩ => ⟨S_, .f32⟩
  | .hbm, ⟨42, _⟩ => ⟨S4x16x2x4096x4352, .f32⟩
  | .hbm, ⟨43, _⟩ => ⟨S4x16x2x4096x4352, .f32⟩
  | .hbm, ⟨44, _⟩ => ⟨S_, .f32⟩
  | .hbm, ⟨45, _⟩ => ⟨S4x16x2x4096, .f32⟩
  | .hbm, ⟨46, _⟩ => ⟨S_, .f32⟩
  | .hbm, ⟨47, _⟩ => ⟨S4x16x2x4096, .f32⟩
  | .hbm, ⟨48, _⟩ => ⟨S4x16x2x4096, .f32⟩
  | .hbm, ⟨49, _⟩ => ⟨S4x16x2x4096x1, .f32⟩
  | .hbm, ⟨50, _⟩ => ⟨S4x16x2x4096x4352, .f32⟩
  | .hbm, ⟨51, _⟩ => ⟨S4x16x2x4096x4352, .f32⟩
  | .hbm, ⟨52, _⟩ => ⟨S4x16x2x4096x4352, .f32⟩
  | .hbm, ⟨53, _⟩ => ⟨S_, .f32⟩
  | .hbm, ⟨54, _⟩ => ⟨S4x16x2x4096, .f32⟩
  | .hbm, ⟨55, _⟩ => ⟨S4x16x2x4096x1, .f32⟩
  | .hbm, ⟨56, _⟩ => ⟨S4x16x2x4096x4352, .f32⟩
  | .hbm, ⟨57, _⟩ => ⟨S4x16x2x4096x4352, .f32⟩
  | .hbm, ⟨58, _⟩ => ⟨S4x16x1x4096x4352, .f32⟩
  | .hbm, ⟨59, _⟩ => ⟨S4x16x4096x4352, .f32⟩
  | .hbm, ⟨60, _⟩ => ⟨S4x16x1x4096x4352, .f32⟩
  | .hbm, ⟨61, _⟩ => ⟨S4x16x4096x4352, .f32⟩
  | .hbm, ⟨62, _⟩ => ⟨S4x16x4096x4352, .f32⟩
  | .hbm, ⟨63, _⟩ => ⟨S4x16x4096x4352, .f32⟩
  | .hbm, ⟨64, _⟩ => ⟨S4x16x4096x4352, .f32⟩
  | .hbm, ⟨65, _⟩ => ⟨S4x16x128x4096, .f32⟩
  | .hbm, ⟨66, _⟩ => ⟨S4x4096x16x128, .f32⟩
  | .hbm, ⟨67, _⟩ => ⟨S4x4096x16x128, .f32⟩
  | .hbm, ⟨68, _⟩ => ⟨S_, .f32⟩
  | .hbm, ⟨69, _⟩ => ⟨S4x4096x16, .f32⟩
  | .hbm, ⟨70, _⟩ => ⟨S4x4096x16x1, .f32⟩
  | .hbm, ⟨71, _⟩ => ⟨S_, .f32⟩
  | .hbm, ⟨72, _⟩ => ⟨S4x4096x16x1, .f32⟩
  | .hbm, ⟨73, _⟩ => ⟨S4x4096x16x1, .f32⟩
  | .hbm, ⟨74, _⟩ => ⟨S_, .f32⟩
  | .hbm, ⟨75, _⟩ => ⟨S4x4096x16x1, .f32⟩
  | .hbm, ⟨76, _⟩ => ⟨S4x4096x16x1, .f32⟩
  | .hbm, ⟨77, _⟩ => ⟨S4x4096x16x1, .f32⟩
  | .hbm, ⟨78, _⟩ => ⟨S4x4096x16x128, .f32⟩
  | .hbm, ⟨79, _⟩ => ⟨S4x4096x16x128, .f32⟩
  | .hbm, ⟨80, _⟩ => ⟨S1x1x1x128, .f32⟩
  | .hbm, ⟨81, _⟩ => ⟨S4x4096x16x128, .f32⟩
  | .hbm, ⟨82, _⟩ => ⟨S4x4096x16x128, .f32⟩
  | .hbm, ⟨83, _⟩ => ⟨S_, .f32⟩
  | .hbm, ⟨84, _⟩ => ⟨S4x4096x16x128, .f32⟩
  | .hbm, ⟨85, _⟩ => ⟨S4x4096x16x128, .f32⟩
  | .hbm, ⟨86, _⟩ => ⟨S16384x2048, .f32⟩
  | .hbm, ⟨87, _⟩ => ⟨S16384x2048, .bf16⟩
  | .hbm, ⟨88, _⟩ => ⟨S_, .i32⟩
  | .hbm, ⟨89, _⟩ => ⟨S_, .bf16⟩
  | .hbm, ⟨90, _⟩ => ⟨S20480x2048, .bf16⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c : Ref sig .tc := ⟨.hbm, 88, rfl⟩
abbrev main_call0_v0 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Experts.lean ====
abbrev S16x2048x1024 : Shape := ⟨3, ![16, 2048, 1024]⟩
abbrev S16x2048x1 : Shape := ⟨3, ![16, 2048, 1]⟩
abbrev S4x16x2048x1024 : Shape := ⟨4, ![4, 16, 2048, 1024]⟩
abbrev S4x16x1024x2048 : Shape := ⟨4, ![4, 16, 1024, 2048]⟩
abbrev S17x2048x2048 : Shape := ⟨3, ![17, 2048, 2048]⟩
abbrev S1x512x1024 : Shape := ⟨3, ![1, 512, 1024]⟩
abbrev S1x512x1 : Shape := ⟨3, ![1, 512, 1]⟩
abbrev S1x1x512x1024 : Shape := ⟨4, ![1, 1, 512, 1024]⟩
abbrev S1x1x256x2048 : Shape := ⟨4, ![1, 1, 256, 2048]⟩
abbrev S1x512x2048 : Shape := ⟨3, ![1, 512, 2048]⟩
abbrev S2x2048x1024 : Shape := ⟨3, ![2, 2048, 1024]⟩
abbrev S2x1024x2048 : Shape := ⟨3, ![2, 1024, 2048]⟩
abbrev S512x1024 : Shape := ⟨2, ![512, 1024]⟩
abbrev S256x2048 : Shape := ⟨2, ![256, 2048]⟩
abbrev S1x256x2048 : Shape := ⟨3, ![1, 256, 2048]⟩
abbrev S512x2048 : Shape := ⟨2, ![512, 2048]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S512x1 : Shape := ⟨2, ![512, 1]⟩

abbrev nBuf : Space → Nat
  | .hbm => 6
  | .vmem => 15
  | .smem => 0
  | _ => 0

abbrev bufTy : (tb : Table) → Fin (tcTables nBuf tb) → BufTy
  | .hbm, ⟨0, _⟩ => ⟨S16x2048x1024, .i32⟩
  | .hbm, ⟨1, _⟩ => ⟨S16x2048x1, .f32⟩
  | .hbm, ⟨2, _⟩ => ⟨S4x16x2048x1024, .f32⟩
  | .hbm, ⟨3, _⟩ => ⟨S4x16x2048x1024, .f32⟩
  | .hbm, ⟨4, _⟩ => ⟨S4x16x1024x2048, .f32⟩
  | .hbm, ⟨5, _⟩ => ⟨S17x2048x2048, .f32⟩
  | .local _ .vmem, ⟨0, _⟩ => ⟨S1x512x1024, .i32⟩
  | .local _ .vmem, ⟨1, _⟩ => ⟨S1x512x1024, .i32⟩
  | .local _ .vmem, ⟨2, _⟩ => ⟨S1x512x1, .f32⟩
  | .local _ .vmem, ⟨3, _⟩ => ⟨S1x512x1, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x256x2048, .f32⟩
  | .local _ .vmem, ⟨9, _⟩ => ⟨S1x1x256x2048, .f32⟩
  | .local _ .vmem, ⟨10, _⟩ => ⟨S1x512x2048, .f32⟩
  | .local _ .vmem, ⟨11, _⟩ => ⟨S1x512x2048, .f32⟩
  | .local _ .vmem, ⟨12, _⟩ => ⟨S2x2048x1024, .bf16⟩
  | .local _ .vmem, ⟨13, _⟩ => ⟨S2x2048x1024, .bf16⟩
  | .local _ .vmem, ⟨14, _⟩ => ⟨S2x1024x2048, .bf16⟩
  | _, _ => ⟨S16x2048x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v40 : BitVec 32 := Scalar.muli arg1 c512_i32
  v40
def k0_off1 (i : grid0.Coords) : Fin 3 → Nat :=
  let c0_23 : Index := 0#32
  let arg1 : BitVec 32 := BitVec.ofNat 32 (i 1).val
  let c512_i32 : BitVec 32 := 512#32
  let v40 : BitVec 32 := Scalar.muli arg1 c512_i32
  let v41 : BitVec 32 := v40
  let v45 : Index := Scalar.indexCast v41
  let c0_24 : Index := 0#32
  ![0, v45.toNat, 0]
def k0_mult2 (i : grid0.Coords) : BitVec 32 :=
  let arg1 : BitVec 32 := BitVec.ofNat 32 (i 1).val
  let c256_i32 : BitVec 32 := 256#32
  let v59 : BitVec 32 := Scalar.muli arg1 c256_i32
  v59
def k0_off2 (i : grid0.Coords) : Fin 3 → Nat :=
  let c0_35 : Index := 0#32
  let arg1 : BitVec 32 := BitVec.ofNat 32 (i 1).val
  let c256_i32 : BitVec 32 := 256#32
  let v59 : BitVec 32 := Scalar.muli arg1 c256_i32
  let v60 : BitVec 32 := v59
  let v61 : Index := Scalar.indexCast v60
  let c0_36 : Index := 0#32
  ![0, v61.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_mult3 (i : grid0.Coords) : BitVec 32 :=
  let arg1 : BitVec 32 := BitVec.ofNat 32 (i 1).val
  let c512_i32 : BitVec 32 := 512#32
  let v78 : BitVec 32 := Scalar.muli arg1 c512_i32
  v78
def k0_off3 (i : grid0.Coords) : Fin 3 → Nat :=
  let c0_50 : Index := 0#32
  let arg1 : BitVec 32 := BitVec.ofNat 32 (i 1).val
  let c512_i32 : BitVec 32 := 512#32
  let v78 : BitVec 32 := Scalar.muli arg1 c512_i32
  let v79 : BitVec 32 := v78
  let v83 : Index := Scalar.indexCast v79
  let c0_51 : Index := 0#32
  ![0, v83.toNat, 0]
def k0_mult4 (i : grid0.Coords) : BitVec 32 :=
  let arg1 : BitVec 32 := BitVec.ofNat 32 (i 1).val
  let c256_i32 : BitVec 32 := 256#32
  let v97 : BitVec 32 := Scalar.muli arg1 c256_i32
  v97
def k0_off4 (i : grid0.Coords) : Fin 3 → Nat :=
  let c0_62 : Index := 0#32
  let arg1 : BitVec 32 := BitVec.ofNat 32 (i 1).val
  let c256_i32 : BitVec 32 := 256#32
  let v97 : BitVec 32 := Scalar.muli arg1 c256_i32
  let v98 : BitVec 32 := v97
  let v99 : Index := Scalar.indexCast v98
  let c0_63 : Index := 0#32
  ![0, v99.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c16_i32_9 : BitVec 32 := 16#32
  let v21 : BitVec 1 := Scalar.cmpi .slt arg0 c16_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_mult5 (i : grid0.Coords) : BitVec 32 :=
  let arg1 : BitVec 32 := BitVec.ofNat 32 (i 1).val
  let c512_i32 : BitVec 32 := 512#32
  let v78 : BitVec 32 := Scalar.muli arg1 c512_i32
  v78
def k0_off5 (i : grid0.Coords) : Fin 3 → Nat :=
  let c1 : Index := 1#32
  let arg1 : BitVec 32 := BitVec.ofNat 32 (i 1).val
  let c512_i32 : BitVec 32 := 512#32
  let v78 : BitVec 32 := Scalar.muli arg1 c512_i32
  let v79 : BitVec 32 := v78
  let v83 : Index := Scalar.indexCast v79
  let c0_51 : Index := 0#32
  ![1, v83.toNat, 0]
def k0_mult6 (i : grid0.Coords) : BitVec 32 :=
  let arg1 : BitVec 32 := BitVec.ofNat 32 (i 1).val
  let c256_i32 : BitVec 32 := 256#32
  let v97 : BitVec 32 := Scalar.muli arg1 c256_i32
  v97
def k0_off6 (i : grid0.Coords) : Fin 3 → Nat :=
  let c1_62 : Index := 1#32
  let arg1 : BitVec 32 := BitVec.ofNat 32 (i 1).val
  let c256_i32 : BitVec 32 := 256#32
  let v97 : BitVec 32 := Scalar.muli arg1 c256_i32
  let v98 : BitVec 32 := v97
  let v99 : Index := Scalar.indexCast v98
  let c0_63 : Index := 0#32
  ![1, v99.toNat, 0]
def k0_cond4 (i : grid0.Coords) : BitVec 1 :=
  let arg0 : BitVec 32 := BitVec.ofNat 32 (i 0).val
  let c16_i32_18 : BitVec 32 := 16#32
  let v37 : BitVec 1 := Scalar.cmpi .eq arg0 c16_i32_18
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c3_i32 : BitVec 32 := 3#32
  let c0_i32 : BitVec 32 := 0#32
  let c0_i32_0 : BitVec 32 := 0#32
  ![c3_i32.toNat, v0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c3_i32 : BitVec 32 := 3#32
  let c0_i32 : BitVec 32 := 0#32
  let c0_i32_0 : BitVec 32 := 0#32
  ![c3_i32.toNat, v0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c3_i32 : BitVec 32 := 3#32
  let c0_i32 : BitVec 32 := 0#32
  let c0_i32_0 : BitVec 32 := 0#32
  ![c3_i32.toNat, v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c16_i32 : BitVec 32 := 16#32
  let v2 : BitVec 32 := Scalar.select v0 c16_i32 v1
  let c0_i32_0 : BitVec 32 := 0#32
  let c0_i32_1 : BitVec 32 := 0#32
  ![v2.toNat, arg1.toNat, c0_i32_0.toNat]

abbrev stage0_0 : Fin 2 → Memref sig .tc .vmem S1x512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsRefIdeal.lean ====
abbrev S16x2048x1024 : Shape := ⟨3, ![16, 2048, 1024]⟩
abbrev S16x2048x1 : Shape := ⟨3, ![16, 2048, 1]⟩
abbrev S4x16x2048x1024 : Shape := ⟨4, ![4, 16, 2048, 1024]⟩
abbrev S4x16x1024x2048 : Shape := ⟨4, ![4, 16, 1024, 2048]⟩
abbrev S_ : Shape := ⟨0, ![]⟩
abbrev S16x2048x2048 : Shape := ⟨3, ![16, 2048, 2048]⟩
abbrev S1x16x2048x1024 : Shape := ⟨4, ![1, 16, 2048, 1024]⟩
abbrev S1x16x1024x2048 : Shape := ⟨4, ![1, 16, 1024, 2048]⟩
abbrev S16x1024x2048 : Shape := ⟨3, ![16, 1024, 2048]⟩
abbrev S17x2048x2048 : Shape := ⟨3, ![17, 2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1024, .i32⟩
  | .hbm, ⟨1, _⟩ => ⟨S16x2048x1, .f32⟩
  | .hbm, ⟨2, _⟩ => ⟨S4x16x2048x1024, .f32⟩
  | .hbm, ⟨3, _⟩ => ⟨S4x16x2048x1024, .f32⟩
  | .hbm, ⟨4, _⟩ => ⟨S4x16x1024x2048, .f32⟩
  | .hbm, ⟨5, _⟩ => ⟨S_, .i32⟩
  | .hbm, ⟨6, _⟩ => ⟨S16x2048x1024, .i32⟩
  | .hbm, ⟨7, _⟩ => ⟨S16x2048x1024, .i32⟩
  | .hbm, ⟨8, _⟩ => ⟨S16x2048x1024, .f32⟩
  | .hbm, ⟨9, _⟩ => ⟨S_, .i32⟩
  | .hbm, ⟨10, _⟩ => ⟨S16x2048x1024, .i32⟩
  | .hbm, ⟨11, _⟩ => ⟨S16x2048x1024, .i32⟩
  | .hbm, ⟨12, _⟩ => ⟨S16x2048x1024, .f32⟩
  | .hbm, ⟨13, _⟩ => ⟨S16x2048x2048, .f32⟩
  | .hbm, ⟨14, _⟩ => ⟨S1x16x2048x1024, .f32⟩
  | .hbm, ⟨15, _⟩ => ⟨S16x2048x1024, .f32⟩
  | .hbm, ⟨16, _⟩ => ⟨S16x2048x1024, .f32⟩
  | .hbm, ⟨17, _⟩ => ⟨S1x16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1x16x1024x2048, .f32⟩
  | .hbm, ⟨31, _⟩ => ⟨S16x1024x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .i32⟩
  | .hbm, ⟨36, _⟩ => ⟨S_, .f32⟩
  | .hbm, ⟨37, _⟩ => ⟨S17x2048x2048, .f32⟩
  | _, _ => ⟨S16x2048x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_call1_v0 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== ExpertsCtx.lean ====
abbrev S16x2560x1024 : Shape := ⟨3, ![16, 2560, 1024]⟩
abbrev S16x2560x1 : Shape := ⟨3, ![16, 2560, 1]⟩
abbrev S4x16x2048x1024 : Shape := ⟨4, ![4, 16, 2048, 1024]⟩
abbrev S4x16x1024x2048 : Shape := ⟨4, ![4, 16, 1024, 2048]⟩
abbrev S17x2560x2048 : Shape := ⟨3, ![17, 2560, 2048]⟩
abbrev S1x272x1024 : Shape := ⟨3, ![1, 272, 1024]⟩
abbrev S1x272x1 : Shape := ⟨3, ![1, 272, 1]⟩
abbrev S1x1x256x1024 : Shape := ⟨4, ![1, 1, 256, 1024]⟩
abbrev S1x1x128x2048 : Shape := ⟨4, ![1, 1, 128, 2048]⟩
abbrev S1x272x2048 : Shape := ⟨3, ![1, 272, 2048]⟩
abbrev S2x2048x1024 : Shape := ⟨3, ![2, 2048, 1024]⟩
abbrev S2x1024x2048 : Shape := ⟨3, ![2, 1024, 2048]⟩
abbrev S256x1024 : Shape := ⟨2, ![256, 1024]⟩
abbrev S1x256x1024 : Shape := ⟨3, ![1, 256, 1024]⟩
abbrev S128x2048 : Shape := ⟨2, ![128, 2048]⟩
abbrev S1x128x2048 : Shape := ⟨3, ![1, 128, 2048]⟩
abbrev S272x2048 : Shape := ⟨2, ![272, 2048]⟩
abbrev S272x1024 : Shape := ⟨2, ![272, 1024]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S272x1 : Shape := ⟨2, ![272, 1]⟩

abbrev nBuf : Space → Nat
  | .hbm => 6
  | .vmem => 15
  | .smem => 0
  | _ => 0

abbrev bufTy : (tb : Table) → Fin (tcTables nBuf tb) → BufTy
  | .hbm, ⟨0, _⟩ => ⟨S16x2560x1024, .i32⟩
  | .hbm, ⟨1, _⟩ => ⟨S16x2560x1, .f32⟩
  | .hbm, ⟨2, _⟩ => ⟨S4x16x2048x1024, .f32⟩
  | .hbm, ⟨3, _⟩ => ⟨S4x16x2048x1024, .f32⟩
  | .hbm, ⟨4, _⟩ => ⟨S4x16x1024x2048, .f32⟩
  | .hbm, ⟨5, _⟩ => ⟨S17x2560x2048, .f32⟩
  | .local _ .vmem, ⟨0, _⟩ => ⟨S1x272x1024, .i32⟩
  | .local _ .vmem, ⟨1, _⟩ => ⟨S1x272x1024, .i32⟩
  | .local _ .vmem, ⟨2, _⟩ => ⟨S1x272x1, .f32⟩
  | .local _ .vmem, ⟨3, _⟩ => ⟨S1x272x1, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x128x2048, .f32⟩
  | .local _ .vmem, ⟨9, _⟩ => ⟨S1x1x128x2048, .f32⟩
  | .local _ .vmem, ⟨10, _⟩ => ⟨S1x272x2048, .f32⟩
  | .local _ .vmem, ⟨11, _⟩ => ⟨S1x272x2048, .f32⟩
  | .local _ .vmem, ⟨12, _⟩ => ⟨S2x2048x1024, .bf16⟩
  | .local _ .vmem, ⟨13, _⟩ => ⟨S2x2048x1024, .bf16⟩
  | .local _ .vmem, ⟨14, _⟩ => ⟨S2x1024x2048, .bf16⟩
  | _, _ => ⟨S16x2560x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c256_i32 : BitVec 32 := 256#32
  let v40 : BitVec 32 := Scalar.muli arg1 c256_i32
  v40
def k0_off1 (i : grid0.Coords) : Fin 3 → Nat :=
  let c0_23 : Index := 0#32
  let arg1 : BitVec 32 := BitVec.ofNat 32 (i 1).val
  let c256_i32 : BitVec 32 := 256#32
  let v40 : BitVec 32 := Scalar.muli arg1 c256_i32
  let v41 : BitVec 32 := v40
  let v45 : Index := Scalar.indexCast v41
  let c0_24 : Index := 0#32
  ![0, v45.toNat, 0]
def k0_mult2 (i : grid0.Coords) : BitVec 32 :=
  let arg1 : BitVec 32 := BitVec.ofNat 32 (i 1).val
  let c128_i32 : BitVec 32 := 128#32
  let v59 : BitVec 32 := Scalar.muli arg1 c128_i32
  v59
def k0_off2 (i : grid0.Coords) : Fin 3 → Nat :=
  let c0_35 : Index := 0#32
  let arg1 : BitVec 32 := BitVec.ofNat 32 (i 1).val
  let c128_i32 : BitVec 32 := 128#32
  let v59 : BitVec 32 := Scalar.muli arg1 c128_i32
  let v60 : BitVec 32 := v59
  let v61 : Index := Scalar.indexCast v60
  let c0_36 : Index := 0#32
  ![0, v61.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_mult3 (i : grid0.Coords) : BitVec 32 :=
  let arg1 : BitVec 32 := BitVec.ofNat 32 (i 1).val
  let c256_i32 : BitVec 32 := 256#32
  let v78 : BitVec 32 := Scalar.muli arg1 c256_i32
  v78
def k0_off3 (i : grid0.Coords) : Fin 3 → Nat :=
  let c0_50 : Index := 0#32
  let arg1 : BitVec 32 := BitVec.ofNat 32 (i 1).val
  let c256_i32 : BitVec 32 := 256#32
  let v78 : BitVec 32 := Scalar.muli arg1 c256_i32
  let v79 : BitVec 32 := v78
  let v83 : Index := Scalar.indexCast v79
  let c0_51 : Index := 0#32
  ![0, v83.toNat, 0]
def k0_mult4 (i : grid0.Coords) : BitVec 32 :=
  let arg1 : BitVec 32 := BitVec.ofNat 32 (i 1).val
  let c128_i32 : BitVec 32 := 128#32
  let v97 : BitVec 32 := Scalar.muli arg1 c128_i32
  v97
def k0_off4 (i : grid0.Coords) : Fin 3 → Nat :=
  let c0_62 : Index := 0#32
  let arg1 : BitVec 32 := BitVec.ofNat 32 (i 1).val
  let c128_i32 : BitVec 32 := 128#32
  let v97 : BitVec 32 := Scalar.muli arg1 c128_i32
  let v98 : BitVec 32 := v97
  let v99 : Index := Scalar.indexCast v98
  let c0_63 : Index := 0#32
  ![0, v99.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c16_i32_9 : BitVec 32 := 16#32
  let v21 : BitVec 1 := Scalar.cmpi .slt arg0 c16_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_mult5 (i : grid0.Coords) : BitVec 32 :=
  let arg1 : BitVec 32 := BitVec.ofNat 32 (i 1).val
  let c256_i32 : BitVec 32 := 256#32
  let v78 : BitVec 32 := Scalar.muli arg1 c256_i32
  v78
def k0_off5 (i : grid0.Coords) : Fin 3 → Nat :=
  let c1 : Index := 1#32
  let arg1 : BitVec 32 := BitVec.ofNat 32 (i 1).val
  let c256_i32 : BitVec 32 := 256#32
  let v78 : BitVec 32 := Scalar.muli arg1 c256_i32
  let v79 : BitVec 32 := v78
  let v83 : Index := Scalar.indexCast v79
  let c0_51 : Index := 0#32
  ![1, v83.toNat, 0]
def k0_mult6 (i : grid0.Coords) : BitVec 32 :=
  let arg1 : BitVec 32 := BitVec.ofNat 32 (i 1).val
  let c128_i32 : BitVec 32 := 128#32
  let v97 : BitVec 32 := Scalar.muli arg1 c128_i32
  v97
def k0_off6 (i : grid0.Coords) : Fin 3 → Nat :=
  let c1_62 : Index := 1#32
  let arg1 : BitVec 32 := BitVec.ofNat 32 (i 1).val
  let c128_i32 : BitVec 32 := 128#32
  let v97 : BitVec 32 := Scalar.muli arg1 c128_i32
  let v98 : BitVec 32 := v97
  let v99 : Index := Scalar.indexCast v98
  let c0_63 : Index := 0#32
  ![1, v99.toNat, 0]
def k0_cond4 (i : grid0.Coords) : BitVec 1 :=
  let arg0 : BitVec 32 := BitVec.ofNat 32 (i 0).val
  let c16_i32_18 : BitVec 32 := 16#32
  let v37 : BitVec 1 := Scalar.cmpi .eq arg0 c16_i32_18
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c16_i32 : BitVec 32 := 16#32
  let v2 : BitVec 32 := Scalar.select v0 c16_i32 v1
  let c0_i32_0 : BitVec 32 := 0#32
  let c0_i32_1 : BitVec 32 := 0#32
  ![v2.toNat, arg1.toNat, c0_i32_0.toNat]

abbrev stage0_0 : Fin 2 → Memref sig .tc .vmem S1x272x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x272x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x272x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsCtxRefIdeal.lean ====
abbrev S16x2560x1024 : Shape := ⟨3, ![16, 2560, 1024]⟩
abbrev S16x2560x1 : Shape := ⟨3, ![16, 2560, 1]⟩
abbrev S4x16x2048x1024 : Shape := ⟨4, ![4, 16, 2048, 1024]⟩
abbrev S4x16x1024x2048 : Shape := ⟨4, ![4, 16, 1024, 2048]⟩
abbrev S_ : Shape := ⟨0, ![]⟩
abbrev S16x2560x2048 : Shape := ⟨3, ![16, 2560, 2048]⟩
abbrev S1x16x2048x1024 : Shape := ⟨4, ![1, 16, 2048, 1024]⟩
abbrev S16x2048x1024 : Shape := ⟨3, ![16, 2048, 1024]⟩
abbrev S1x16x1024x2048 : Shape := ⟨4, ![1, 16, 1024, 2048]⟩
abbrev S16x1024x2048 : Shape := ⟨3, ![16, 1024, 2048]⟩
abbrev S17x2560x2048 : Shape := ⟨3, ![17, 2560, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16x2560x1024, .i32⟩
  | .hbm, ⟨1, _⟩ => ⟨S16x2560x1, .f32⟩
  | .hbm, ⟨2, _⟩ => ⟨S4x16x2048x1024, .f32⟩
  | .hbm, ⟨3, _⟩ => ⟨S4x16x2048x1024, .f32⟩
  | .hbm, ⟨4, _⟩ => ⟨S4x16x1024x2048, .f32⟩
  | .hbm, ⟨5, _⟩ => ⟨S_, .i32⟩
  | .hbm, ⟨6, _⟩ => ⟨S16x2560x1024, .i32⟩
  | .hbm, ⟨7, _⟩ => ⟨S16x2560x1024, .i32⟩
  | .hbm, ⟨8, _⟩ => ⟨S16x2560x1024, .f32⟩
  | .hbm, ⟨9, _⟩ => ⟨S_, .i32⟩
  | .hbm, ⟨10, _⟩ => ⟨S16x2560x1024, .i32⟩
  | .hbm, ⟨11, _⟩ => ⟨S16x2560x1024, .i32⟩
  | .hbm, ⟨12, _⟩ => ⟨S16x2560x1024, .f32⟩
  | .hbm, ⟨13, _⟩ => ⟨S16x2560x2048, .f32⟩
  | .hbm, ⟨14, _⟩ => ⟨S1x16x2048x1024, .f32⟩
  | .hbm, ⟨15, _⟩ => ⟨S16x2048x1024, .f32⟩
  | .hbm, ⟨16, _⟩ => ⟨S16x2560x1024, .f32⟩
  | .hbm, ⟨17, _⟩ => ⟨S1x16x2048x1024, .f32⟩
  | .hbm, ⟨18, _⟩ => ⟨S16x2048x1024, .f32⟩
  | .hbm, ⟨19, _⟩ => ⟨S16x2560x1024, .f32⟩
  | .hbm, ⟨20, _⟩ => ⟨S16x2560x1024, .f32⟩
  | .hbm, ⟨21, _⟩ => ⟨S16x2560x1024, .f32⟩
  | .hbm, ⟨22, _⟩ => ⟨S_, .f32⟩
  | .hbm, ⟨23, _⟩ => ⟨S16x2560x1024, .f32⟩
  | .hbm, ⟨24, _⟩ => ⟨S16x2560x1024, .f32⟩
  | .hbm, ⟨25, _⟩ => ⟨S_, .f32⟩
  | .hbm, ⟨26, _⟩ => ⟨S16x2560x1024, .f32⟩
  | .hbm, ⟨27, _⟩ => ⟨S16x2560x1024, .f32⟩
  | .hbm, ⟨28, _⟩ => ⟨S16x2560x1024, .f32⟩
  | .hbm, ⟨29, _⟩ => ⟨S16x2560x1024, .f32⟩
  | .hbm, ⟨30, _⟩ => ⟨S1x16x1024x2048, .f32⟩
  | .hbm, ⟨31, _⟩ => ⟨S16x1024x2048, .f32⟩
  | .hbm, ⟨32, _⟩ => ⟨S16x2560x2048, .f32⟩
  | .hbm, ⟨33, _⟩ => ⟨S16x2560x2048, .f32⟩
  | .hbm, ⟨34, _⟩ => ⟨S16x2560x2048, .f32⟩
  | .hbm, ⟨35, _⟩ => ⟨S_, .i32⟩
  | .hbm, ⟨36, _⟩ => ⟨S_, .f32⟩
  | .hbm, ⟨37, _⟩ => ⟨S17x2560x2048, .f32⟩
  | _, _ => ⟨S16x2560x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_call1_v0 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== ConvIn.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x6144 : Shape := ⟨2, ![2048, 6144]⟩
abbrev S1x2048 : Shape := ⟨2, ![1, 2048]⟩
abbrev S512x2048 : Shape := ⟨2, ![512, 2048]⟩
abbrev S1x1x1x1x2048 : Shape := ⟨5, ![1, 1, 1, 1, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4x8x6x1x2048, .f32⟩
  | .hbm, ⟨3, _⟩ => ⟨S2048x6144, .f32⟩
  | .hbm, ⟨4, _⟩ => ⟨S1x2048, .f32⟩
  | .hbm, ⟨5, _⟩ => ⟨S2048x6144, .bf16⟩
  | .hbm, ⟨6, _⟩ => ⟨S20480x2048, .bf16⟩
  | .hbm, ⟨7, _⟩ => ⟨S20480x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![34, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v18.toNat, c0_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v18.toNat, c1_i32_5.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvInRefIdeal.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x6144 : Shape := ⟨2, ![2048, 6144]⟩
abbrev S16384x2048 : Shape := ⟨2, ![16384, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x4x1x1x2048 : Shape := ⟨5, ![1, 4, 1, 1, 2048]⟩
abbrev S4x1x2048 : Shape := ⟨3, ![4, 1, 2048]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩
abbrev S1x1x1x1x2048 : Shape := ⟨5, ![1, 1, 1, 1, 2048]⟩
abbrev S17408x2048 : Shape := ⟨2, ![17408, 2048]⟩
abbrev S17408x6144 : Shape := ⟨2, ![17408, 6144]⟩

abbrev nBuf : Space → Nat
  | .hbm => 76
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4x8x6x1x2048, .f32⟩
  | .hbm, ⟨3, _⟩ => ⟨S2048x6144, .f32⟩
  | .hbm, ⟨4, _⟩ => ⟨S16384x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S1x4x1x1x2048, .f32⟩
  | .hbm, ⟨23, _⟩ => ⟨S4x1x2048, .f32⟩
  | .hbm, ⟨24, _⟩ => ⟨S1x4x1x1x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S1024x2048, .f32⟩
  | .hbm, ⟨46, _⟩ => ⟨S1024x2048, .f32⟩
  | .hbm, ⟨47, _⟩ => ⟨S1x2048, .f32⟩
  | .hbm, ⟨48, _⟩ => ⟨S1024x2048, .f32⟩
  | .hbm, ⟨49, _⟩ => ⟨S1024x2048, .f32⟩
  | .hbm, ⟨50, _⟩ => ⟨S1x1x1x1x2048, .f32⟩
  | .hbm, ⟨51, _⟩ => ⟨S1x2048, .f32⟩
  | .hbm, ⟨52, _⟩ => ⟨S1x1x1x1x2048, .f32⟩
  | .hbm, ⟨53, _⟩ => ⟨S1x2048, .f32⟩
  | .hbm, ⟨54, _⟩ => ⟨S_, .f32⟩
  | .hbm, ⟨55, _⟩ => ⟨S1x2048, .f32⟩
  | .hbm, ⟨56, _⟩ => ⟨S1x2048, .f32⟩
  | .hbm, ⟨57, _⟩ => ⟨S1024x2048, .f32⟩
  | .hbm, ⟨58, _⟩ => ⟨S1024x2048, .f32⟩
  | .hbm, ⟨59, _⟩ => ⟨S1024x2048, .f32⟩
  | .hbm, ⟨60, _⟩ => ⟨S1024x2048, .f32⟩
  | .hbm, ⟨61, _⟩ => ⟨S16384x2048, .f32⟩
  | .hbm, ⟨62, _⟩ => ⟨S17408x2048, .f32⟩
  | .hbm, ⟨63, _⟩ => ⟨S17408x6144, .f32⟩
  | .hbm, ⟨64, _⟩ => ⟨S17408x2048, .f32⟩
  | .hbm, ⟨65, _⟩ => ⟨S17408x2048, .f32⟩
  | .hbm, ⟨66, _⟩ => ⟨S17408x2048, .f32⟩
  | .hbm, ⟨67, _⟩ => ⟨S17408x2048, .bf16⟩
  | .hbm, ⟨68, _⟩ => ⟨S_, .i32⟩
  | .hbm, ⟨69, _⟩ => ⟨S_, .bf16⟩
  | .hbm, ⟨70, _⟩ => ⟨S20480x2048, .bf16⟩
  | .hbm, ⟨71, _⟩ => ⟨S17408x2048, .f32⟩
  | .hbm, ⟨72, _⟩ => ⟨S17408x2048, .bf16⟩
  | .hbm, ⟨73, _⟩ => ⟨S_, .i32⟩
  | .hbm, ⟨74, _⟩ => ⟨S_, .bf16⟩
  | .hbm, ⟨75, _⟩ => ⟨S20480x2048, .bf16⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_call0_v0 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_call1_v0 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== ConvLast.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x6144 : Shape := ⟨2, ![2048, 6144]⟩
abbrev S1x2048 : Shape := ⟨2, ![1, 2048]⟩
abbrev S512x2048 : Shape := ⟨2, ![512, 2048]⟩
abbrev S1x1x1x1x2048 : Shape := ⟨5, ![1, 1, 1, 1, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4x8x6x1x2048, .f32⟩
  | .hbm, ⟨3, _⟩ => ⟨S2048x6144, .f32⟩
  | .hbm, ⟨4, _⟩ => ⟨S1x2048, .f32⟩
  | .hbm, ⟨5, _⟩ => ⟨S2048x6144, .bf16⟩
  | .hbm, ⟨6, _⟩ => ⟨S20480x2048, .bf16⟩
  | .hbm, ⟨7, _⟩ => ⟨S20480x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c3_i32 : BitVec 32 := 3#32
  let c0_i32_4 : BitVec 32 := 0#32
  let c0_i32_5 : BitVec 32 := 0#32
  let c0_i32_6 : BitVec 32 := 0#32
  let c0_i32_7 : BitVec 32 := 0#32
  ![c3_i32.toNat, v18.toNat, c0_i32_4.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c3_i32 : BitVec 32 := 3#32
  let c1_i32_4 : BitVec 32 := 1#32
  let c0_i32_5 : BitVec 32 := 0#32
  let c0_i32_6 : BitVec 32 := 0#32
  let c0_i32_7 : BitVec 32 := 0#32
  ![c3_i32.toNat, v18.toNat, c1_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvLastRefIdeal.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x6144 : Shape := ⟨2, ![2048, 6144]⟩
abbrev S16384x2048 : Shape := ⟨2, ![16384, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x4x1x1x2048 : Shape := ⟨5, ![1, 4, 1, 1, 2048]⟩
abbrev S4x1x2048 : Shape := ⟨3, ![4, 1, 2048]⟩
abbrev S16384x6144 : Shape := ⟨2, ![16384, 6144]⟩

abbrev nBuf : Space → Nat
  | .hbm => 47
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4x8x6x1x2048, .f32⟩
  | .hbm, ⟨3, _⟩ => ⟨S2048x6144, .f32⟩
  | .hbm, ⟨4, _⟩ => ⟨S16384x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S1x4x1x1x2048, .f32⟩
  | .hbm, ⟨23, _⟩ => ⟨S4x1x2048, .f32⟩
  | .hbm, ⟨24, _⟩ => ⟨S1x4x1x1x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S16384x2048, .f32⟩
  | .hbm, ⟨34, _⟩ => ⟨S16384x6144, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | .hbm, ⟨39, _⟩ => ⟨S_, .i32⟩
  | .hbm, ⟨40, _⟩ => ⟨S_, .bf16⟩
  | .hbm, ⟨41, _⟩ => ⟨S20480x2048, .bf16⟩
  | .hbm, ⟨42, _⟩ => ⟨S16384x2048, .f32⟩
  | .hbm, ⟨43, _⟩ => ⟨S16384x2048, .bf16⟩
  | .hbm, ⟨44, _⟩ => ⟨S_, .i32⟩
  | .hbm, ⟨45, _⟩ => ⟨S_, .bf16⟩
  | .hbm, ⟨46, _⟩ => ⟨S20480x2048, .bf16⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_call1_v0 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== ScanIn.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x2048 : Shape := ⟨2, ![2048, 2048]⟩
abbrev S1x2048 : Shape := ⟨2, ![1, 2048]⟩
abbrev S512x2048 : Shape := ⟨2, ![512, 2048]⟩
abbrev S1x1x1x1x2048 : Shape := ⟨5, ![1, 1, 1, 1, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4x8x6x1x2048, .f32⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S20480x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v18.toNat, c0_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v18.toNat, c1_i32_5.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ScanInRefIdeal.lean ====
abbrev S20480x2048 : Shape := ⟨2, ![20480, 2048]⟩
abbrev S2048 : Shape := ⟨1, ![2048]⟩
abbrev S4x8x6x1x2048 : Shape := ⟨5, ![4, 8, 6, 1, 2048]⟩
abbrev S2048x2048 : Shape := ⟨2, ![2048, 2048]⟩
abbrev S16384x2048 : Shape := ⟨2, ![16384, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x4x1x1x2048 : Shape := ⟨5, ![1, 4, 1, 1, 2048]⟩
abbrev S4x1x2048 : Shape := ⟨3, ![4, 1, 2048]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩
abbrev S1x1x1x1x2048 : Shape := ⟨5, ![1, 1, 1, 1, 2048]⟩
abbrev S17408x2048 : Shape := ⟨2, ![17408, 2048]⟩

abbrev nBuf : Space → Nat
  | .hbm => 67
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4x8x6x1x2048, .f32⟩
  | .hbm, ⟨3, _⟩ => ⟨S2048x2048, .f32⟩
  | .hbm, ⟨4, _⟩ => ⟨S16384x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S1x4x1x1x2048, .f32⟩
  | .hbm, ⟨23, _⟩ => ⟨S4x1x2048, .f32⟩
  | .hbm, ⟨24, _⟩ => ⟨S1x4x1x1x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S1024x2048, .f32⟩
  | .hbm, ⟨46, _⟩ => ⟨S1024x2048, .f32⟩
  | .hbm, ⟨47, _⟩ => ⟨S1x2048, .f32⟩
  | .hbm, ⟨48, _⟩ => ⟨S1024x2048, .f32⟩
  | .hbm, ⟨49, _⟩ => ⟨S1024x2048, .f32⟩
  | .hbm, ⟨50, _⟩ => ⟨S1x1x1x1x2048, .f32⟩
  | .hbm, ⟨51, _⟩ => ⟨S1x2048, .f32⟩
  | .hbm, ⟨52, _⟩ => ⟨S1x1x1x1x2048, .f32⟩
  | .hbm, ⟨53, _⟩ => ⟨S1x2048, .f32⟩
  | .hbm, ⟨54, _⟩ => ⟨S_, .f32⟩
  | .hbm, ⟨55, _⟩ => ⟨S1x2048, .f32⟩
  | .hbm, ⟨56, _⟩ => ⟨S1x2048, .f32⟩
  | .hbm, ⟨57, _⟩ => ⟨S1024x2048, .f32⟩
  | .hbm, ⟨58, _⟩ => ⟨S1024x2048, .f32⟩
  | .hbm, ⟨59, _⟩ => ⟨S1024x2048, .f32⟩
  | .hbm, ⟨60, _⟩ => ⟨S1024x2048, .f32⟩
  | .hbm, ⟨61, _⟩ => ⟨S16384x2048, .f32⟩
  | .hbm, ⟨62, _⟩ => ⟨S17408x2048, .f32⟩
  | .hbm, ⟨63, _⟩ => ⟨S17408x2048, .f32⟩
  | .hbm, ⟨64, _⟩ => ⟨S_, .i32⟩
  | .hbm, ⟨65, _⟩ => ⟨S_, .f32⟩
  | .hbm, ⟨66, _⟩ => ⟨S20480x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c : Ref sig .tc := ⟨.hbm, 64, rfl⟩
abbrev main_call0_v0 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Glu.lean ====
abbrev S20480x2048 : Shape := ⟨2, ![20480, 2048]⟩
abbrev S4x8x6x1x2048 : Shape := ⟨5, ![4, 8, 6, 1, 2048]⟩
abbrev S2048x4096 : Shape := ⟨2, ![2048, 4096]⟩
abbrev S512x2048 : Shape := ⟨2, ![512, 2048]⟩
abbrev S2048x1024 : Shape := ⟨2, ![2048, 1024]⟩
abbrev S512x1024 : Shape := ⟨2, ![512, 1024]⟩
abbrev S1x1x1x1x1024 : Shape := ⟨5, ![1, 1, 1, 1, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S4x8x6x1x2048, .f32⟩
  | .hbm, ⟨3, _⟩ => ⟨S2048x4096, .f32⟩
  | .hbm, ⟨4, _⟩ => ⟨S2048x4096, .bf16⟩
  | .hbm, ⟨5, _⟩ => ⟨S20480x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![34, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c2_i32 : BitVec 32 := 2#32
  let c0_i32_5 : BitVec 32 := 0#32
  let c0_i32_6 : BitVec 32 := 0#32
  ![c1_i32_4.toNat, v18.toNat, c2_i32.toNat, c0_i32_5.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S20480x2048 : Shape := ⟨2, ![20480, 2048]⟩
abbrev S4x8x6x1x2048 : Shape := ⟨5, ![4, 8, 6, 1, 2048]⟩
abbrev S2048x4096 : Shape := ⟨2, ![2048, 4096]⟩
abbrev S17408x2048 : Shape := ⟨2, ![17408, 2048]⟩
abbrev S17408x4096 : Shape := ⟨2, ![17408, 4096]⟩
abbrev S1x4x1x1x2048 : Shape := ⟨5, ![1, 4, 1, 1, 2048]⟩
abbrev S4x1x2048 : Shape := ⟨3, ![4, 1, 2048]⟩
abbrev S4x4096x2048 : Shape := ⟨3, ![4, 4096, 2048]⟩
abbrev S16384x2048 : Shape := ⟨2, ![16384, 2048]⟩
abbrev S1x1x1x1x2048 : Shape := ⟨5, ![1, 1, 1, 1, 2048]⟩
abbrev S1x2048 : Shape := ⟨2, ![1, 2048]⟩
abbrev S1024x2048 : Shape := ⟨2, ![1024, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S4x8x6x1x2048, .f32⟩
  | .hbm, ⟨3, _⟩ => ⟨S2048x4096, .f32⟩
  | .hbm, ⟨4, _⟩ => ⟨S17408x2048, .f32⟩
  | .hbm, ⟨5, _⟩ => ⟨S17408x4096, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S1x4x1x1x2048, .f32⟩
  | .hbm, ⟨10, _⟩ => ⟨S4x1x2048, .f32⟩
  | .hbm, ⟨11, _⟩ => ⟨S4x4096x2048, .f32⟩
  | .hbm, ⟨12, _⟩ => ⟨S16384x2048, .f32⟩
  | .hbm, ⟨13, _⟩ => ⟨S1x1x1x1x2048, .f32⟩
  | .hbm, ⟨14, _⟩ => ⟨S1x2048, .f32⟩
  | .hbm, ⟨15, _⟩ => ⟨S1024x2048, .f32⟩
  | .hbm, ⟨16, _⟩ => ⟨S17408x2048, .f32⟩
  | .hbm, ⟨17, _⟩ => ⟨S17408x2048, .f32⟩
  | .hbm, ⟨18, _⟩ => ⟨S17408x2048, .f32⟩
  | .hbm, ⟨19, _⟩ => ⟨S_, .f32⟩
  | .hbm, ⟨20, _⟩ => ⟨S17408x2048, .f32⟩
  | .hbm, ⟨21, _⟩ => ⟨S17408x2048, .f32⟩
  | .hbm, ⟨22, _⟩ => ⟨S_, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S17408x2048, .f32⟩
  | .hbm, ⟨27, _⟩ => ⟨S17408x2048, .f32⟩
  | .hbm, ⟨28, _⟩ => ⟨S_, .i32⟩
  | .hbm, ⟨29, _⟩ => ⟨S_, .f32⟩
  | .hbm, ⟨30, _⟩ => ⟨S20480x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== AttnOut.lean ====
abbrev S20480x2048 : Shape := ⟨2, ![20480, 2048]⟩
abbrev S4x8x6x1x2048 : Shape := ⟨5, ![4, 8, 6, 1, 2048]⟩
abbrev S2048x2048 : Shape := ⟨2, ![2048, 2048]⟩
abbrev S512x2048 : Shape := ⟨2, ![512, 2048]⟩
abbrev S1x1x1x1x2048 : Shape := ⟨5, ![1, 1, 1, 1, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S20480x2048, .bf16⟩
  | .hbm, ⟨1, _⟩ => ⟨S20480x2048, .f32⟩
  | .hbm, ⟨2, _⟩ => ⟨S4x8x6x1x2048, .f32⟩
  | .hbm, ⟨3, _⟩ => ⟨S2048x2048, .f32⟩
  | .hbm, ⟨4, _⟩ => ⟨S2048x2048, .bf16⟩
  | .hbm, ⟨5, _⟩ => ⟨S20480x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c2_i32 : BitVec 32 := 2#32
  let c2_i32_4 : BitVec 32 := 2#32
  let c0_i32_5 : BitVec 32 := 0#32
  let c0_i32_6 : BitVec 32 := 0#32
  ![c2_i32.toNat, v18.toNat, c2_i32_4.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnOutRefIdeal.lean ====
abbrev S20480x2048 : Shape := ⟨2, ![20480, 2048]⟩
abbrev S4x8x6x1x2048 : Shape := ⟨5, ![4, 8, 6, 1, 2048]⟩
abbrev S2048x2048 : Shape := ⟨2, ![2048, 2048]⟩
abbrev S16384x2048 : Shape := ⟨2, ![16384, 2048]⟩
abbrev S4x4096x2048 : Shape := ⟨3, ![4, 4096, 2048]⟩
abbrev S1x4x1x1x2048 : Shape := ⟨5, ![1, 4, 1, 1, 2048]⟩
abbrev S4x1x2048 : Shape := ⟨3, ![4, 1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S20480x2048, .f32⟩
  | .hbm, ⟨2, _⟩ => ⟨S4x8x6x1x2048, .f32⟩
  | .hbm, ⟨3, _⟩ => ⟨S2048x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S4x4096x2048, .f32⟩
  | .hbm, ⟨8, _⟩ => ⟨S16384x2048, .f32⟩
  | .hbm, ⟨9, _⟩ => ⟨S4x4096x2048, .f32⟩
  | .hbm, ⟨10, _⟩ => ⟨S1x4x1x1x2048, .f32⟩
  | .hbm, ⟨11, _⟩ => ⟨S4x1x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S16384x2048, .f32⟩
  | .hbm, ⟨16, _⟩ => ⟨S_, .i32⟩
  | .hbm, ⟨17, _⟩ => ⟨S_, .f32⟩
  | .hbm, ⟨18, _⟩ => ⟨S20480x2048, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.AttnBody.lean ====
/-
  What one grid point of the differential attention stores, in the vector operations of its body: each of the eight
  groups of 256 query rows stores ONE function (`rowsOut`) of those rows, of all keys, of all values beside a block of
  ones, of the four lambda vectors and of the gain; and what the keys' and values' scratch arrays hold.
  Every statement holds at any reading of the floats.
-/
module

public import proofs.«01_k».proof.Proof.Gen.KernelIdeal.Frame
public import Idealize.ShloMosaic.Lib.Pipeline.Value

@[expose] public section

noncomputable section

namespace Cert.Proof.Attn

open Idealize.ShloMosaic Idealize.SL.Sem Cert.KernelIdeal
open Cert.KernelIdeal.Gen Idealize.ShloMosaic.TcCoe

variable {F : FTy → Type} [FloatOps F]

/-- The lanes of the first component of a head, `[0, 64)`, as a mask. -/
def loLanes : IVec S1x128 1 := cmpi .slt (iota .tc S1x128 32 [1] iota_S1x128_d1_w32) (broadcast S1x128 64#32)

/-- The lanes of the second component, `[64, 128)`. -/
def hiLanes : IVec S1x128 1 := cmpi .sge (iota .tc S1x128 32 [1] iota_S1x128_d1_w32) (broadcast S1x128 64#32)

/-- The scores of 256 query rows against every key, over the lanes of one component: the other lanes of the queries are
    zeroed and the product runs over all 128. -/
def scores (lanes : IVec S1x128 1) (q : FVec F S256x128 .bf16) (K : FVec F S4352x128 .bf16) : FVec F S256x4352 .f32 :=
  matmul dot_S256x128_S4352x128_S256x4352_1_1_0_0_n_n none
    (select (broadcastTo S256x128 (shapeCast S1x128 lanes shapeCasts_S1x128_S1x128) broadcasts_S1x128_S256x128) q
      (broadcast S256x128 (Scalar.ofBits .bf16 0x0000#16)))
    K (constant S256x4352 .f32 0x00000000#32)

/-- Two to the power of the scores less their row's maximum. -/
def weights (s : FVec F S256x4352 .f32) : FVec F S256x4352 .bf16 :=
  truncf .bf16 (exp2 (subf s (broadcastTo S256x4352
    (shapeCast S256x1 (multiReduction .maximumf [1] S256 s 0xFF800000#32 reduces_S256x4352_S256 (.inl rfl) rfl)
      shapeCasts_S256_S256x1) broadcasts_S256x1_S256x4352))) bitsLt_bf16_f32

/-- The weights' product with the values and with the ones beside them. -/
def weighed (p : FVec F S256x4352 .bf16) (V : FVec F S4352x256 .bf16) : FVec F S256x256 .f32 :=
  matmul dot_S256x4352_S4352x256_S256x256_1_0_0_1_n_n none p V (constant S256x256 .f32 0x00000000#32)

/-- The weighted values over the sum of the weights (the ones' column). -/
def averaged (pv : FVec F S256x256 .f32) : FVec F S256x128 .f32 :=
  divf (extractStridedSlice S256x128 ![0, 0] pv slices_S256x256_o0_0_S256x128)
    (broadcastTo S256x128 (extractStridedSlice S256x1 ![0, 128] pv slices_S256x256_o0_128_S256x1) broadcasts_S256x1_S256x128)

/-- One component's attention over the rows. -/
def component (lanes : IVec S1x128 1) (q : FVec F S256x128 .bf16) (K : FVec F S4352x128 .bf16) (V : FVec F S4352x256 .bf16) :
    FVec F S256x128 .f32 := averaged (weighed (weights (scores lanes q K)) V)

/-- The first component less lambda times the second. -/
def difference (lam : FVec F S1x1 .f32) (a b : FVec F S256x128 .f32) : FVec F S256x128 .f32 :=
  subf a (mulf (broadcastTo S256x128 lam broadcasts_S1x1_S256x128) b)

/-- The rows over their root mean square, times the gain and the constant the layer multiplies by. -/
def normed (o : FVec F S256x128 .f32) (g : FVec F S1x128 .f32) : FVec F S256x128 .bf16 :=
  truncf .bf16 (mulf (mulf (mulf o (broadcastTo S256x128
      (rsqrt (addf (divf (shapeCast S256x1 (multiReduction .add [1] S256 (mulf o o) 0x00000000#32 reduces_S256x128_S256 (.inl rfl) rfl)
          shapeCasts_S256_S256x1) (broadcast S256x1 (Scalar.ofBits .f32 0x43000000#32)))
        (broadcast S256x1 (Scalar.ofBits .f32 0x358637BD#32)))) broadcasts_S256x1_S256x128))
      (broadcastTo S256x128 (shapeCast S1x128 g shapeCasts_S1x128_S1x128) broadcasts_S1x128_S256x128))
    (broadcast S256x128 (Scalar.ofBits .f32 0x3F077F5A#32))) bitsLt_bf16_f32

/-- What 256 rows of queries store. -/
def rowsOut (q : FVec F S256x128 .bf16) (K : FVec F S4352x128 .bf16) (V : FVec F S4352x256 .bf16) (lp : FVec F S4x64 .f32)
    (g : FVec F S1x128 .f32) : FVec F S256x128 .bf16 :=
  normed (difference (k0_pay7 lp) (component loLanes q K V) (component hiLanes q K V)) g

/-- The eight stores of a grid point, the last first. -/
def stores (q : FVec F S2048x128 .bf16) (K : FVec F S4352x128 .bf16) (V : FVec F S4352x256 .bf16) (lp : FVec F S4x64 .f32)
    (g : FVec F S1x128 .f32) : List (View.Piece (Elt F) S2048x128 .bf16) :=
  [⟨Rect.unit ![1792, 0] ![256, 128] inb_S2048x128_S256x128_1792_0,
      rowsOut (extractStridedSlice S256x128 ![1792, 0] q slices_S2048x128_o1792_0_S256x128) K V lp g⟩,
   ⟨Rect.unit ![1536, 0] ![256, 128] inb_S2048x128_S256x128_1536_0,
      rowsOut (extractStridedSlice S256x128 ![1536, 0] q slices_S2048x128_o1536_0_S256x128) K V lp g⟩,
   ⟨Rect.unit ![1280, 0] ![256, 128] inb_S2048x128_S256x128_1280_0,
      rowsOut (extractStridedSlice S256x128 ![1280, 0] q slices_S2048x128_o1280_0_S256x128) K V lp g⟩,
   ⟨Rect.unit ![1024, 0] ![256, 128] inb_S2048x128_S256x128_1024_0,
      rowsOut (extractStridedSlice S256x128 ![1024, 0] q slices_S2048x128_o1024_0_S256x128) K V lp g⟩,
   ⟨Rect.unit ![768, 0] ![256, 128] inb_S2048x128_S256x128_768_0,
      rowsOut (extractStridedSlice S256x128 ![768, 0] q slices_S2048x128_o768_0_S256x128) K V lp g⟩,
   ⟨Rect.unit ![512, 0] ![256, 128] inb_S2048x128_S256x128_512_0,
      rowsOut (extractStridedSlice S256x128 ![512, 0] q slices_S2048x128_o512_0_S256x128) K V lp g⟩,
   ⟨Rect.unit ![256, 0] ![256, 128] inb_S2048x128_S256x128_256_0,
      rowsOut (extractStridedSlice S256x128 ![256, 0] q slices_S2048x128_o256_0_S256x128) K V lp g⟩,
   ⟨Rect.unit ![0, 0] ![256, 128] inb_S2048x128_S256x128_0_0,
      rowsOut (extractStridedSlice S256x128 ![0, 0] q slices_S2048x128_o0_0_S256x128) K V lp g⟩]

/-- The keys' scratch: the latent keys, then the context's. -/
def allKeys (k : FVec F S4096x128 .bf16) (kc : FVec F S256x128 .bf16) : FVec F S4352x128 .bf16 :=
  View.canon (Val := Elt F) (s := S4352x128) (e := .bf16)
   [⟨Rect.unit ![4096, 0] ![256, 128] inb_S4352x128_S256x128_4096_0, kc⟩,
    ⟨Rect.unit ![0, 0] ![4096, 128] inb_S4352x128_S4096x128_0_0, k⟩]

/-- The values' scratch: the latent values, then the context's, with ones to their right. -/
def allValues (v : FVec F S4096x128 .bf16) (vc : FVec F S256x128 .bf16) : FVec F S4352x256 .bf16 :=
  View.canon (Val := Elt F) (s := S4352x256) (e := .bf16)
   [⟨Rect.unit ![0, 128] ![4352, 128] inb_S4352x256_S4352x128_0_128, k0_pay6⟩,
    ⟨Rect.unit ![4096, 0] ![256, 128] inb_S4352x256_S256x128_4096_0, vc⟩,
    ⟨Rect.unit ![0, 0] ![4096, 128] inb_S4352x256_S4096x128_0_0, v⟩]

/-- A load of a whole staging buffer reads what it holds. -/
theorem readAt_unread {sp : Space} {s : Shape} {e : EltTy} (a : Memref sig .tc sp s e) (ha : a.IsWhole)
    {off : Fin s.rank → Nat} (h : off = fun _ => 0) (inb : ∀ d, off d + s.size d ≤ s.size d) (x : s.Idx → Elt F e) :
    View.readAt (Elt F) a.view (Rect.unit off s.size inb).toLoadRect (ha.unread x) = x := by
  have e1 : View.readAt (Elt F) a.view (Rect.unit off s.size inb).toLoadRect (ha.unread x)
      = View.ld (View.read (Elt F) a.view (ha.unread x)) (Rect.unit off s.size inb) := rfl
  rw [e1, ha.read_unread, View.ld_unit_zero h]

/-- A load of a whole scratch buffer after stores over any contents reads what the stores leave. -/
theorem readCov_whole {sp : Space} {s : Shape} {e : EltTy} (a : View sig .tc sp s e)
    {off : Fin s.rank → Nat} (h : off = fun _ => 0) (inb : ∀ d, off d + s.size d ≤ s.size d)
    (L : List (View.Piece (Elt F) s e)) :
    a.readCov L (Rect.unit off s.size inb).toLoadRect = View.canon L := by
  rw [View.readCov_eq_canon']
  exact View.ld_unit_zero h inb (View.canon L)

theorem off2 : (![0, 0] : Fin 2 → Nat) = fun _ => 0 := by funext a; fin_cases a <;> rfl

variable (c : Dev nD) (i : grid0.Coords) (arg3 : Memref sig .tc .vmem S2048x128 .bf16) (harg3 : arg3.IsWhole)
    (arg4 : Memref sig .tc .vmem S4096x128 .bf16) (harg4 : arg4.IsWhole)
    (arg5 : Memref sig .tc .vmem S256x128 .bf16) (harg5 : arg5.IsWhole)
    (arg6 : Memref sig .tc .vmem S4096x128 .bf16) (harg6 : arg6.IsWhole)
    (arg7 : Memref sig .tc .vmem S256x128 .bf16) (harg7 : arg7.IsWhole)
    (arg8 : Memref sig .tc .vmem S4x64 .f32) (harg8 : arg8.IsWhole)
    (arg9 : Memref sig .tc .vmem S1x128 .f32) (harg9 : arg9.IsWhole)
    (arg10 : Memref sig .tc .vmem S2048x128 .bf16) (harg10 : arg10.IsWhole)
    (arg11 : Memref sig .tc .vmem S4352x128 .bf16) (harg11 : arg11.IsWhole)
    (arg12 : Memref sig .tc .vmem S4352x256 .bf16) (harg12 : arg12.IsWhole)
    (x0 : Vec F S2048x128 .bf16) (x1 : Vec F S4096x128 .bf16) (x2 : Vec F S256x128 .bf16) (x3 : Vec F S4096x128 .bf16)
    (x4 : Vec F S256x128 .bf16) (x5 : Vec F S4x64 .f32) (x6 : Vec F S1x128 .f32)
    (y0 : Vec F S4352x128 .bf16) (y1 : Vec F S4352x256 .bf16)

/-- A grid point that finds its scratch filled stores `stores` of it. -/
theorem outB (hc0 : ¬cond0_0 i) :
    out0_B_7 c i arg3 harg3 arg4 harg4 arg5 harg5 arg6 harg6 arg7 harg7 arg8 harg8 arg9 harg9 arg10 harg10 arg11 harg11 arg12 harg12 hc0 x0 x1 x2 x3 x4 x5 x6 y0 y1
      = View.canon (stores x0 y0 y1 x5 x6) := by
  unfold out0_B_7
  rw [View.read_writes_junk_eq_canon]
  have h : (kernelRun0_B c i arg3 harg3 arg4 harg4 arg5 harg5 arg6 harg6 arg7 harg7 arg8 harg8 arg9 harg9 arg10 harg10 arg11 harg11 arg12 harg12 hc0 x0 x1 x2 x3 x4 x5 x6 y0 y1).1
      = stores (View.readAt (Elt F) arg3.view (Rect.unit ![0, 0] S2048x128.size inb_S2048x128_S2048x128_0_0).toLoadRect (harg3.unread x0))
        (View.readAt (Elt F) arg11.view (Rect.unit ![0, 0] S4352x128.size inb_S4352x128_S4352x128_0_0).toLoadRect (harg11.unread y0))
        (View.readAt (Elt F) arg12.view (Rect.unit ![0, 0] S4352x256.size inb_S4352x256_S4352x256_0_0).toLoadRect (harg12.unread y1))
        (View.readAt (Elt F) arg8.view (Rect.unit ![0, 0] S4x64.size inb_S4x64_S4x64_0_0).toLoadRect (harg8.unread x5))
        (View.readAt (Elt F) arg9.view (Rect.unit ![0, 0] S1x128.size inb_S1x128_S1x128_0_0).toLoadRect (harg9.unread x6)) := rfl
  rw [h, readAt_unread arg3 harg3 off2, readAt_unread arg11 harg11 off2, readAt_unread arg12 harg12 off2,
    readAt_unread arg8 harg8 off2, readAt_unread arg9 harg9 off2]

/-- The two stores of the keys, as the body makes them. -/
def keyStores (k : FVec F S4096x128 .bf16) (kc : FVec F S256x128 .bf16) : List (View.Piece (Elt F) S4352x128 .bf16) :=
  [⟨Rect.unit ![4096, 0] ![256, 128] inb_S4352x128_S256x128_4096_0, k0_pay3 kc⟩,
    ⟨Rect.unit ![0, 0] ![4096, 128] inb_S4352x128_S4096x128_0_0, k0_pay2 k⟩]

/-- The three stores of the values. -/
def valueStores (v : FVec F S4096x128 .bf16) (vc : FVec F S256x128 .bf16) : List (View.Piece (Elt F) S4352x256 .bf16) :=
  [⟨Rect.unit ![0, 128] ![4352, 128] inb_S4352x256_S4352x128_0_128, k0_pay6⟩,
    ⟨Rect.unit ![4096, 0] ![256, 128] inb_S4352x256_S256x128_4096_0, k0_pay5 vc⟩,
    ⟨Rect.unit ![0, 0] ![4096, 128] inb_S4352x256_S4096x128_0_0, k0_pay4 v⟩]

theorem canon_keyStores (k : FVec F S4096x128 .bf16) (kc : FVec F S256x128 .bf16) :
    View.canon (keyStores k kc) = allKeys k kc := by
  unfold keyStores k0_pay3 k0_pay2 allKeys
  simp only [shapeCast_self]

theorem canon_valueStores (v : FVec F S4096x128 .bf16) (vc : FVec F S256x128 .bf16) :
    View.canon (valueStores v vc) = allValues v vc := by
  unfold valueStores k0_pay5 k0_pay4 allValues
  simp only [shapeCast_self]

/-- A grid point that fills its scratch leaves the keys in it, -/
theorem scratchA_0 (hc0 : cond0_0 i) :
    sout0_A_0 c i arg3 harg3 arg4 harg4 arg5 harg5 arg6 harg6 arg7 harg7 arg8 harg8 arg9 harg9 arg10 harg10 arg11 harg11 arg12 harg12 hc0 x0 x1 x2 x3 x4 x5 x6
      = allKeys x1 x2 := by
  unfold sout0_A_0
  rw [View.read_writes_junk_eq_canon]
  have h : (kernelRun0_A c i arg3 harg3 arg4 harg4 arg5 harg5 arg6 harg6 arg7 harg7 arg8 harg8 arg9 harg9 arg10 harg10 arg11 harg11 arg12 harg12 hc0 x0 x1 x2 x3 x4 x5 x6).2.1
      = keyStores (View.readAt (Elt F) arg4.view (Rect.unit ![0, 0] S4096x128.size inb_S4096x128_S4096x128_0_0).toLoadRect (harg4.unread x1))
          (View.readAt (Elt F) arg5.view (Rect.unit ![0, 0] S256x128.size inb_S256x128_S256x128_0_0).toLoadRect (harg5.unread x2)) := rfl
  rw [h, readAt_unread arg5 harg5 off2, readAt_unread arg4 harg4 off2, canon_keyStores]

/-- and the values, -/
theorem scratchA_1 (hc0 : cond0_0 i) :
    sout0_A_1 c i arg3 harg3 arg4 harg4 arg5 harg5 arg6 harg6 arg7 harg7 arg8 harg8 arg9 harg9 arg10 harg10 arg11 harg11 arg12 harg12 hc0 x0 x1 x2 x3 x4 x5 x6
      = allValues x3 x4 := by
  unfold sout0_A_1
  rw [View.read_writes_junk_eq_canon]
  have h : (kernelRun0_A c i arg3 harg3 arg4 harg4 arg5 harg5 arg6 harg6 arg7 harg7 arg8 harg8 arg9 harg9 arg10 harg10 arg11 harg11 arg12 harg12 hc0 x0 x1 x2 x3 x4 x5 x6).2.2.1
      = valueStores (View.readAt (Elt F) arg6.view (Rect.unit ![0, 0] S4096x128.size inb_S4096x128_S4096x128_0_0).toLoadRect (harg6.unread x3))
          (View.readAt (Elt F) arg7.view (Rect.unit ![0, 0] S256x128.size inb_S256x128_S256x128_0_0).toLoadRect (harg7.unread x4)) := rfl
  rw [h, readAt_unread arg7 harg7 off2, readAt_unread arg6 harg6 off2, canon_valueStores]

/-- and stores `stores` of both. -/
theorem outA (hc0 : cond0_0 i) :
    out0_A_7 c i arg3 harg3 arg4 harg4 arg5 harg5 arg6 harg6 arg7 harg7 arg8 harg8 arg9 harg9 arg10 harg10 arg11 harg11 arg12 harg12 hc0 x0 x1 x2 x3 x4 x5 x6
      = View.canon (stores x0 (allKeys x1 x2) (allValues x3 x4) x5 x6) := by
  unfold out0_A_7
  rw [View.read_writes_junk_eq_canon]
  have h : (kernelRun0_A c i arg3 harg3 arg4 harg4 arg5 harg5 arg6 harg6 arg7 harg7 arg8 harg8 arg9 harg9 arg10 harg10 arg11 harg11 arg12 harg12 hc0 x0 x1 x2 x3 x4 x5 x6).1
      = stores (View.readAt (Elt F) arg3.view (Rect.unit ![0, 0] S2048x128.size inb_S2048x128_S2048x128_0_0).toLoadRect (harg3.unread x0))
        (arg11.view.readCov (keyStores
          (View.readAt (Elt F) arg4.view (Rect.unit ![0, 0] S4096x128.size inb_S4096x128_S4096x128_0_0).toLoadRect (harg4.unread x1))
          (View.readAt (Elt F) arg5.view (Rect.unit ![0, 0] S256x128.size inb_S256x128_S256x128_0_0).toLoadRect (harg5.unread x2)))
          (Rect.unit ![0, 0] S4352x128.size inb_S4352x128_S4352x128_0_0).toLoadRect)
        (arg12.view.readCov (valueStores
          (View.readAt (Elt F) arg6.view (Rect.unit ![0, 0] S4096x128.size inb_S4096x128_S4096x128_0_0).toLoadRect (harg6.unread x3))
          (View.readAt (Elt F) arg7.view (Rect.unit ![0, 0] S256x128.size inb_S256x128_S256x128_0_0).toLoadRect (harg7.unread x4)))
          (Rect.unit ![0, 0] S4352x256.size inb_S4352x256_S4352x256_0_0).toLoadRect)
        (View.readAt (Elt F) arg8.view (Rect.unit ![0, 0] S4x64.size inb_S4x64_S4x64_0_0).toLoadRect (harg8.unread x5))
        (View.readAt (Elt F) arg9.view (Rect.unit ![0, 0] S1x128.size inb_S1x128_S1x128_0_0).toLoadRect (harg9.unread x6)) := rfl
  rw [h, readCov_whole _ off2, readCov_whole _ off2, readAt_unread arg3 harg3 off2, readAt_unread arg4 harg4 off2,
    readAt_unread arg5 harg5 off2, readAt_unread arg6 harg6 off2, readAt_unread arg7 harg7 off2,
    readAt_unread arg8 harg8 off2, readAt_unread arg9 harg9 off2, canon_keyStores, canon_valueStores]

end Cert.Proof.Attn

end
-- ==== Proof.AttnRef.lean ====
/-
  What the reference computes, step by step: each of its arrays as a function of the arguments, in the reference's own
  operations, and then at an index over the extended reals.
-/
module

public import proofs.«01_k».proof.Proof.Gen.ReferenceIdeal.Run
public import Idealize.ShloMosaic.Lib.Pointwise
public import Idealize.ShloMosaic.PureOps.Ideal.Laws

@[expose] public section

noncomputable section

namespace Cert.Proof.AttnRef

open Idealize.ShloMosaic Idealize.SL.Sem Cert.ReferenceIdeal
open Cert.ReferenceIdeal.Gen Idealize.ShloMosaic.TcCoe
open Cert.ReferenceIdeal.Facts

variable {F : FTy → Type} [FloatOps F]

/-- The queries by batch, position, head, component and lane. -/
def queries (q : FVec F S20480x2048 .bf16) : FVec F S4x4096x16x2x64 .f32 :=
  shapeCast _ (extractStridedSlice S16384x2048 ![0, 0] (extf .f32 q bitsLt_bf16_f32) slices_S20480x2048_S16384x2048_0_0)
    shapeCasts_S16384x2048_S4x4096x16x2x64

/-- The keys of the latent and then of the context tokens. -/
def keys (k : FVec F S20480x2048 .bf16) : FVec F S4x4352x16x2x64 .f32 :=
  concatenate S4x4352x16x2x64 1
    [⟨S4x4096x16x2x64, shapeCast _ (extractStridedSlice S16384x2048 ![0, 0] (extf .f32 k bitsLt_bf16_f32)
        slices_S20480x2048_S16384x2048_0_0) shapeCasts_S16384x2048_S4x4096x16x2x64⟩,
     ⟨S4x256x16x2x64, shapeCast _ (extractStridedSlice S1024x2048 ![16384, 0] (extf .f32 k bitsLt_bf16_f32)
        slices_S20480x2048_S1024x2048_16384_0) shapeCasts_S1024x2048_S4x256x16x2x64⟩]
    concatenates_S4x4096x16x2x64_S4x256x16x2x64_S4x4352x16x2x64_d1

/-- The values of both. -/
def values (v : FVec F S20480x2048 .bf16) : FVec F S4x4352x16x128 .f32 :=
  concatenate S4x4352x16x128 1
    [⟨S4x4096x16x128, shapeCast _ (extractStridedSlice S16384x2048 ![0, 0] (extf .f32 v bitsLt_bf16_f32)
        slices_S20480x2048_S16384x2048_0_0) shapeCasts_S16384x2048_S4x4096x16x128⟩,
     ⟨S4x256x16x128, shapeCast _ (extractStridedSlice S1024x2048 ![16384, 0] (extf .f32 v bitsLt_bf16_f32)
        slices_S20480x2048_S1024x2048_16384_0) shapeCasts_S1024x2048_S4x256x16x128⟩]
    concatenates_S4x4096x16x128_S4x256x16x128_S4x4352x16x128_d1

/-- The scores, in units of the natural logarithm. -/
def scores (q : FVec F S4x4096x16x2x64 .f32) (k : FVec F S4x4352x16x2x64 .f32) : FVec F S4x16x2x4096x4352 .f32 :=
  mulf (Host.dotGeneral dot_S4x4096x16x2x64_S4x4352x16x2x64_S4x16x2x4096x4352_4_4_1_1_023_023 none q k)
    (broadcastInDim S4x16x2x4096x4352 ![] bcast_S_S4x16x2x4096x4352 (Host.log (constant S_ .f32 0x40000000#32)))

/-- Each row's largest score. -/
def largest (s : FVec F S4x16x2x4096x4352 .f32) : FVec F S4x16x2x4096 .f32 :=
  maximumf (broadcastInDim S4x16x2x4096 ![] bcast_S_S4x16x2x4096 (constant S_ .f32 0xFF800000#32))
    (Host.reduce FloatOps.maximumf s (constant S_ .f32 0xFF800000#32) reducesTo_S4x16x2x4096x4352_S4x16x2x4096_d4 h_S_)

/-- A row's number at every one of its scores. -/
def along (r : FVec F S4x16x2x4096 .f32) : FVec F S4x16x2x4096x4352 .f32 :=
  broadcastInDim S4x16x2x4096x4352 ![0, 1, 2, 3, 4] bcast_S4x16x2x4096x1_S4x16x2x4096x4352_0_1_2_3_4
    (broadcastInDim S4x16x2x4096x1 ![0, 1, 2, 3] bcast_S4x16x2x4096_S4x16x2x4096x1_0_1_2_3 r)

/-- The exponentials of the scores less their row's largest. -/
def exps (s : FVec F S4x16x2x4096x4352 .f32) : FVec F S4x16x2x4096x4352 .f32 := Host.exp (subf s (along (largest s)))

/-- The softmax. -/
def probs (e : FVec F S4x16x2x4096x4352 .f32) : FVec F S4x16x2x4096x4352 .f32 :=
  Host.divf e (along (Host.reduceAdd e (constant S_ .f32 0x00000000#32) reducesTo_S4x16x2x4096x4352_S4x16x2x4096_d4 h_S_))

/-- Lambda. -/
def lam (lp : FVec F S4x64 .f32) : FVec F S_ .f32 :=
  addf (subf (Host.exp (Host.reduceAdd (mulf (shapeCast _ (extractStridedSlice S1x64 ![0, 0] lp slices_S4x64_S1x64_0_0) shapeCasts_S1x64_S64)
        (shapeCast _ (extractStridedSlice S1x64 ![1, 0] lp slices_S4x64_S1x64_1_0) shapeCasts_S1x64_S64))
        (constant S_ .f32 0x00000000#32) reducesTo_S64_S_d0 h_S_))
      (Host.exp (Host.reduceAdd (mulf (shapeCast _ (extractStridedSlice S1x64 ![2, 0] lp slices_S4x64_S1x64_2_0) shapeCasts_S1x64_S64)
        (shapeCast _ (extractStridedSlice S1x64 ![3, 0] lp slices_S4x64_S1x64_3_0) shapeCasts_S1x64_S64))
        (constant S_ .f32 0x00000000#32) reducesTo_S64_S_d0 h_S_)))
    (constant S_ .f32 0x3EF1014C#32)

/-- The first component's softmax less lambda times the second's. -/
def weights (l : FVec F S_ .f32) (p : FVec F S4x16x2x4096x4352 .f32) : FVec F S4x16x4096x4352 .f32 :=
  subf (shapeCast _ (extractStridedSlice S4x16x1x4096x4352 ![0, 0, 0, 0, 0] p slices_S4x16x2x4096x4352_S4x16x1x4096x4352_0_0_0_0_0)
      shapeCasts_S4x16x1x4096x4352_S4x16x4096x4352)
    (mulf (broadcastInDim S4x16x4096x4352 ![] bcast_S_S4x16x4096x4352 l)
      (shapeCast _ (extractStridedSlice S4x16x1x4096x4352 ![0, 0, 1, 0, 0] p slices_S4x16x2x4096x4352_S4x16x1x4096x4352_0_0_1_0_0)
        shapeCasts_S4x16x1x4096x4352_S4x16x4096x4352))

/-- The weighted values, by batch, position, head and lane. -/
def mixed (v : FVec F S4x4352x16x128 .f32) (w : FVec F S4x16x4096x4352 .f32) : FVec F S4x4096x16x128 .f32 :=
  transpose S4x4096x16x128 [0, 3, 1, 2]
    (Host.dotGeneral dot_S4x4352x16x128_S4x16x4096x4352_S4x16x128x4096_1_3_3_2_02_01 none v w)
    transposes_S4x16x128x4096_S4x4096x16x128_0_3_1_2

/-- Those over their root mean square, times the gain, times the layer's constant. -/
def normed (o : FVec F S4x4096x16x128 .f32) (g : FVec F S128 .f32) : FVec F S4x4096x16x128 .f32 :=
  mulf (mulf (mulf o (broadcastInDim S4x4096x16x128 ![0, 1, 2, 3] bcast_S4x4096x16x1_S4x4096x16x128_0_1_2_3
      (Host.rsqrt (addf (Host.divf (broadcastInDim S4x4096x16x1 ![0, 1, 2] bcast_S4x4096x16_S4x4096x16x1_0_1_2
          (Host.reduceAdd (mulf o o) (constant S_ .f32 0x00000000#32) reducesTo_S4x4096x16x128_S4x4096x16_d3 h_S_))
          (broadcastInDim S4x4096x16x1 ![] bcast_S_S4x4096x16x1 (constant S_ .f32 0x43000000#32)))
        (broadcastInDim S4x4096x16x1 ![] bcast_S_S4x4096x16x1 (constant S_ .f32 0x358637BD#32))))))
      (broadcastInDim S4x4096x16x128 ![0, 1, 2, 3] bcast_S1x1x1x128_S4x4096x16x128_0_1_2_3
        (broadcastInDim S1x1x1x128 ![3] bcast_S128_S1x1x1x128_3 g)))
    (broadcastInDim S4x4096x16x128 ![] bcast_S_S4x4096x16x128 (constant S_ .f32 0x3F077F5A#32))

/-- The rows the reference returns, of the latent tokens. -/
def attended (q k v : FVec F S20480x2048 .bf16) (lp : FVec F S4x64 .f32) : FVec F S4x4096x16x128 .f32 :=
  mixed (values v) (weights (lam lp) (probs (exps (scores (queries q) (keys k)))))

/-- The whole result: those rows, and zeros below. -/
def result (q k v : FVec F S20480x2048 .bf16) (lp : FVec F S4x64 .f32) (g : FVec F S128 .f32) : FVec F S20480x2048 .bf16 :=
  pad S20480x2048 ![0, 0] ![4096, 0] ![0, 0]
    (truncf .bf16 (shapeCast S16384x2048 (normed (attended q k v lp) g) shapeCasts_S4x4096x16x128_S16384x2048) bitsLt_bf16_f32)
    (sitofp .bf16 (constantI S_ 32 0#32)) pads_S16384x2048_S20480x2048_040960_000 h_S_

set_option maxRecDepth 8192 in
/-- The reference's composed term is `result` of its arguments. -/
theorem res_eq (m : (ℓ : Loc nD τ sig) → Buf (Elt F) ℓ) (c : Dev nD) :
    Cert.ReferenceIdeal.Value.res_out0 m c
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := rfl

/-! ## At an index, over the extended reals -/

/-- A maximum over the last of five axes. -/
theorem max_last {n0 n1 n2 n3 n4 : Nat} (s : FVec Ideal ⟨5, ![n0, n1, n2, n3, n4]⟩ .f32) (b : FVec Ideal S_ .f32)
    (h : (⟨5, ![n0, n1, n2, n3, n4]⟩ : Shape).ReducesTo [4] ⟨4, ![n0, n1, n2, n3]⟩) (hu : 0 < S_.numel)
    (i0 : Fin n0) (i1 : Fin n1) (i2 : Fin n2) (i3 : Fin n3) :
    Host.reduce FloatOps.maximumf s b h hu (ix4 i0 i1 i2 i3)
      = Finset.univ.fold max (b (Shape.Idx.first hu)) (fun x => s (ix5 i0 i1 i2 i3 x)) := by
  pointwise

theorem maximumf_at {s : Shape} (x y : FVec Ideal s .f32) (i : s.Idx) : maximumf x y i = max (x i) (y i) := rfl

theorem constant_at {s : Shape} (w : BitVec 32) (i : s.Idx) : constant (F := Ideal) s .f32 w i = Ideal.ofBits .f32 w := rfl

variable (q k v : FVec Ideal S20480x2048 .bf16)

theorem queries_at (b : Fin 4) (t : Fin 4096) (h : Fin 16) (c : Fin 2) (d : Fin 64) :
    queries q (ix5 b t h c d) = q (ix2 ⟨b.val * 4096 + t.val, by omega⟩ ⟨h.val * 128 + c.val * 64 + d.val, by omega⟩) := by
  unfold queries
  pointwise

theorem keys_at (b : Fin 4) (j : Fin 4352) (h : Fin 16) (c : Fin 2) (d : Fin 64) :
    keys k (ix5 b j h c d)
      = if hj : j.val < 4096 then k (ix2 ⟨b.val * 4096 + j.val, by omega⟩ ⟨h.val * 128 + c.val * 64 + d.val, by omega⟩)
        else k (ix2 ⟨16384 + (b.val * 256 + (j.val - 4096)), by omega⟩ ⟨h.val * 128 + c.val * 64 + d.val, by omega⟩) := by
  unfold keys
  pointwise

theorem values_at (b : Fin 4) (j : Fin 4352) (h : Fin 16) (d : Fin 128) :
    values v (ix4 b j h d)
      = if hj : j.val < 4096 then v (ix2 ⟨b.val * 4096 + j.val, by omega⟩ ⟨h.val * 128 + d.val, by omega⟩)
        else v (ix2 ⟨16384 + (b.val * 256 + (j.val - 4096)), by omega⟩ ⟨h.val * 128 + d.val, by omega⟩) := by
  unfold values
  pointwise

theorem scores_at (q : FVec Ideal S4x4096x16x2x64 .f32) (k : FVec Ideal S4x4352x16x2x64 .f32)
    (b : Fin 4) (h : Fin 16) (c : Fin 2) (t : Fin 4096) (j : Fin 4352) :
    scores q k (ix5 b h c t j)
      = (∑ x : Fin 64, q (ix5 b t h c x) * k (ix5 b j h c x)) * Ideal.log (Ideal.ofBits .f32 0x40000000#32) := by
  unfold scores
  pointwise [dot_S4x4096x16x2x64_S4x4352x16x2x64_S4x16x2x4096x4352_4_4_1_1_023_023]

theorem largest_at (s : FVec Ideal S4x16x2x4096x4352 .f32) (b : Fin 4) (h : Fin 16) (c : Fin 2) (t : Fin 4096) :
    largest s (ix4 b h c t)
      = max (Ideal.ofBits .f32 0xFF800000#32)
          (Finset.univ.fold max (Ideal.ofBits .f32 0xFF800000#32) (fun x : Fin 4352 => s (ix5 b h c t x))) := by
  have hb : ∀ i : S4x16x2x4096.Idx, broadcastInDim S4x16x2x4096 ![] bcast_S_S4x16x2x4096 (constant (F := Ideal) S_ .f32 0xFF800000#32) i
      = Ideal.ofBits .f32 0xFF800000#32 := fun _ => rfl
  unfold largest
  rw [maximumf_at, max_last, hb, constant_at]

theorem along_at (r : FVec Ideal S4x16x2x4096 .f32) (b : Fin 4) (h : Fin 16) (c : Fin 2) (t : Fin 4096) (j : Fin 4352) :
    along r (ix5 b h c t j) = r (ix4 b h c t) := by
  unfold along
  pointwise

/-- The exponential of a score of a row less the row's largest. -/
def expOf (s : Fin 4352 → EReal) (j : Fin 4352) : EReal :=
  Ideal.exp (s j - max (Ideal.ofBits .f32 0xFF800000#32)
    ((Finset.univ : Finset (Fin 4352)).fold max (Ideal.ofBits .f32 0xFF800000#32) s))

theorem exps_at (s : FVec Ideal S4x16x2x4096x4352 .f32) (b : Fin 4) (h : Fin 16) (c : Fin 2) (t : Fin 4096) (j : Fin 4352) :
    exps s (ix5 b h c t j) = expOf (fun x => s (ix5 b h c t x)) j := by
  have e : exps s (ix5 b h c t j) = Ideal.exp (s (ix5 b h c t j) - along (largest s) (ix5 b h c t j)) := by
    unfold exps
    pointwise
  rw [e, along_at, largest_at, expOf]

theorem probs_at (e : FVec Ideal S4x16x2x4096x4352 .f32) (b : Fin 4) (h : Fin 16) (c : Fin 2) (t : Fin 4096) (j : Fin 4352) :
    probs e (ix5 b h c t j) = Ideal.div (e (ix5 b h c t j)) (∑ x : Fin 4352, e (ix5 b h c t x)) := by
  unfold probs along
  pointwise

theorem weights_at (l : FVec Ideal S_ .f32) (p : FVec Ideal S4x16x2x4096x4352 .f32) (b : Fin 4) (h : Fin 16)
    (t : Fin 4096) (j : Fin 4352) :
    weights l p (ix4 b h t j) = p (ix5 b h 0 t j) - l ix0 * p (ix5 b h 1 t j) := by
  unfold weights
  pointwise

theorem mixed_at (v : FVec Ideal S4x4352x16x128 .f32) (w : FVec Ideal S4x16x4096x4352 .f32) (b : Fin 4) (t : Fin 4096)
    (h : Fin 16) (d : Fin 128) : mixed v w (ix4 b t h d) = ∑ x : Fin 4352, v (ix4 b x h d) * w (ix4 b h t x) := by
  unfold mixed
  pointwise [dot_S4x4352x16x128_S4x16x4096x4352_S4x16x128x4096_1_3_3_2_02_01]

/-- A row of 128 numbers over its root mean square, times the gain, times the layer's constant. -/
def normedOf (o g : Fin 128 → EReal) (d : Fin 128) : EReal :=
  o d * Ideal.rsqrt (Ideal.div (∑ x, o x * o x) (Ideal.ofBits .f32 0x43000000#32) + Ideal.ofBits .f32 0x358637BD#32) * g d
    * Ideal.ofBits .f32 0x3F077F5A#32

theorem normed_at (o : FVec Ideal S4x4096x16x128 .f32) (g : FVec Ideal S128 .f32) (b : Fin 4) (t : Fin 4096)
    (h : Fin 16) (d : Fin 128) : normed o g (ix4 b t h d) = normedOf (fun x => o (ix4 b t h x)) (fun x => g (ix1 x)) d := by
  unfold normed normedOf
  pointwise

/-- Lambda of the four vectors. -/
def lamOf (lp : FVec Ideal S4x64 .f32) : EReal :=
  Ideal.exp (∑ x : Fin 64, lp (ix2 0 x) * lp (ix2 1 x)) - Ideal.exp (∑ x : Fin 64, lp (ix2 2 x) * lp (ix2 3 x))
    + Ideal.ofBits .f32 0x3EF1014C#32

theorem lam_at (lp : FVec Ideal S4x64 .f32) : lam lp ix0 = lamOf lp := by
  unfold lam lamOf
  pointwise

/-- The score of a query row against key `j`, times `log 2`. -/
def scoreOf (q k : FVec Ideal S20480x2048 .bf16) (b : Fin 4) (h : Fin 16) (t : Fin 4096) (c : Fin 2) (j : Fin 4352) : EReal :=
  (∑ x : Fin 64, queries q (ix5 b t h c x) * keys k (ix5 b j h c x)) * Ideal.log (Ideal.ofBits .f32 0x40000000#32)

/-- Softmax of a row. -/
def softmaxOf (s : Fin 4352 → EReal) (j : Fin 4352) : EReal := Ideal.div (expOf s j) (∑ x, expOf s x)

theorem attended_at (lp : FVec Ideal S4x64 .f32) (b : Fin 4) (t : Fin 4096) (h : Fin 16) (d : Fin 128) :
    attended q k v lp (ix4 b t h d)
      = ∑ j : Fin 4352, values v (ix4 b j h d)
          * (softmaxOf (scoreOf q k b h t 0) j - lamOf lp * softmaxOf (scoreOf q k b h t 1) j) := by
  unfold attended
  rw [mixed_at]
  refine Finset.sum_congr rfl fun j _ => ?_
  rw [weights_at, probs_at, probs_at, lam_at]
  simp only [exps_at, scores_at]
  rfl

theorem result_at (lp : FVec Ideal S4x64 .f32) (g : FVec Ideal S128 .f32) (b : Fin 4) (t : Fin 4096) (h : Fin 16) (d : Fin 128) :
    result q k v lp g (ix2 ⟨b.val * 4096 + t.val, by omega⟩ ⟨h.val * 128 + d.val, by omega⟩)
      = normedOf (fun x => attended q k v lp (ix4 b t h x)) (fun x => g (ix1 x)) d := by
  unfold result
  pointwise
  rw [dif_pos ⟨by omega, by omega⟩, normed_at]

end Cert.Proof.AttnRef

end
-- ==== Proof.AttnRows.lean ====
/-
  What a grid point's stores hold at an index, over the extended reals: the scores of a row run over the 64 lanes of
  their component, the weights are powers of two, and a row is normalised as the reference normalises it.
-/
module

public import proofs.«01_k».proof.Proof.AttnBody
public import proofs.«01_k».proof.Proof.AttnRef
public import Idealize.ShloMosaic.Lib.Pointwise
public import Idealize.ShloMosaic.Lib.IdealHost
public import Idealize.ShloMosaic.PureOps.Ideal.Laws

@[expose] public section

noncomputable section

namespace Cert.Proof.Attn

open Idealize.ShloMosaic Idealize.SL.Sem Cert.KernelIdeal
open Cert.KernelIdeal.Gen Idealize.ShloMosaic.TcCoe
open Cert.Proof.AttnRef (normedOf lamOf)

/-- Whether a lane is below 64, as a mask bit. -/
theorem lane_lt : ∀ x : Fin 128, IntOp.cmpi .slt (BitVec.ofNat 32 x.val) 64#32 = if x.val < 64 then 1#1 else 0#1 := by
  decide +kernel

theorem lane_ge : ∀ x : Fin 128, IntOp.cmpi .sge (BitVec.ofNat 32 x.val) 64#32 = if x.val < 64 then 0#1 else 1#1 := by
  decide +kernel

/-- A sum over 128 lanes is a sum over the first 64 and one over the last. -/
theorem sum_lanes (f : Fin 128 → EReal) :
    ∑ x, f x = (∑ x : Fin 64, f ⟨x.val, by omega⟩) + ∑ x : Fin 64, f ⟨64 + x.val, by omega⟩ :=
  Fin.sum_univ_add (a := 64) (b := 64) f

theorem scores_lo (q : FVec Ideal S256x128 .bf16) (K : FVec Ideal S4352x128 .bf16) (i : Fin 256) (j : Fin 4352) :
    scores loLanes q K (ix2 i j) = ∑ x : Fin 64, q (ix2 i ⟨x.val, by omega⟩) * K (ix2 j ⟨x.val, by omega⟩) := by
  have e : scores loLanes q K (ix2 i j)
      = ∑ x : Fin 128, Scalar.select (IntOp.cmpi .slt (BitVec.ofNat 32 x.val) 64#32) (q (ix2 i x) * K (ix2 j x)) (0 : EReal) := by
    unfold scores loLanes
    pointwise [dot_S256x128_S4352x128_S256x4352_1_1_0_0_n_n]
  rw [e, sum_lanes]
  have z : ∑ x : Fin 64, Scalar.select (IntOp.cmpi .slt (BitVec.ofNat 32 (64 + x.val)) 64#32)
      (q (ix2 i ⟨64 + x.val, by omega⟩) * K (ix2 j ⟨64 + x.val, by omega⟩)) (0 : EReal) = 0 := by
    refine Finset.sum_eq_zero fun x _ => ?_
    rw [lane_lt ⟨64 + x.val, by omega⟩, if_neg (by show ¬(64 + x.val < 64); omega)]
    rfl
  refine (congrArg (_ + ·) z).trans ((add_zero _).trans (Finset.sum_congr rfl fun x _ => ?_))
  rw [lane_lt ⟨x.val, by omega⟩, if_pos (show x.val < 64 from x.isLt)]
  rfl

theorem scores_hi (q : FVec Ideal S256x128 .bf16) (K : FVec Ideal S4352x128 .bf16) (i : Fin 256) (j : Fin 4352) :
    scores hiLanes q K (ix2 i j) = ∑ x : Fin 64, q (ix2 i ⟨64 + x.val, by omega⟩) * K (ix2 j ⟨64 + x.val, by omega⟩) := by
  have e : scores hiLanes q K (ix2 i j)
      = ∑ x : Fin 128, Scalar.select (IntOp.cmpi .sge (BitVec.ofNat 32 x.val) 64#32) (q (ix2 i x) * K (ix2 j x)) (0 : EReal) := by
    unfold scores hiLanes
    pointwise [dot_S256x128_S4352x128_S256x4352_1_1_0_0_n_n]
  rw [e, sum_lanes]
  have z : ∑ x : Fin 64, Scalar.select (IntOp.cmpi .sge (BitVec.ofNat 32 x.val) 64#32)
      (q (ix2 i ⟨x.val, by omega⟩) * K (ix2 j ⟨x.val, by omega⟩)) (0 : EReal) = 0 := by
    refine Finset.sum_eq_zero fun x _ => ?_
    rw [lane_ge ⟨x.val, by omega⟩, if_pos (show x.val < 64 from x.isLt)]
    rfl
  refine (congrArg (· + _) z).trans ((zero_add _).trans (Finset.sum_congr rfl fun x _ => ?_))
  rw [lane_ge ⟨64 + x.val, by omega⟩, if_neg (by show ¬(64 + x.val < 64); omega)]
  rfl

/-- Two to the power of a score of a row less the row's largest. -/
def weightOf (s : Fin 4352 → EReal) (j : Fin 4352) : EReal :=
  Ideal.exp2 (s j - (Finset.univ : Finset (Fin 4352)).fold max (Ideal.ofBits .f32 0xFF800000#32) s)

/-- The weighted values of a row over its weights' sum, the weights of that sum multiplied by the ones beside the values. -/
def componentOf (s v o : Fin 4352 → EReal) : EReal := Ideal.div (∑ j, weightOf s j * v j) (∑ j, weightOf s j * o j)

theorem component_at (lanes : IVec S1x128 1) (q : FVec Ideal S256x128 .bf16) (K : FVec Ideal S4352x128 .bf16)
    (V : FVec Ideal S4352x256 .bf16) (i : Fin 256) (d : Fin 128) :
    component lanes q K V (ix2 i d)
      = componentOf (fun j => scores lanes q K (ix2 i j)) (fun j => V (ix2 j ⟨d.val, by omega⟩)) (fun j => V (ix2 j 128)) := by
  have e1 : ∀ pv : FVec Ideal S256x256 .f32, averaged pv (ix2 i d) = Ideal.div (pv (ix2 i ⟨d.val, by omega⟩)) (pv (ix2 i 128)) := by
    intro pv
    unfold averaged
    pointwise
  have e2 : ∀ (p : FVec Ideal S256x4352 .bf16) (j : Fin 256), weighed p V (ix2 i j) = ∑ x : Fin 4352, p (ix2 i x) * V (ix2 x j) := by
    intro p j
    unfold weighed
    pointwise [dot_S256x4352_S4352x256_S256x256_1_0_0_1_n_n]
  have e3 : ∀ (s : FVec Ideal S256x4352 .f32) (j : Fin 4352), weights s (ix2 i j) = weightOf (fun x => s (ix2 i x)) j := by
    intro s j
    have e : weights s (ix2 i j) = FloatOps.exp2 (F := Ideal) (φ := .f32) (s (ix2 i j)
        - Finset.fold max (Ideal.ofBits .f32 0xFF800000#32) (fun x => s (ix2 i x)) Finset.univ) := by
      unfold weights
      pointwise
    exact e
  unfold component
  rw [e1, e2, e2]
  simp only [e3]
  rfl

theorem lambda_at (lp : Vec Ideal S4x64 .f32) : k0_pay7 lp (ix2 0 0) = lamOf lp := by
  unfold k0_pay7 lamOf
  pointwise

/-- A row before its normalisation: the first component less lambda times the second. -/
def mixedOf (q : Fin 128 → EReal) (K : Fin 4352 → Fin 128 → EReal) (V : Fin 4352 → Fin 256 → EReal) (l : EReal) (d : Fin 128) :
    EReal :=
  componentOf (fun j => ∑ x : Fin 64, q ⟨x.val, by omega⟩ * K j ⟨x.val, by omega⟩) (fun j => V j ⟨d.val, by omega⟩) (fun j => V j 128)
    - l * componentOf (fun j => ∑ x : Fin 64, q ⟨64 + x.val, by omega⟩ * K j ⟨64 + x.val, by omega⟩)
        (fun j => V j ⟨d.val, by omega⟩) (fun j => V j 128)

/-- A stored row at an index. -/
theorem rowsOut_at (q : FVec Ideal S256x128 .bf16) (K : FVec Ideal S4352x128 .bf16) (V : FVec Ideal S4352x256 .bf16)
    (lp : FVec Ideal S4x64 .f32) (g : FVec Ideal S1x128 .f32) (i : Fin 256) (d : Fin 128) :
    rowsOut q K V lp g (ix2 i d)
      = normedOf (mixedOf (fun x => q (ix2 i x)) (fun j x => K (ix2 j x)) (fun j x => V (ix2 j x)) (lamOf lp))
          (fun x => g (ix2 0 x)) d := by
  have e1 : ∀ o : FVec Ideal S256x128 .f32, normed o g (ix2 i d) = normedOf (fun x => o (ix2 i x)) (fun x => g (ix2 0 x)) d := by
    intro o
    unfold normed normedOf
    pointwise
  have e2 : ∀ (l : FVec Ideal S1x1 .f32) (a b : FVec Ideal S256x128 .f32) (x : Fin 128),
      difference l a b (ix2 i x) = a (ix2 i x) - l (ix2 0 0) * b (ix2 i x) := by
    intro l a b x
    unfold difference
    pointwise
  unfold rowsOut
  rw [e1]
  refine congrArg (fun o => normedOf o _ d) (funext fun x => ?_)
  rw [e2, lambda_at, component_at, component_at]
  simp only [scores_lo, scores_hi]
  rfl

/-- What a grid point leaves in its block, at row `i` and lane `d`. -/
theorem stores_at (q : FVec Ideal S2048x128 .bf16) (K : FVec Ideal S4352x128 .bf16) (V : FVec Ideal S4352x256 .bf16)
    (lp : FVec Ideal S4x64 .f32) (g : FVec Ideal S1x128 .f32) (i : Fin 2048) (d : Fin 128) :
    View.canon (stores q K V lp g) (ix2 i d)
      = normedOf (mixedOf (fun x => q (ix2 i x)) (fun j x => K (ix2 j x)) (fun j x => V (ix2 j x)) (lamOf lp))
          (fun x => g (ix2 0 x)) d := by
  let G : S2048x128.Idx → EReal := fun y =>
    normedOf (mixedOf (fun x => q (ix2 (y 0) x)) (fun j x => K (ix2 j x)) (fun j x => V (ix2 j x)) (lamOf lp)) (fun x => g (ix2 0 x)) (y 1)
  have piece : ∀ (o : Nat) (ho : o + 256 ≤ 2048) (sl : S2048x128.Slices ![o, 0] S256x128) (inb) (x : S256x128.Idx),
      rowsOut (extractStridedSlice S256x128 ![o, 0] q sl) K V lp g x
        = G ((Rect.unit (s := S2048x128) ![o, 0] ![256, 128] inb).emb x) := by
    intro o ho sl inb x
    obtain ⟨x0, x1, rfl⟩ : ∃ (x0 : Fin 256) (x1 : Fin 128), x = ix2 x0 x1 :=
      ⟨x 0, x 1, by funext a; fin_cases a <;> rfl⟩
    rw [rowsOut_at]
    have es : ∀ z : Fin 128, extractStridedSlice S256x128 ![o, 0] q sl (ix2 x0 z) = q (ix2 ⟨o + x0.val, by omega⟩ z) := by
      intro z
      pointwise
    have e0 : (Rect.unit (s := S2048x128) ![o, 0] ![256, 128] inb).emb (ix2 x0 x1) 0
        = (⟨o + x0.val, by omega⟩ : Fin 2048) := by
      apply Fin.ext
      rw [Rect.emb_apply]
      show o + 1 * x0.val = o + x0.val
      omega
    have e1 : (Rect.unit (s := S2048x128) ![o, 0] ![256, 128] inb).emb (ix2 x0 x1) 1 = x1 := by
      apply Fin.ext
      rw [Rect.emb_apply]
      show 0 + 1 * x1.val = x1.val
      omega
    simp only [es]
    show _ = normedOf (mixedOf (fun z => q (ix2 ((Rect.unit (s := S2048x128) ![o, 0] ![256, 128] inb).emb (ix2 x0 x1) 0) z)) _ _ _) _
      ((Rect.unit (s := S2048x128) ![o, 0] ![256, 128] inb).emb (ix2 x0 x1) 1)
    rw [e0, e1]
  refine (View.canon_apply_of_pieces G (stores q K V lp g) ?_ (ix2 i d) ?_).trans rfl
  · intro p hp x
    simp only [stores, List.mem_cons, List.not_mem_nil, or_false] at hp
    rcases hp with rfl | rfl | rfl | rfl | rfl | rfl | rfl | rfl
    · exact piece 1792 (by omega) _ inb_S2048x128_S256x128_1792_0 x
    · exact piece 1536 (by omega) _ inb_S2048x128_S256x128_1536_0 x
    · exact piece 1280 (by omega) _ inb_S2048x128_S256x128_1280_0 x
    · exact piece 1024 (by omega) _ inb_S2048x128_S256x128_1024_0 x
    · exact piece 768 (by omega) _ inb_S2048x128_S256x128_768_0 x
    · exact piece 512 (by omega) _ inb_S2048x128_S256x128_512_0 x
    · exact piece 256 (by omega) _ inb_S2048x128_S256x128_256_0 x
    · exact piece 0 (by omega) _ inb_S2048x128_S256x128_0_0 x
  · have mem : ∀ (o : Nat) (inb), o ≤ i.val → i.val < o + 256 →
        (ix2 i d : S2048x128.Idx) ∈ (Rect.unit (s := S2048x128) ![o, 0] ![256, 128] inb).set := by
      intro o inb h1 h2
      rw [Rect.mem_set_unit]
      intro a
      have hd := d.isLt
      fin_cases a
      · exact ⟨h1, h2⟩
      · exact ⟨Nat.zero_le _, by show d.val < 0 + 128; omega⟩
    have hi := i.isLt
    unfold stores
    simp only [List.mem_cons, List.not_mem_nil, or_false, exists_eq_or_imp, exists_eq_left]
    by_cases h7 : 1792 ≤ i.val
    · exact .inl (mem _ _ h7 (by omega))
    by_cases h6 : 1536 ≤ i.val
    · exact .inr (.inl (mem _ _ h6 (by omega)))
    by_cases h5 : 1280 ≤ i.val
    · exact .inr (.inr (.inl (mem _ _ h5 (by omega))))
    by_cases h4 : 1024 ≤ i.val
    · exact .inr (.inr (.inr (.inl (mem _ _ h4 (by omega)))))
    by_cases h3 : 768 ≤ i.val
    · exact .inr (.inr (.inr (.inr (.inl (mem _ _ h3 (by omega))))))
    by_cases h2 : 512 ≤ i.val
    · exact .inr (.inr (.inr (.inr (.inr (.inl (mem _ _ h2 (by omega)))))))
    by_cases h1 : 256 ≤ i.val
    · exact .inr (.inr (.inr (.inr (.inr (.inr (.inl (mem _ _ h1 (by omega))))))))
    · exact .inr (.inr (.inr (.inr (.inr (.inr (.inr (mem _ _ (by omega) (by omega))))))))

/-- The last of several stores, read inside its rectangle, -/
theorem canon_in {n0 n1 a b o0 o1 : Nat} (inb) (w : (⟨2, ![a, b]⟩ : Shape).Idx → EReal)
    (L : List (View.Piece (Elt Ideal) ⟨2, ![n0, n1]⟩ .bf16)) (I : Fin n0) (J : Fin n1) (i : Fin a) (j : Fin b)
    (hI : I.val = o0 + i.val) (hJ : J.val = o1 + j.val) :
    View.canon (Val := Elt Ideal) (s := ⟨2, ![n0, n1]⟩) (e := .bf16) (⟨Rect.unit ![o0, o1] ![a, b] inb, w⟩ :: L) (ix2 I J)
      = w (ix2 i j) := by
  have e : (ix2 I J : (⟨2, ![n0, n1]⟩ : Shape).Idx)
      = (Rect.unit (s := ⟨2, ![n0, n1]⟩) ![o0, o1] ![a, b] inb).emb (ix2 i j) := by
    funext d
    apply Fin.ext
    rw [Rect.emb_apply]
    fin_cases d
    · show I.val = o0 + 1 * i.val; omega
    · show J.val = o1 + 1 * j.val; omega
  rw [e]
  exact View.canon_cons_emb _ _ _ _

/-- and outside it. -/
theorem canon_out {n0 n1 a b o0 o1 : Nat} (inb) (w : (⟨2, ![a, b]⟩ : Shape).Idx → EReal)
    (L : List (View.Piece (Elt Ideal) ⟨2, ![n0, n1]⟩ .bf16)) (I : Fin n0) (J : Fin n1) (h : I.val < o0 ∨ J.val < o1) :
    View.canon (Val := Elt Ideal) (s := ⟨2, ![n0, n1]⟩) (e := .bf16) (⟨Rect.unit ![o0, o1] ![a, b] inb, w⟩ :: L) (ix2 I J)
      = View.canon L (ix2 I J) := by
  refine View.canon_cons_of_not_mem _ _ ?_
  rw [Rect.mem_set_unit]
  intro hm
  have m0 : o0 ≤ I.val := (hm 0).1
  have m1 : o1 ≤ J.val := (hm 1).1
  omega

/-- Key `j`: the latent token's below 4096, else the context token's. -/
theorem allKeys_at (k : FVec Ideal S4096x128 .bf16) (kc : FVec Ideal S256x128 .bf16) (j : Fin 4352) (x : Fin 128) :
    allKeys k kc (ix2 j x) = if hj : j.val < 4096 then k (ix2 ⟨j.val, hj⟩ x) else kc (ix2 ⟨j.val - 4096, by omega⟩ x) := by
  unfold allKeys
  split
  case isTrue hj =>
    exact (canon_out _ _ _ j x (.inl hj)).trans (canon_in _ _ _ j x ⟨j.val, hj⟩ x (Nat.zero_add _).symm (Nat.zero_add _).symm)
  case isFalse hj =>
    exact canon_in _ _ _ j x ⟨j.val - 4096, by omega⟩ x (Nat.add_sub_of_le (Nat.le_of_not_lt hj)).symm (Nat.zero_add _).symm

/-- Value `j`, below lane 128. -/
theorem allValues_lo (v : FVec Ideal S4096x128 .bf16) (vc : FVec Ideal S256x128 .bf16) (j : Fin 4352) (x : Fin 128) :
    allValues v vc (ix2 j ⟨x.val, by omega⟩)
      = if hj : j.val < 4096 then v (ix2 ⟨j.val, hj⟩ x) else vc (ix2 ⟨j.val - 4096, by omega⟩ x) := by
  unfold allValues
  refine (canon_out inb_S4352x256_S4352x128_0_128 (k0_pay6 (F := Ideal)) _ j ⟨x.val, by omega⟩ (.inr x.isLt)).trans ?_
  split
  case isTrue hj =>
    exact (canon_out _ _ _ j ⟨x.val, by omega⟩ (.inl hj)).trans
      (canon_in _ _ _ j ⟨x.val, by omega⟩ ⟨j.val, hj⟩ x (Nat.zero_add _).symm (Nat.zero_add _).symm)
  case isFalse hj =>
    exact canon_in _ _ _ j ⟨x.val, by omega⟩ ⟨j.val - 4096, by omega⟩ x (Nat.add_sub_of_le (Nat.le_of_not_lt hj)).symm
      (Nat.zero_add _).symm

theorem ones_at (i : S4352x128.Idx) : k0_pay6 (F := Ideal) i = 1 := by
  unfold k0_pay6
  pointwise

/-- Beside the values stand ones. -/
theorem allValues_one (v : FVec Ideal S4096x128 .bf16) (vc : FVec Ideal S256x128 .bf16) (j : Fin 4352) :
    allValues v vc (ix2 j 128) = 1 := by
  unfold allValues
  exact (canon_in _ _ _ j 128 j 0 (Nat.zero_add _).symm rfl).trans (ones_at _)

end Cert.Proof.Attn

end
-- ==== Proof.AttnMath.lean ====
/-
  The equation between the two computations of one row, over the reals: weights that are powers of two against
  exponentials of scores multiplied by `log 2`, and one division of the weighted sum against a division of each weight.
-/
module

public import proofs.«01_k».proof.Proof.AttnRows

@[expose] public section

noncomputable section

namespace Cert.Proof.Attn

open Idealize.ShloMosaic
open Cert.Proof.AttnRef (expOf softmaxOf)

theorem negInf : Ideal.ofBits .f32 0xFF800000#32 = ⊥ := by
  simp [Ideal.ofBits, Ideal.ieee]

theorem two : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [two, Ideal.log_coe, if_neg (by norm_num)]

/-- A finite sum of reals, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row of reals has a largest, and the fold of `max` is it. -/
theorem fold_max_eq (s : Fin 4352 → ℝ) (m : Fin 4352) (hm : ∀ j, s j ≤ s m) :
    (Finset.univ : Finset (Fin 4352)).fold max (⊥ : EReal) (fun j => ((s j : ℝ) : EReal)) = ((s m : ℝ) : EReal) := by
  apply le_antisymm
  · rw [Finset.fold_max_le]
    exact ⟨bot_le, fun j _ => EReal.coe_le_coe_iff.mpr (hm j)⟩
  · rw [Finset.le_fold_max]
    exact .inr ⟨m, Finset.mem_univ m, le_refl _⟩

/-- The weights of a row. -/
def pow2 (s : Fin 4352 → ℝ) (m j : Fin 4352) : ℝ := Real.exp (Real.log 2 * (s j - s m))

theorem pow2_sum_pos (s : Fin 4352 → ℝ) (m : Fin 4352) : 0 < ∑ j, pow2 s m j :=
  Finset.sum_pos (fun j _ => Real.exp_pos _) ⟨0, Finset.mem_univ 0⟩

theorem weightOf_real (s : Fin 4352 → ℝ) (m : Fin 4352) (hm : ∀ j, s j ≤ s m) (j : Fin 4352) :
    weightOf (fun j => ((s j : ℝ) : EReal)) j = ((pow2 s m j : ℝ) : EReal) := by
  unfold weightOf pow2
  rw [negInf, fold_max_eq s m hm, ← EReal.coe_sub, Ideal.exp2_coe]
  exact congrArg _ (Real.rpow_def_of_pos (by norm_num) _)

theorem expOf_real (s : Fin 4352 → ℝ) (m : Fin 4352) (hm : ∀ j, s j ≤ s m) (j : Fin 4352) :
    expOf (fun j => ((s j * Real.log 2 : ℝ) : EReal)) j = ((pow2 s m j : ℝ) : EReal) := by
  have hl : 0 < Real.log 2 := Real.log_pos (by norm_num)
  unfold expOf pow2
  rw [negInf, fold_max_eq (fun j => s j * Real.log 2) m (fun j => mul_le_mul_of_nonneg_right (hm j) hl.le),
    max_eq_right bot_le, ← EReal.coe_sub, Ideal.exp_coe]
  congr 2
  ring

theorem div_real (x y : ℝ) (hy : y ≠ 0) : Ideal.div ((x : ℝ) : EReal) ((y : ℝ) : EReal) = ((x / y : ℝ) : EReal) := by
  rw [Ideal.div_coe hy, ← EReal.coe_mul]
  congr 1
  ring

theorem componentOf_real (s v : Fin 4352 → ℝ) (m : Fin 4352) (hm : ∀ j, s j ≤ s m) :
    componentOf (fun j => ((s j : ℝ) : EReal)) (fun j => ((v j : ℝ) : EReal)) (fun _ => 1)
      = (((∑ j, pow2 s m j * v j) / ∑ j, pow2 s m j : ℝ) : EReal) := by
  unfold componentOf
  simp only [weightOf_real s m hm, mul_one, ← EReal.coe_mul, coe_sum]
  exact div_real _ _ (pow2_sum_pos s m).ne'

theorem softmaxOf_real (s : Fin 4352 → ℝ) (m : Fin 4352) (hm : ∀ j, s j ≤ s m) (j : Fin 4352) :
    softmaxOf (fun j => ((s j * Real.log 2 : ℝ) : EReal)) j = ((pow2 s m j / ∑ x, pow2 s m x : ℝ) : EReal) := by
  unfold softmaxOf
  simp only [expOf_real s m hm, coe_sum]
  exact div_real _ _ (pow2_sum_pos s m).ne'

/-- The kernel's mixed row is the reference's. -/
theorem mixed_eq (s0 s1 v : Fin 4352 → ℝ) (l : ℝ) :
    componentOf (fun j => ((s0 j : ℝ) : EReal)) (fun j => ((v j : ℝ) : EReal)) (fun _ => 1)
        - (l : EReal) * componentOf (fun j => ((s1 j : ℝ) : EReal)) (fun j => ((v j : ℝ) : EReal)) (fun _ => 1)
      = ∑ j, ((v j : ℝ) : EReal) * (softmaxOf (fun j => ((s0 j * Real.log 2 : ℝ) : EReal)) j
          - (l : EReal) * softmaxOf (fun j => ((s1 j * Real.log 2 : ℝ) : EReal)) j) := by
  obtain ⟨m0, -, h0⟩ := Finset.exists_max_image Finset.univ s0 ⟨0, Finset.mem_univ 0⟩
  obtain ⟨m1, -, h1⟩ := Finset.exists_max_image Finset.univ s1 ⟨0, Finset.mem_univ 0⟩
  have k0 : ∀ j, s0 j ≤ s0 m0 := fun j => h0 j (Finset.mem_univ j)
  have k1 : ∀ j, s1 j ≤ s1 m1 := fun j => h1 j (Finset.mem_univ j)
  rw [componentOf_real s0 v m0 k0, componentOf_real s1 v m1 k1]
  simp only [softmaxOf_real s0 m0 k0, softmaxOf_real s1 m1 k1, ← EReal.coe_mul, ← EReal.coe_sub, coe_sum]
  congr 1
  rw [Finset.sum_div, Finset.sum_div, Finset.mul_sum, ← Finset.sum_sub_distrib]
  refine Finset.sum_congr rfl fun j _ => ?_
  ring

end Cert.Proof.Attn

end
-- ==== Proof.AttnArray.lean ====
/-
  The array the attention kernel leaves: at every latent row and every lane of every head, the row `normedOf (mixedOf …)` of
  the query row, of the batch's keys and values at the head's lanes, of the lambda vectors and of the gain.
-/
module

public import proofs.«01_k».proof.Proof.AttnRows
public import proofs.«01_k».proof.Proof.Gen.KernelIdeal.Value
public import Idealize.ShloMosaic.Lib.Pipeline.ValueKit.Geometry

@[expose] public section

noncomputable section

namespace Cert.Proof.Attn

open Idealize.ShloMosaic Idealize.SL.Sem Cert.KernelIdeal
open Cert.KernelIdeal.Gen Idealize.ShloMosaic.TcCoe
open Cert.Proof.AttnRef (normedOf lamOf)

/-- The blocks' indices at a grid point: batch, head and half of the queries of point `t` are `t / 32`, `t / 2 % 16`, `t % 2`. -/
theorem index0 : ∀ t : Fin cfg0.N, win0_0.index t = ![t.val / 32 * 2 + t.val % 2, t.val / 2 % 16] :=
  (by decide +kernel : ∀ t : Fin grid0.N, _)
theorem index1 : ∀ t : Fin cfg0.N, win0_1.index t = ![t.val / 32, t.val / 2 % 16] :=
  (by decide +kernel : ∀ t : Fin grid0.N, _)
theorem index2 : ∀ t : Fin cfg0.N, win0_2.index t = ![64 + t.val / 32, t.val / 2 % 16] :=
  (by decide +kernel : ∀ t : Fin grid0.N, _)
theorem index3 : ∀ t : Fin cfg0.N, win0_3.index t = ![t.val / 32, t.val / 2 % 16] :=
  (by decide +kernel : ∀ t : Fin grid0.N, _)
theorem index4 : ∀ t : Fin cfg0.N, win0_4.index t = ![64 + t.val / 32, t.val / 2 % 16] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![t.val / 32 * 2 + t.val % 2, t.val / 2 % 16] :=
  (by decide +kernel : ∀ t : Fin grid0.N, _)

theorem flush7 : ∀ t : Fin cfg0.N, (cfg0.win 7).flush t = true :=
  (by decide +kernel : ∀ t : Fin grid0.N, (cfg0.win 7).flush t = true)

section
variable {F : FTy → Type} [FloatOps F]
variable (m : (ℓ : Loc nD τ sig) → Buf (Elt F) ℓ) (c : Dev nD)

/-- The first grid point of a batch and head. -/
def firstPoint (t : Fin cfg0.N) : Fin cfg0.N := ⟨t.val - t.val % 2, Nat.lt_of_le_of_lt (Nat.sub_le _ _) t.isLt⟩

/-- The keys and the values the scratch holds while point `t` runs. -/
def keysAt (t : Fin cfg0.N) : FVec F S4352x128 .bf16 := allKeys (iblk m c 1 (firstPoint t)) (iblk m c 2 (firstPoint t))
def valuesAt (t : Fin cfg0.N) : FVec F S4352x256 .bf16 := allValues (iblk m c 3 (firstPoint t)) (iblk m c 4 (firstPoint t))

/-- What point `t` writes back. -/
theorem flushed_eq (t : Fin cfg0.N) :
    (dats m 0 c).flushed 7 t = (cfg0.win 7).cut (grid0.coords t)
      (View.canon (stores (iblk m c 0 t) (keysAt m c t) (valuesAt m c t) (iblk m c 5 t) (iblk m c 6 t))) := by
  by_cases h0 : t.val % 2 = 0
  · have e : firstPoint t = t := Fin.ext (by show t.val - t.val % 2 = t.val; omega)
    rw [Value.flushed7_A m c t h0, outA]
    unfold keysAt valuesAt
    rw [e]
  · have hp : (firstPoint t).val % 2 = 0 := by show (t.val - t.val % 2) % 2 = 0; omega
    have e : (⟨t.val - 1, Nat.lt_of_le_of_lt (Nat.sub_le _ _) t.isLt⟩ : Fin cfg0.N) = firstPoint t :=
      Fin.ext (by show t.val - 1 = t.val - t.val % 2; omega)
    have hs : outsAt0 m c (t.val - 1) (Nat.lt_of_le_of_lt (Nat.sub_le _ _) t.isLt) = outsAt0 m c (firstPoint t).val (firstPoint t).isLt := by
      congr 1
      exact congrArg Fin.val e
    rw [Value.flushed7_B m c t h0, outB, hs, outsAt0_A m c (firstPoint t) hp]
    dsimp only
    rw [scratchA_0, scratchA_1]
    rfl

end

section
variable (m : (ℓ : Loc nD τ sig) → Buf (Elt Ideal) ℓ) (c : Dev nD)

/-- The blocks a point reads, as parts of the arguments. -/
theorem block0 (t : Fin cfg0.N) (i : Fin 2048) (x : Fin 128) :
    iblk m c 0 t (ix2 i x) = m ((c.tc : Thread nD τ).loc main_arg0)
      (ix2 ⟨(t.val / 32 * 2 + t.val % 2) * 2048 + i.val, by have := t.isLt; have : cfg0.N = 128 := N_0; omega⟩ ⟨t.val / 2 % 16 * 128 + x.val, by omega⟩) := by
  blk_simp [iblk, V_main_arg0]
  blk_ext [index0]

theorem block1 (t : Fin cfg0.N) (i : Fin 4096) (x : Fin 128) :
    iblk m c 1 t (ix2 i x) = m ((c.tc : Thread nD τ).loc main_arg1)
      (ix2 ⟨(t.val / 32) * 4096 + i.val, by have := t.isLt; have : cfg0.N = 128 := N_0; omega⟩ ⟨t.val / 2 % 16 * 128 + x.val, by omega⟩) := by
  blk_simp [iblk, V_main_arg1]
  blk_ext [index1]

theorem block2 (t : Fin cfg0.N) (i : Fin 256) (x : Fin 128) :
    iblk m c 2 t (ix2 i x) = m ((c.tc : Thread nD τ).loc main_arg1)
      (ix2 ⟨(64 + t.val / 32) * 256 + i.val, by have := t.isLt; have : cfg0.N = 128 := N_0; omega⟩ ⟨t.val / 2 % 16 * 128 + x.val, by omega⟩) := by
  blk_simp [iblk, V_main_arg1]
  blk_ext [index2]

theorem block3 (t : Fin cfg0.N) (i : Fin 4096) (x : Fin 128) :
    iblk m c 3 t (ix2 i x) = m ((c.tc : Thread nD τ).loc main_arg2)
      (ix2 ⟨(t.val / 32) * 4096 + i.val, by have := t.isLt; have : cfg0.N = 128 := N_0; omega⟩ ⟨t.val / 2 % 16 * 128 + x.val, by omega⟩) := by
  blk_simp [iblk, V_main_arg2]
  blk_ext [index3]

theorem block4 (t : Fin cfg0.N) (i : Fin 256) (x : Fin 128) :
    iblk m c 4 t (ix2 i x) = m ((c.tc : Thread nD τ).loc main_arg2)
      (ix2 ⟨(64 + t.val / 32) * 256 + i.val, by have := t.isLt; have : cfg0.N = 128 := N_0; omega⟩ ⟨t.val / 2 % 16 * 128 + x.val, by omega⟩) := by
  blk_simp [iblk, V_main_arg2]
  blk_ext [index4]

theorem block5 (t : Fin cfg0.N) : iblk m c 5 t = m ((c.tc : Thread nD τ).loc main_arg3) := by
  funext i
  blk_simp [iblk, V_main_arg3]
  blk_ext [index5]

theorem gain_row : V m c main_v0 = shapeCast S1x128 (m ((c.tc : Thread nD τ).loc main_arg4)) shapeCasts_S128_S1x128 := rfl

theorem block6 (t : Fin cfg0.N) (x : Fin 128) :
    iblk m c 6 t (ix2 0 x) = m ((c.tc : Thread nD τ).loc main_arg4) (ix1 x) := by
  have e : iblk m c 6 t (ix2 0 x) = V m c main_v0 (ix2 0 x) := by
    blk_simp [iblk]
    blk_ext [index6]
  rw [e, gain_row]
  pointwise

open Cert.Proof.AttnRef (queries keys values queries_at keys_at values_at)

/-- The row of the result at batch `b`, latent position `t` and head `h`, from the arguments. -/
def rowOf (q k v : FVec Ideal S20480x2048 .bf16) (lp : FVec Ideal S4x64 .f32) (b : Fin 4) (t : Fin 4096) (h : Fin 16) (d : Fin 128) :
    EReal :=
  componentOf (fun j => ∑ x : Fin 64, queries q (ix5 b t h 0 x) * keys k (ix5 b j h 0 x)) (fun j => values v (ix4 b j h d)) (fun _ => 1)
    - lamOf lp * componentOf (fun j => ∑ x : Fin 64, queries q (ix5 b t h 1 x) * keys k (ix5 b j h 1 x))
        (fun j => values v (ix4 b j h d)) (fun _ => 1)

/-- The grid point of a batch, a head and a half of the queries. -/
def pointOf (b : Fin 4) (h : Fin 16) (t : Fin 4096) : Fin cfg0.N :=
  ⟨b.val * 32 + h.val * 2 + t.val / 2048, by have : cfg0.N = 128 := N_0; omega⟩

theorem keysAt_eq (b : Fin 4) (h : Fin 16) (t : Fin 4096) (j : Fin 4352) (e : Fin 2) (x : Fin 64) :
    (keysAt m c (pointOf b h t) (ix2 j ⟨e.val * 64 + x.val, by omega⟩) : EReal) = keys (F := Ideal) (m ((c.tc : Thread nD τ).loc main_arg1)) (ix5 b j h e x) := by
  have hp : (firstPoint (pointOf b h t)).val = b.val * 32 + h.val * 2 := by
    show (b.val * 32 + h.val * 2 + t.val / 2048) - (b.val * 32 + h.val * 2 + t.val / 2048) % 2 = _
    omega
  unfold keysAt
  rw [allKeys_at, keys_at]
  split
  · rw [block1]
    exact congrArg _ (congrArg₂ ix2 (Fin.ext (by simp only [hp]; omega)) (Fin.ext (by simp only [hp]; omega)))
  · rw [block2]
    exact congrArg _ (congrArg₂ ix2 (Fin.ext (by simp only [hp]; omega)) (Fin.ext (by simp only [hp]; omega)))

theorem valuesAt_eq (b : Fin 4) (h : Fin 16) (t : Fin 4096) (j : Fin 4352) (d : Fin 128) :
    (valuesAt m c (pointOf b h t) (ix2 j ⟨d.val, by omega⟩) : EReal) = values (F := Ideal) (m ((c.tc : Thread nD τ).loc main_arg2)) (ix4 b j h d) := by
  have hp : (firstPoint (pointOf b h t)).val = b.val * 32 + h.val * 2 := by
    show (b.val * 32 + h.val * 2 + t.val / 2048) - (b.val * 32 + h.val * 2 + t.val / 2048) % 2 = _
    omega
  unfold valuesAt
  rw [allValues_lo, values_at]
  split
  · rw [block3]
    exact congrArg _ (congrArg₂ ix2 (Fin.ext (by simp only [hp]; omega)) (Fin.ext (by simp only [hp]; omega)))
  · rw [block4]
    exact congrArg _ (congrArg₂ ix2 (Fin.ext (by simp only [hp]; omega)) (Fin.ext (by simp only [hp]; omega)))

theorem query_eq (b : Fin 4) (h : Fin 16) (t : Fin 4096) (e : Fin 2) (x : Fin 64) :
    (iblk m c 0 (pointOf b h t) (ix2 ⟨t.val % 2048, by omega⟩ ⟨e.val * 64 + x.val, by omega⟩) : EReal)
      = queries (F := Ideal) (m ((c.tc : Thread nD τ).loc main_arg0)) (ix5 b t h e x) := by
  have hp : (pointOf b h t).val = b.val * 32 + h.val * 2 + t.val / 2048 := rfl
  rw [block0, queries_at]
  exact congrArg _ (congrArg₂ ix2 (Fin.ext (by simp only [hp]; omega)) (Fin.ext (by simp only [hp]; omega)))

/-- The array after the run, at a latent row. -/
theorem final_at (b : Fin 4) (t : Fin 4096) (h : Fin 16) (d : Fin 128) :
    (dats m 0 c).arrAt 7 cfg0.N (ix2 ⟨b.val * 4096 + t.val, by omega⟩ ⟨h.val * 128 + d.val, by omega⟩)
      = normedOf (rowOf (m ((c.tc : Thread nD τ).loc main_arg0)) (m ((c.tc : Thread nD τ).loc main_arg1))
          (m ((c.tc : Thread nD τ).loc main_arg2)) (m ((c.tc : Thread nD τ).loc main_arg3)) b t h)
          (fun x => m ((c.tc : Thread nD τ).loc main_arg4) (ix1 x)) d := by
  have hp : (pointOf b h t).val = b.val * 32 + h.val * 2 + t.val / 2048 := rfl
  have he : (ix2 ⟨b.val * 4096 + t.val, by omega⟩ ⟨h.val * 128 + d.val, by omega⟩ : S20480x2048.Idx)
      = ((cfg0.win 7).blk (pointOf b h t)).view.emb (ix2 ⟨t.val % 2048, by omega⟩ d : S2048x128.Idx) := by
    blk_ext [index7, hp]
  rw [he, (dats m 0 c).arrAt_emb_eq_flushed 7 Value.disjoint7 (pointOf b h t) (flush7 _), flushed_eq]
  refine (stores_at _ _ _ _ _ ⟨t.val % 2048, by omega⟩ d).trans ?_
  rw [block5]
  simp only [block6]
  refine congrArg (fun o => normedOf o _ d) (funext fun z => ?_)
  have k0 := fun j (x : Fin 64) => keysAt_eq m c b h t j 0 x
  have k1 := fun j (x : Fin 64) => keysAt_eq m c b h t j 1 x
  have q0 := fun (x : Fin 64) => query_eq m c b h t 0 x
  have q1 := fun (x : Fin 64) => query_eq m c b h t 1 x
  have v0 := fun j => valuesAt_eq m c b h t j z
  have v1 : ∀ j, valuesAt m c (pointOf b h t) (ix2 j 128) = (1 : EReal) := fun j => allValues_one _ _ j
  simp only [Fin.val_zero, Fin.val_one, Nat.zero_mul, Nat.one_mul, Nat.zero_add] at k0 k1 q0 q1
  unfold mixedOf rowOf
  simp only [k0, k1, q0, q1, v0, v1]

end

end Cert.Proof.Attn

end
-- ==== Proof.AttnEq.lean ====
/-
  The equation between the kernel's row and the reference's, when the entries of the queries, the keys and values and the
  four vectors of lambda are real numbers; and that the precondition says so.
-/
module

public import proofs.«01_k».proof.Proof.AttnMath
public import proofs.«01_k».proof.Proof.AttnArray
public import proofs.«01_k».proof.Defs

@[expose] public section

noncomputable section

namespace Cert.Proof.Attn

open Idealize.ShloMosaic
open Cert.Proof.AttnRef (queries keys values attended attended_at lamOf scoreOf softmaxOf queries_at keys_at values_at)
open Cert.ReferenceIdeal (S20480x2048 S4x64)

/-- With real entries the kernel's row before the norm is the reference's. -/
theorem row_eq (q k v : FVec Ideal S20480x2048 .bf16) (lp : FVec Ideal S4x64 .f32)
    (hq : ∀ b t h c x, ∃ r : ℝ, (queries (F := Ideal) q (ix5 b t h c x) : EReal) = r)
    (hk : ∀ b j h c x, ∃ r : ℝ, (keys (F := Ideal) k (ix5 b j h c x) : EReal) = r)
    (hv : ∀ b j h d, ∃ r : ℝ, (values (F := Ideal) v (ix4 b j h d) : EReal) = r)
    (hl : ∃ r : ℝ, lamOf lp = r) (b : Fin 4) (t : Fin 4096) (h : Fin 16) (d : Fin 128) :
    rowOf q k v lp b t h d = attended (F := Ideal) q k v lp (ix4 b t h d) := by
  choose Q hQ using hq
  choose K hK using hk
  choose V hV using hv
  obtain ⟨l, hl⟩ := hl
  have hs : ∀ (c : Fin 2) (j : Fin 4352), (∑ x : Fin 64, (queries (F := Ideal) q (ix5 b t h c x) : EReal) * keys (F := Ideal) k (ix5 b j h c x))
      = ((∑ x : Fin 64, Q b t h c x * K b j h c x : ℝ) : EReal) := by
    intro c j
    simp only [hQ, hK, ← EReal.coe_mul, coe_sum]
  have hc : ∀ c : Fin 2, scoreOf q k b h t c = fun j => (((∑ x : Fin 64, Q b t h c x * K b j h c x) * Real.log 2 : ℝ) : EReal) := by
    intro c
    funext j
    unfold scoreOf
    rw [log_two, hs, ← EReal.coe_mul]
  rw [attended_at, hc, hc, hl]
  unfold rowOf
  rw [hl]
  simp only [hs, hV]
  exact mixed_eq _ _ _ l

/-- An extended real whose absolute value is below infinity is a real number. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  induction x using EReal.rec with
  | bot => simp [FloatOps.cmpf, FloatOps.hostAbsf, Ideal.cmp] at h
  | top => simp [FloatOps.cmpf, FloatOps.hostAbsf, Ideal.cmp] at h
  | coe r => exact ⟨r, rfl⟩

/-- Lambda of real vectors is real. -/
theorem lam_real (lp : FVec Ideal S4x64 .f32) (h : ∀ i x, ∃ r : ℝ, lp (ix2 i x) = (r : EReal)) : ∃ r : ℝ, lamOf lp = r := by
  choose L hL using h
  obtain ⟨w, hw⟩ : ∃ w : ℝ, Ideal.ofBits .f32 0x3EF1014C#32 = w := ⟨_, by simp [Ideal.ofBits, Ideal.ieee, -EReal.coe_mul]; rfl⟩
  unfold lamOf
  simp only [hL, hw, ← EReal.coe_mul, coe_sum, Ideal.exp_coe, ← EReal.coe_sub, ← EReal.coe_add]
  exact ⟨_, rfl⟩

theorem pre_facts : Cert.Pre_finite.Facts where
  slices_S20480x2048_S16384x2048_0_0 := by decide
  bitsLt_bf16_f32 := by decide
  bcast_S_S16384x2048 := by decide
  slices_S20480x2048_S17408x2048_0_0 := by decide
  bcast_S_S17408x2048 := by decide
  bcast_S_S4x64 := by decide

theorem on_facts : Cert.On_latent_rows.Facts where
  bcast_S_S20480x2048 := by decide

section Pre

variable [Cert.Pre_finite.Facts] (q k v : FVec Ideal S20480x2048 .bf16) (lp : FVec Ideal S4x64 .f32)
  (g : FVec Ideal Cert.ReferenceIdeal.S128 .f32)

theorem q_real (h : (Cert.Pre_finite.fn (F := Ideal) q k v lp g).1 = fun _ => 1#1) (i : Fin 16384) (x : Fin 2048) :
    ∃ r : ℝ, (q (ix2 ⟨i.val, by omega⟩ x) : EReal) = r := by
  have := congrFun h (ix2 i x)
  unfold Cert.Pre_finite.fn at this
  refine real_of_abs_lt _ (Eq.trans ?_ this)
  symm
  pointwise

theorem k_real (h : (Cert.Pre_finite.fn (F := Ideal) q k v lp g).2.1 = fun _ => 1#1) (i : Fin 17408) (x : Fin 2048) :
    ∃ r : ℝ, (k (ix2 ⟨i.val, by omega⟩ x) : EReal) = r := by
  have := congrFun h (ix2 i x)
  unfold Cert.Pre_finite.fn at this
  refine real_of_abs_lt _ (Eq.trans ?_ this)
  symm
  pointwise

theorem v_real (h : (Cert.Pre_finite.fn (F := Ideal) q k v lp g).2.2.1 = fun _ => 1#1) (i : Fin 17408) (x : Fin 2048) :
    ∃ r : ℝ, (v (ix2 ⟨i.val, by omega⟩ x) : EReal) = r := by
  have := congrFun h (ix2 i x)
  unfold Cert.Pre_finite.fn at this
  refine real_of_abs_lt _ (Eq.trans ?_ this)
  symm
  pointwise

theorem lp_real (h : (Cert.Pre_finite.fn (F := Ideal) q k v lp g).2.2.2 = fun _ => 1#1) (i : Fin 4) (x : Fin 64) :
    ∃ r : ℝ, (lp (ix2 i x) : EReal) = r := by
  have := congrFun h (ix2 i x)
  unfold Cert.Pre_finite.fn at this
  refine real_of_abs_lt _ (Eq.trans ?_ this)
  symm
  pointwise

/-- Under the precondition the kernel's row before the norm is the reference's. -/
theorem row_eq_of_pre (h : (Cert.Pre_finite.fn (F := Ideal) q k v lp g).1 = (fun _ => 1#1)
      ∧ (Cert.Pre_finite.fn (F := Ideal) q k v lp g).2.1 = (fun _ => 1#1)
      ∧ (Cert.Pre_finite.fn (F := Ideal) q k v lp g).2.2.1 = (fun _ => 1#1)
      ∧ (Cert.Pre_finite.fn (F := Ideal) q k v lp g).2.2.2 = (fun _ => 1#1)) (b : Fin 4) (t : Fin 4096) (h' : Fin 16) :
    rowOf q k v lp b t h' = fun d => (attended (F := Ideal) q k v lp (ix4 b t h' d) : EReal) := by
  obtain ⟨h1, h2, h3, h4⟩ := h
  funext d
  refine row_eq q k v lp ?_ ?_ ?_ (lam_real lp (lp_real q k v lp g h4)) b t h' d
  · intro b t h c x
    rw [queries_at]
    exact q_real q k v lp g h1 ⟨b.val * 4096 + t.val, by omega⟩ _
  · intro b j h c x
    rw [keys_at]
    split
    · exact k_real q k v lp g h2 ⟨b.val * 4096 + j.val, by omega⟩ _
    · exact k_real q k v lp g h2 ⟨16384 + (b.val * 256 + (j.val - 4096)), by omega⟩ _
  · intro b j h d
    rw [values_at]
    split
    · exact v_real q k v lp g h3 ⟨b.val * 4096 + j.val, by omega⟩ _
    · exact v_real q k v lp g h3 ⟨16384 + (b.val * 256 + (j.val - 4096)), by omega⟩ _

end Pre

/-- The mask selects the latent rows. -/
theorem row_lt [Cert.On_latent_rows.Facts] (q k v : FVec Ideal S20480x2048 .bf16) (lp : FVec Ideal S4x64 .f32)
    (g : FVec Ideal Cert.ReferenceIdeal.S128 .f32) (i : Fin 20480) (x : Fin 2048)
    (h : Cert.On_latent_rows.fn (F := Ideal) q k v lp g (ix2 i x) = 1#1) : i.val < 16384 := by
  by_contra hn
  have : Cert.On_latent_rows.fn (F := Ideal) q k v lp g (ix2 i x) = IntOp.cmpi .slt (BitVec.ofNat 32 i.val) 16384#32 := by
    unfold Cert.On_latent_rows.fn
    pointwise
  rw [this] at h
  have hi : (BitVec.ofNat 32 i.val).toInt = i.val := by
    rw [BitVec.toInt_eq_toNat_of_lt (by rw [BitVec.toNat_ofNat]; omega), BitVec.toNat_ofNat]
    omega
  have h2 : ¬ (BitVec.ofNat 32 i.val).toInt < 16384 := by omega
  simp [IntOp.cmpi, BitVec.slt, h2] at h

end Cert.Proof.Attn

end
-- ==== Proof.Attention.lean ====
/-
  The claims about the differential attention: the reference's frame, and that kernel and reference end with one array on
  the latent rows.
-/
module

public import proofs.«01_k».proof.Proof.AttnEq
public import proofs.«01_k».proof.Proof.Gen.KernelIdeal.Value
public import proofs.«01_k».proof.Proof.Gen.ReferenceIdeal.Run
public import proofs.«01_k».proof.Defs
public import Idealize.ShloMosaic.Lib.Claim

@[expose] public section

noncomputable section

namespace Cert.Proof.Attn

open Idealize.ShloMosaic

open Cert.Proof.AttnRef (result res_eq result_at)

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite (hReferenceIdeal := Cert.ReferenceIdeal.Gen.facts)
    (hPre_finite := pre_facts) := fun m ρ _ => frame_ri m ρ trivial

/-- On the rows of the mask the kernel's array is the reference's. -/
theorem arrays_eq (m : (ℓ : Loc Cert.KernelIdeal.nD Cert.KernelIdeal.τ Cert.KernelIdeal.sig) → Buf (Elt Ideal) ℓ)
    (c : Dev Cert.KernelIdeal.nD) (hpre : Cert.Pre_KernelIdeal_finite (hPre_finite := pre_facts) m) (i : Fin 20480) (x : Fin 2048)
    (hi : i.val < 16384) :
    ((Cert.KernelIdeal.Gen.dats m 0 c).arrAt 7 Cert.KernelIdeal.cfg0.N (ix2 i x) : EReal)
      = result (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (ix2 i x) := by
  obtain ⟨b, t, hbt⟩ : ∃ (b : Fin 4) (t : Fin 4096), i.val = b.val * 4096 + t.val :=
    ⟨⟨i.val / 4096, by omega⟩, ⟨i.val % 4096, by omega⟩, by simp only; omega⟩
  obtain ⟨h, d, hhd⟩ : ∃ (h : Fin 16) (d : Fin 128), x.val = h.val * 128 + d.val :=
    ⟨⟨x.val / 128, by omega⟩, ⟨x.val % 128, by omega⟩, by simp only; omega⟩
  rw [show i = ⟨b.val * 4096 + t.val, by omega⟩ from Fin.ext hbt, show x = ⟨h.val * 128 + d.val, by omega⟩ from Fin.ext hhd]
  refine (final_at m c b t h d).trans (Eq.trans ?_ (result_at _ _ _ _ _ b t h d).symm)
  letI := pre_facts
  exact congrArg (fun o => AttnRef.normedOf o _ d) (row_eq_of_pre _ _ _ _ _ (hpre c) b t h)

theorem algebraic : Cert.algebraic_KernelIdeal_ReferenceIdeal_on_latent_rows_pre_finite
    (hKernelIdeal := Cert.KernelIdeal.Gen.facts) (hReferenceIdeal := Cert.ReferenceIdeal.Gen.facts)
    (hPre_finite := pre_facts) (hOn_latent_rows := on_facts) := by
  intro m g m' g' hpre hagree
  refine ⟨fun c => (Cert.KernelIdeal.Gen.dats m 0 c).arrAt 7 Cert.KernelIdeal.cfg0.N, ?_, ?_⟩
  · exact (θ_run Cert.KernelIdeal.defs _ _).mono (fun r h c => ⟨fun i _ => congrFun (h c).1 i, (h c).2⟩)
      (Cert.KernelIdeal.Value.run_blocks (F := Ideal) m g)
  · refine (θ_run Cert.ReferenceIdeal.defs _ _).mono (fun r h c => ⟨fun i hi => (congrFun (h c).1 i).trans ?_, (h c).2⟩)
      (Cert.ReferenceIdeal.Value.run (F := Ideal) m' g')
    obtain ⟨x, y, rfl⟩ : ∃ (x : Fin 20480) (y : Fin 2048), i = ix2 x y := ⟨i 0, i 1, by funext a; fin_cases a <;> rfl⟩
    letI := on_facts
    refine (congrFun (res_eq m' c) (ix2 x y)).trans ?_
    obtain ⟨h0, h1, h2, h3, h4⟩ := hagree c
    rw [h0, h1, h2, h3, h4]
    exact (arrays_eq m c hpre x y (row_lt _ _ _ _ _ x y hi)).symm

end Cert.Proof.Attn

end
-- ==== Proof.MoeRun.lean ====
/-
  What the expert call's body does at one grid point, in the four cases its conditions tell apart: the first round only
  rounds weights into slot 0; an even round computes from slot 1 and rounds into slot 0; an odd round computes from slot 0
  and rounds into slot 1; the last round only computes from slot 1.
-/
module

public import proofs.«01_k».proof.Proof.Gen.ExpertsIdeal.Frame
public import proofs.«01_k».proof.Proof.Gen.ExpertsIdeal.Points
public import proofs.«01_k».proof.Proof.Gen.ExpertsIdeal.Skeleton
public import Idealize.ShloMosaic.Lib.VecWindow

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

local notation "𝕄" => MT nD τ sig Unit (Elt F) ℕ (UR sig nD τ) ℕ

/-- The first 1024 rows of slot `p` of a gate or up buffer, -/
def upper (p : Fin 2) (s : Vec F S2x2048x1024 .bf16) : Vec F S1x1024x1024 .bf16 :=
  window s ![p.val, 0, 0] S1x1024x1024.size (by revert p; decide)

/-- its last 1024 rows, -/
def lower (p : Fin 2) (s : Vec F S2x2048x1024 .bf16) : Vec F S1x1024x1024 .bf16 :=
  window s ![p.val, 1024, 0] S1x1024x1024.size (by revert p; decide)

/-- and slot `p` of the down buffer. -/
def down (p : Fin 2) (s : Vec F S2x1024x2048 .bf16) : Vec F S1x1024x2048 .bf16 :=
  window s ![p.val, 0, 0] S1x1024x2048.size (by revert p; decide)

/-- The expert's rows from the gathered rows `x0`, their gates `x1` and slot `p` of the three weight buffers. -/
def rows (p : Fin 2) (x0 : Vec F S1x512x1024 .i32) (x1 : Vec F S1x512x1 .f32) (s0 s1 : Vec F S2x2048x1024 .bf16)
    (s2 : Vec F S2x1024x2048 .bf16) : Vec F S1x512x2048 .f32 :=
  k0_pay1 (k0_pay7 x0 (upper p s0) (lower p s0) (upper p s1) (lower p s1) (down p s2)) x1

/-- A load from a whole buffer is a window of its contents. -/
theorem load_unit {s : Shape} {e : EltTy} {a : Memref sig .tc .vmem s e} (h : a.IsWhole) (x : Vec F s e) {off size : Fin s.rank → ℕ}
    (inb : ∀ k, off k + size k ≤ s.size k) :
    a.view.readAt (Elt F) (Rect.unit off size inb).toLoadRect (h.unread x) = window x off size inb := by
  rw [View.readAt_unit _ _ inb rfl inb, h.read_unread]

/-- The five input blocks, owned at their contents, -/
abbrev inputs (c : Dev nD) (arg2 : Memref sig .tc .vmem S1x512x1024 .i32) (arg3 : Memref sig .tc .vmem S1x512x1 .f32)
    (arg4 arg5 : Memref sig .tc .vmem S1x1x512x1024 .f32) (arg6 : Memref sig .tc .vmem S1x1x256x2048 .f32)
    (x0 : Vec F S1x512x1024 .i32) (x1 : Vec F S1x512x1 .f32) (x2 x3 : Vec F S1x1x512x1024 .f32)
    (x4 : Vec F S1x1x256x2048 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- and the three weight buffers at theirs. -/
abbrev slots (c : Dev nD) (arg8 arg9 : Memref sig .tc .vmem S2x2048x1024 .bf16) (arg10 : Memref sig .tc .vmem S2x1024x2048 .bf16)
    (s0 s1 : Vec F S2x2048x1024 .bf16) (s2 : Vec F S2x1024x2048 .bf16) : sProp 𝕄 :=
  iprop(owns (c : Thread nD τ) arg8 fullShare s0 ∗ owns (c : Thread nD τ) arg9 fullShare s1 ∗ owns (c : Thread nD τ) arg10 fullShare s2)

set_option maxHeartbeats 1000000 in
/-- The first round: zeros into the result block, and the round's weights into slot 0. -/
theorem run_first (c : Dev nD) (i : grid0.Coords) (arg2 : Memref sig .tc .vmem S1x512x1024 .i32) (harg2 : arg2.IsWhole) (arg3 : Memref sig .tc .vmem S1x512x1 .f32) (harg3 : arg3.IsWhole)
    (arg4 : Memref sig .tc .vmem S1x1x512x1024 .f32) (harg4 : arg4.IsWhole) (arg5 : Memref sig .tc .vmem S1x1x512x1024 .f32) (harg5 : arg5.IsWhole) (arg6 : Memref sig .tc .vmem S1x1x256x2048 .f32) (harg6 : arg6.IsWhole)
    (arg7 : Memref sig .tc .vmem S1x512x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : k0_cond1 i = 1#1) (h2 : ¬ k0_cond2 i = 1#1) (h3 : ¬ k0_cond3 i = 1#1) (h4 : ¬ k0_cond4 i = 1#1)
    (o o' : Fin 3 → ℕ) (ho : k0_off1 i = o) (ho' : k0_off2 i = o')
    (x0 : Vec F S1x512x1024 .i32) (x1 : Vec F S1x512x1 .f32) (x2 : Vec F S1x1x512x1024 .f32) (x3 : Vec F S1x1x512x1024 .f32) (x4 : Vec F S1x1x256x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare k0_pay12
          ∗ slots c arg8 arg9 arg10 (put s0 o S1x512x1024.size (k0_pay2 x2)) (put s1 o S1x512x1024.size (k0_pay3 x3)) (put s2 o' S1x256x2048.size (k0_pay4 x4))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    exact View.read_writes_full _ _ _ _ _
  isplitl [HS0]
  · iexists _; isplitr
    swap; · iexact HS0
    ipureintro
    refine (View.read_writes_cons_put _ _ _ _ _ ho).trans ?_
    rw [View.writes_nil, harg8.read_unread]
    exact congrArg (fun w => put s0 o S1x512x1024.size (k0_pay2 w)) ((View.readAt_full _ _ _).trans (harg4.read_unread _))
  isplitl [HS1]
  · iexists _; isplitr
    swap; · iexact HS1
    ipureintro
    refine (View.read_writes_cons_put _ _ _ _ _ ho).trans ?_
    rw [View.writes_nil, harg9.read_unread]
    exact congrArg (fun w => put s1 o S1x512x1024.size (k0_pay3 w)) ((View.readAt_full _ _ _).trans (harg5.read_unread _))
  iexists _; isplitr
  swap; · iexact HS2
  ipureintro
  refine (View.read_writes_cons_put _ _ _ _ _ ho').trans ?_
  rw [View.writes_nil, harg10.read_unread]
  exact congrArg (fun w => put s2 o' S1x256x2048.size (k0_pay4 w)) ((View.readAt_full _ _ _).trans (harg6.read_unread _))

set_option maxHeartbeats 1000000 in
/-- An even round after the first: the rows from slot 1, and the round's weights into slot 0. -/
theorem run_even (c : Dev nD) (i : grid0.Coords) (arg2 : Memref sig .tc .vmem S1x512x1024 .i32) (harg2 : arg2.IsWhole) (arg3 : Memref sig .tc .vmem S1x512x1 .f32) (harg3 : arg3.IsWhole)
    (arg4 : Memref sig .tc .vmem S1x1x512x1024 .f32) (harg4 : arg4.IsWhole) (arg5 : Memref sig .tc .vmem S1x1x512x1024 .f32) (harg5 : arg5.IsWhole) (arg6 : Memref sig .tc .vmem S1x1x256x2048 .f32) (harg6 : arg6.IsWhole)
    (arg7 : Memref sig .tc .vmem S1x512x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : ¬ k0_cond1 i = 1#1) (h2 : k0_cond2 i = 1#1) (h3 : ¬ k0_cond3 i = 1#1) (h4 : ¬ k0_cond4 i = 1#1)
    (o o' : Fin 3 → ℕ) (ho : k0_off3 i = o) (ho' : k0_off4 i = o')
    (x0 : Vec F S1x512x1024 .i32) (x1 : Vec F S1x512x1 .f32) (x2 : Vec F S1x1x512x1024 .f32) (x3 : Vec F S1x1x512x1024 .f32) (x4 : Vec F S1x1x256x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare (rows 1 x0 x1 s0 s1 s2)
          ∗ slots c arg8 arg9 arg10 (put s0 o S1x512x1024.size (k0_pay2 x2)) (put s1 o S1x512x1024.size (k0_pay3 x3)) (put s2 o' S1x256x2048.size (k0_pay4 x4))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    refine (View.read_writes_full _ _ _ _ _).trans ?_
    unfold run_even.sl.r run_even.sl.r_1
    rw [View.readAt_full, View.readAt_full, harg2.read_unread, harg3.read_unread]
    rw [load_unit harg8, load_unit harg8, load_unit harg9, load_unit harg9, load_unit harg10]
    rfl
  isplitl [HS0]
  · iexists _; isplitr
    swap; · iexact HS0
    ipureintro
    refine (View.read_writes_cons_put _ _ _ _ _ ho).trans ?_
    rw [View.writes_nil, harg8.read_unread]
    exact congrArg (fun w => put s0 o S1x512x1024.size (k0_pay2 w)) ((View.readAt_full _ _ _).trans (harg4.read_unread _))
  isplitl [HS1]
  · iexists _; isplitr
    swap; · iexact HS1
    ipureintro
    refine (View.read_writes_cons_put _ _ _ _ _ ho).trans ?_
    rw [View.writes_nil, harg9.read_unread]
    exact congrArg (fun w => put s1 o S1x512x1024.size (k0_pay3 w)) ((View.readAt_full _ _ _).trans (harg5.read_unread _))
  iexists _; isplitr
  swap; · iexact HS2
  ipureintro
  refine (View.read_writes_cons_put _ _ _ _ _ ho').trans ?_
  rw [View.writes_nil, harg10.read_unread]
  exact congrArg (fun w => put s2 o' S1x256x2048.size (k0_pay4 w)) ((View.readAt_full _ _ _).trans (harg6.read_unread _))

set_option maxHeartbeats 1000000 in
/-- An odd round: the rows from slot 0, and the round's weights into slot 1. -/
theorem run_odd (c : Dev nD) (i : grid0.Coords) (arg2 : Memref sig .tc .vmem S1x512x1024 .i32) (harg2 : arg2.IsWhole) (arg3 : Memref sig .tc .vmem S1x512x1 .f32) (harg3 : arg3.IsWhole)
    (arg4 : Memref sig .tc .vmem S1x1x512x1024 .f32) (harg4 : arg4.IsWhole) (arg5 : Memref sig .tc .vmem S1x1x512x1024 .f32) (harg5 : arg5.IsWhole) (arg6 : Memref sig .tc .vmem S1x1x256x2048 .f32) (harg6 : arg6.IsWhole)
    (arg7 : Memref sig .tc .vmem S1x512x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : ¬ k0_cond1 i = 1#1) (h2 : ¬ k0_cond2 i = 1#1) (h3 : k0_cond3 i = 1#1) (h4 : ¬ k0_cond4 i = 1#1)
    (o o' : Fin 3 → ℕ) (ho : k0_off5 i = o) (ho' : k0_off6 i = o')
    (x0 : Vec F S1x512x1024 .i32) (x1 : Vec F S1x512x1 .f32) (x2 : Vec F S1x1x512x1024 .f32) (x3 : Vec F S1x1x512x1024 .f32) (x4 : Vec F S1x1x256x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare (rows 0 x0 x1 s0 s1 s2)
          ∗ slots c arg8 arg9 arg10 (put s0 o S1x512x1024.size (k0_pay2 x2)) (put s1 o S1x512x1024.size (k0_pay3 x3)) (put s2 o' S1x256x2048.size (k0_pay4 x4))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    refine (View.read_writes_full _ _ _ _ _).trans ?_
    unfold run_odd.sl.r run_odd.sl.r_1
    rw [View.readAt_full, View.readAt_full, harg2.read_unread, harg3.read_unread]
    rw [load_unit harg8, load_unit harg8, load_unit harg9, load_unit harg9, load_unit harg10]
    rfl
  isplitl [HS0]
  · iexists _; isplitr
    swap; · iexact HS0
    ipureintro
    refine (View.read_writes_cons_put _ _ _ _ _ ho).trans ?_
    unfold run_odd.sl.v80
    rw [View.writes_nil, harg8.read_unread]
    exact congrArg (fun w => put s0 o S1x512x1024.size (k0_pay2 w)) ((View.readAt_full _ _ _).trans (harg4.read_unread _))
  isplitl [HS1]
  · iexists _; isplitr
    swap; · iexact HS1
    ipureintro
    refine (View.read_writes_cons_put _ _ _ _ _ ho).trans ?_
    unfold run_odd.sl.v87
    rw [View.writes_nil, harg9.read_unread]
    exact congrArg (fun w => put s1 o S1x512x1024.size (k0_pay3 w)) ((View.readAt_full _ _ _).trans (harg5.read_unread _))
  iexists _; isplitr
  swap; · iexact HS2
  ipureintro
  refine (View.read_writes_cons_put _ _ _ _ _ ho').trans ?_
  unfold run_odd.sl.v94
  rw [View.writes_nil, harg10.read_unread]
  exact congrArg (fun w => put s2 o' S1x256x2048.size (k0_pay4 w)) ((View.readAt_full _ _ _).trans (harg6.read_unread _))

set_option maxHeartbeats 1000000 in
/-- The last round: the rows from slot 1; the buffers stay. -/
theorem run_last (c : Dev nD) (i : grid0.Coords) (arg2 : Memref sig .tc .vmem S1x512x1024 .i32) (harg2 : arg2.IsWhole) (arg3 : Memref sig .tc .vmem S1x512x1 .f32) (harg3 : arg3.IsWhole)
    (arg4 : Memref sig .tc .vmem S1x1x512x1024 .f32) (harg4 : arg4.IsWhole) (arg5 : Memref sig .tc .vmem S1x1x512x1024 .f32) (harg5 : arg5.IsWhole) (arg6 : Memref sig .tc .vmem S1x1x256x2048 .f32) (harg6 : arg6.IsWhole)
    (arg7 : Memref sig .tc .vmem S1x512x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : ¬ k0_cond1 i = 1#1) (h2 : ¬ k0_cond2 i = 1#1) (h3 : ¬ k0_cond3 i = 1#1) (h4 : k0_cond4 i = 1#1)
    (x0 : Vec F S1x512x1024 .i32) (x1 : Vec F S1x512x1 .f32) (x2 : Vec F S1x1x512x1024 .f32) (x3 : Vec F S1x1x512x1024 .f32) (x4 : Vec F S1x1x256x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare (rows 1 x0 x1 s0 s1 s2)
          ∗ slots c arg8 arg9 arg10 s0 s1 s2) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    refine (View.read_writes_full _ _ _ _ _).trans ?_
    unfold run_last.sl.r run_last.sl.r_1
    rw [View.readAt_full, View.readAt_full, harg2.read_unread, harg3.read_unread]
    rw [load_unit harg8, load_unit harg8, load_unit harg9, load_unit harg9, load_unit harg10]
    rfl
  isplitl [HS0]
  · iexists _; isplitr
    swap; · iexact HS0
    ipureintro
    exact harg8.read_unread _
  isplitl [HS1]
  · iexists _; isplitr
    swap; · iexact HS1
    ipureintro
    exact harg9.read_unread _
  iexists _; isplitr
  swap; · iexact HS2
  ipureintro
  exact harg10.read_unread _

end Cert.Proof.Moe

end
-- ==== Proof.MoeRef.lean ====
/-
  What the expert reference computes, step by step: each of its arrays as a function of the arguments, in the reference's
  own operations, and then at an index over the extended reals.
-/
module

public import proofs.«01_k».proof.Proof.Gen.ExpertsRefIdeal.Run
public import Idealize.ShloMosaic.Lib.Pointwise
public import Idealize.ShloMosaic.PureOps.Ideal.Laws

@[expose] public section

noncomputable section

namespace Cert.Proof.MoeRef

open Idealize.ShloMosaic Idealize.SL.Sem Cert.ExpertsRefIdeal
open Cert.ExpertsRefIdeal.Gen Idealize.ShloMosaic.TcCoe
open Cert.ExpertsRefIdeal.Facts

variable {F : FTy → Type} [FloatOps F]

/-- The number in the upper half of each word, -/
def high (w : IVec S16x2048x1024 32) : FVec F S16x2048x1024 .f32 :=
  bitcastToFloat .f32 (andi w (broadcastInDim S16x2048x1024 ![] bcast_S_S16x2048x1024 (constantI S_ 32 4294901760#32)))

/-- that in the lower half, -/
def low (w : IVec S16x2048x1024 32) : FVec F S16x2048x1024 .f32 :=
  bitcastToFloat .f32 (Host.shli w (broadcastInDim S16x2048x1024 ![] bcast_S_S16x2048x1024 (constantI S_ 32 16#32)))

/-- and the gathered rows: the first after the other. -/
def gathered (w : IVec S16x2048x1024 32) : FVec F S16x2048x2048 .f32 :=
  concatenate S16x2048x2048 2 [⟨S16x2048x1024, high w⟩, ⟨S16x2048x1024, low w⟩]
    concatenates_S16x2048x1024_S16x2048x1024_S16x2048x2048_d2

/-- The rows times the layer's gate or up weights, expert by expert. -/
def project (x : FVec F S16x2048x2048 .f32) (w : FVec F S4x16x2048x1024 .f32) : FVec F S16x2048x1024 .f32 :=
  Host.dotGeneral dot_S16x2048x2048_S16x2048x1024_S16x2048x1024_2_1_1_2_0_0 none x
    (shapeCast _ (extractStridedSlice S1x16x2048x1024 ![3, 0, 0, 0] w slices_S4x16x2048x1024_S1x16x2048x1024_3_0_0_0)
      shapeCasts_S1x16x2048x1024_S16x2048x1024)

/-- A number times its logistic. -/
def silu (x : FVec F S16x2048x1024 .f32) : FVec F S16x2048x1024 .f32 :=
  mulf x (Host.divf (broadcastInDim S16x2048x1024 ![] bcast_S_S16x2048x1024 (constant S_ .f32 0x3F800000#32))
    (addf (broadcastInDim S16x2048x1024 ![] bcast_S_S16x2048x1024 (constant S_ .f32 0x3F800000#32)) (Host.exp (Host.negf x))))

/-- The experts' rows: the hidden numbers times the down weights, times the rows' gates. -/
def expert (h : FVec F S16x2048x1024 .f32) (w : FVec F S4x16x1024x2048 .f32) (g : FVec F S16x2048x1 .f32) : FVec F S16x2048x2048 .f32 :=
  mulf (Host.dotGeneral dot_S16x2048x1024_S16x1024x2048_S16x2048x2048_2_1_1_2_0_0 none h
      (shapeCast _ (extractStridedSlice S1x16x1024x2048 ![3, 0, 0, 0] w slices_S4x16x1024x2048_S1x16x1024x2048_3_0_0_0)
        shapeCasts_S1x16x1024x2048_S16x1024x2048))
    (broadcastInDim S16x2048x2048 ![0, 1, 2] bcast_S16x2048x1_S16x2048x2048_0_1_2 g)

/-- The whole result: those rows, and a block of zeros after them. -/
def result (w : IVec S16x2048x1024 32) (g : FVec F S16x2048x1 .f32) (wg wu : FVec F S4x16x2048x1024 .f32)
    (wd : FVec F S4x16x1024x2048 .f32) : FVec F S17x2048x2048 .f32 :=
  pad S17x2048x2048 ![0, 0, 0] ![1, 0, 0] ![0, 0, 0]
    (expert (mulf (silu (project (gathered w) wg)) (project (gathered w) wu)) wd g)
    (sitofp .f32 (constantI S_ 32 0#32)) pads_S16x2048x2048_S17x2048x2048_010_000_000 h_S_

/-- The reference's run ends with `result` of its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2⟩) (Cert.ExpertsRefIdeal.Value.run m ρ)

/-! ## At an index, over the extended reals -/

/-- The number whose bits are the upper half of a word, and that of its lower half. -/
def highOf (w : BitVec 32) : EReal := Ideal.ofBits .f32 (w &&& 4294901760#32)
def lowOf (w : BitVec 32) : EReal := Ideal.ofBits .f32 (w <<< 16)

theorem high_at (w : IVec S16x2048x1024 32) (i : S16x2048x1024.Idx) : (high (F := Ideal) w i : EReal) = highOf (w i) := rfl

theorem low_at (w : IVec S16x2048x1024 32) (i : S16x2048x1024.Idx) : (low (F := Ideal) w i : EReal) = lowOf (w i) := rfl

theorem gathered_at (w : IVec S16x2048x1024 32) (e : Fin 16) (r d : Fin 2048) :
    (gathered (F := Ideal) w (ix3 e r d) : EReal)
      = if h : d.val < 1024 then highOf (w (ix3 e r ⟨d.val, h⟩)) else lowOf (w (ix3 e r ⟨d.val - 1024, by omega⟩)) := by
  unfold gathered
  pointwise
  simp only [high_at, low_at]

theorem project_at (x : FVec Ideal S16x2048x2048 .f32) (w : FVec Ideal S4x16x2048x1024 .f32) (e : Fin 16) (r : Fin 2048) (f : Fin 1024) :
    project x w (ix3 e r f) = ∑ d : Fin 2048, x (ix3 e r d) * w (ix4 3 e d f) := by
  unfold project
  pointwise [dot_S16x2048x2048_S16x2048x1024_S16x2048x1024_2_1_1_2_0_0]

theorem silu_at (x : FVec Ideal S16x2048x1024 .f32) (e : Fin 16) (r : Fin 2048) (f : Fin 1024) :
    silu x (ix3 e r f) = x (ix3 e r f) * Ideal.logistic (x (ix3 e r f)) := by
  unfold silu
  pointwise
  rfl

theorem expert_at (h : FVec Ideal S16x2048x1024 .f32) (w : FVec Ideal S4x16x1024x2048 .f32) (g : FVec Ideal S16x2048x1 .f32)
    (e : Fin 16) (r x : Fin 2048) :
    expert h w g (ix3 e r x) = (∑ f : Fin 1024, h (ix3 e r f) * w (ix4 3 e f x)) * g (ix3 e r 0) := by
  unfold expert
  pointwise [dot_S16x2048x1024_S16x1024x2048_S16x2048x2048_2_1_1_2_0_0]

theorem result_pad (w : IVec S16x2048x1024 32) (g : FVec Ideal S16x2048x1 .f32) (wg wu : FVec Ideal S4x16x2048x1024 .f32)
    (wd : FVec Ideal S4x16x1024x2048 .f32) (e : Fin 17) (he : e.val = 16) (r x : Fin 2048) : result w g wg wu wd (ix3 e r x) = 0 := by
  have hz : (FloatOps.sitofp (F := Ideal) FTy.f32 0#32 : EReal) = 0 := by
    show (((0#32 : BitVec 32).toInt : ℝ) : EReal) = 0
    simp
  unfold result
  pointwise
  rw [dif_neg (by omega)]
  exact hz

/-- A sum over two halves laid one after the other. -/
theorem sum_halves {n : ℕ} (a b : Fin n → EReal) (w : Fin (n + n) → EReal) :
    ∑ d : Fin (n + n), (if h : d.val < n then a ⟨d.val, h⟩ else b ⟨d.val - n, by omega⟩) * w d
      = ∑ d : Fin n, a d * w ⟨d.val, by omega⟩ + ∑ d : Fin n, b d * w ⟨n + d.val, by omega⟩ := by
  rw [Fin.sum_univ_add]
  refine congrArg₂ (· + ·) (Finset.sum_congr rfl fun d _ => ?_) (Finset.sum_congr rfl fun d _ => ?_)
  · rw [dif_pos (show (Fin.castAdd n d).val < n from d.isLt)]
    rfl
  · rw [dif_neg (show ¬ (Fin.natAdd n d).val < n from Nat.not_lt.2 (Nat.le_add_right _ _))]
    exact congrArg₂ (· * ·) (congrArg b (Fin.ext (Nat.add_sub_cancel_left _ _))) rfl

/-- A row's product with one column of weights, the row given as its two halves. -/
def projOf (h l : Fin 1024 → EReal) (w : Fin 2048 → EReal) : EReal :=
  ∑ d : Fin 1024, h d * w ⟨d.val, by omega⟩ + ∑ d : Fin 1024, l d * w ⟨1024 + d.val, by omega⟩

/-- One number of an expert's row: from the row's halves, the gate and up weights by hidden unit, the down weights of the
    number's column, and the row's gate. -/
def expertOf (h l : Fin 1024 → EReal) (wg wu : Fin 1024 → Fin 2048 → EReal) (wd : Fin 1024 → EReal) (g : EReal) : EReal :=
  (∑ f : Fin 1024, projOf h l (wg f) * Ideal.logistic (projOf h l (wg f)) * projOf h l (wu f) * wd f) * g

theorem project_gathered (w : IVec S16x2048x1024 32) (wt : FVec Ideal S4x16x2048x1024 .f32) (e : Fin 16) (r : Fin 2048) (f : Fin 1024) :
    project (gathered w) wt (ix3 e r f)
      = projOf (fun d => highOf (w (ix3 e r d))) (fun d => lowOf (w (ix3 e r d))) (fun d => wt (ix4 3 e d f)) := by
  rw [project_at]
  simp only [gathered_at]
  exact sum_halves (n := 1024) (fun d => highOf (w (ix3 e r d))) (fun d => lowOf (w (ix3 e r d))) (fun d => wt (ix4 3 e d f))

theorem result_at (w : IVec S16x2048x1024 32) (g : FVec Ideal S16x2048x1 .f32) (wg wu : FVec Ideal S4x16x2048x1024 .f32)
    (wd : FVec Ideal S4x16x1024x2048 .f32) (e : Fin 16) (r x : Fin 2048) :
    result w g wg wu wd (ix3 ⟨e.val, by omega⟩ r x)
      = expertOf (fun d => highOf (w (ix3 e r d))) (fun d => lowOf (w (ix3 e r d))) (fun f d => wg (ix4 3 e d f))
          (fun f d => wu (ix4 3 e d f)) (fun f => wd (ix4 3 e f x)) (g (ix3 e r 0)) := by
  have hm : ∀ f : Fin 1024, mulf (silu (project (gathered w) wg)) (project (gathered w) wu) (ix3 e r f)
      = silu (project (gathered w) wg) (ix3 e r f) * project (gathered w) wu (ix3 e r f) := fun _ => rfl
  unfold result
  pointwise
  rw [expert_at]
  simp only [hm, silu_at, project_gathered]
  rfl

end Cert.Proof.MoeRef

end
-- ==== Proof.MoeBody.lean ====
/-
  What the expert call's body stores, at an index over the extended reals.
-/
module

public import proofs.«01_k».proof.Proof.MoeRun
public import proofs.«01_k».proof.Proof.MoeRef
public import Idealize.ShloMosaic.Lib.Pointwise

@[expose] public section

noncomputable section

namespace Cert.Proof.Moe

open Idealize.ShloMosaic Cert.ExpertsIdeal
open Cert.ExpertsIdeal.Gen Idealize.ShloMosaic.TcCoe
open Cert.Proof.MoeRef (highOf lowOf projOf expertOf)

/-- The product of 512 rows with the expert's gate or up weights, half by half. -/
def halves (w : Vec Ideal S1x512x1024 .i32) (a b : FVec Ideal S1x1024x1024 .bf16) : FVec Ideal S512x1024 .f32 :=
  addf (matmul dot_S512x1024_S1024x1024_S512x1024_1_0_0_1_n_n none
      (truncf .bf16 (bitcastToFloat .f32 (andi (shapeCast S512x1024 w shapeCasts_S1x512x1024_S512x1024) (broadcast S512x1024 4294901760#32))) bitsLt_bf16_f32)
      (shapeCast S1024x1024 a shapeCasts_S1x1024x1024_S1024x1024) (constant S512x1024 .f32 0x00000000#32))
    (matmul dot_S512x1024_S1024x1024_S512x1024_1_0_0_1_n_n none
      (truncf .bf16 (bitcastToFloat .f32 (shli (shapeCast S512x1024 w shapeCasts_S1x512x1024_S512x1024) (broadcast S512x1024 16#32))) bitsLt_bf16_f32)
      (shapeCast S1024x1024 b shapeCasts_S1x1024x1024_S1024x1024) (constant S512x1024 .f32 0x00000000#32))

theorem halves_at (w : Vec Ideal S1x512x1024 .i32) (a b : FVec Ideal S1x1024x1024 .bf16) (i : Fin 512) (f : Fin 1024) :
    halves w a b (ix2 i f)
      = ∑ d : Fin 1024, highOf (w (ix3 0 i d)) * a (ix3 0 d f) + ∑ d : Fin 1024, lowOf (w (ix3 0 i d)) * b (ix3 0 d f) := by
  unfold halves
  pointwise [dot_S512x1024_S1024x1024_S512x1024_1_0_0_1_n_n]
  rfl

/-- The hidden numbers times the down weights. -/
def lowered (h : FVec Ideal S512x1024 .f32) (w : FVec Ideal S1x1024x2048 .bf16) : FVec Ideal S512x2048 .f32 :=
  matmul dot_S512x1024_S1024x2048_S512x2048_1_0_0_1_n_n none (truncf .bf16 h bitsLt_bf16_f32)
    (shapeCast S1024x2048 w shapeCasts_S1x1024x2048_S1024x2048) (constant S512x2048 .f32 0x00000000#32)

theorem lowered_at (h : FVec Ideal S512x1024 .f32) (w : FVec Ideal S1x1024x2048 .bf16) (i : Fin 512) (x : Fin 2048) :
    lowered h w (ix2 i x) = ∑ f : Fin 1024, h (ix2 i f) * w (ix3 0 f x) := by
  unfold lowered
  pointwise [dot_S512x1024_S1024x2048_S512x2048_1_0_0_1_n_n]

theorem pay7_eq (w : Vec Ideal S1x512x1024 .i32) (a b c d : FVec Ideal S1x1024x1024 .bf16) (e : FVec Ideal S1x1024x2048 .bf16) :
    k0_pay7 w a b c d e = lowered (mulf (mulf (halves w a b) (logistic (halves w a b))) (halves w c d)) e := rfl

theorem pay1_at (v : FVec Ideal S512x2048 .f32) (g : Vec Ideal S1x512x1 .f32) (i : Fin 512) (x : Fin 2048) :
    k0_pay1 v g (ix3 0 i x) = v (ix2 i x) * g (ix3 0 i 0) := by
  unfold k0_pay1
  pointwise

theorem pay2_at (v : Vec Ideal S1x1x512x1024 .f32) (i : Fin 512) (x : Fin 1024) : k0_pay2 v (ix3 0 i x) = v (ix4 0 0 i x) := by
  unfold k0_pay2
  pointwise

theorem pay3_at (v : Vec Ideal S1x1x512x1024 .f32) (i : Fin 512) (x : Fin 1024) : k0_pay3 v (ix3 0 i x) = v (ix4 0 0 i x) := by
  unfold k0_pay3
  pointwise

theorem pay4_at (v : Vec Ideal S1x1x256x2048 .f32) (i : Fin 256) (x : Fin 2048) : k0_pay4 v (ix3 0 i x) = v (ix4 0 0 i x) := by
  unfold k0_pay4
  pointwise

theorem pay12_at (i : Fin 512) (x : Fin 2048) : k0_pay12 (F := Ideal) (ix3 0 i x) = 0 := by
  unfold k0_pay12
  pointwise

theorem upper_at (p : Fin 2) (s : Vec Ideal S2x2048x1024 .bf16) (d f : Fin 1024) :
    upper p s (ix3 0 d f) = s (ix3 p ⟨d.val, by omega⟩ f) := by
  refine congrArg s (funext fun a => Fin.ext ?_)
  match a with
  | ⟨0, _⟩ => show p.val + 1 * 0 = p.val; omega
  | ⟨1, _⟩ => show 0 + 1 * d.val = d.val; omega
  | ⟨2, _⟩ => show 0 + 1 * f.val = f.val; omega

theorem lower_at (p : Fin 2) (s : Vec Ideal S2x2048x1024 .bf16) (d f : Fin 1024) :
    lower p s (ix3 0 d f) = s (ix3 p ⟨1024 + d.val, by omega⟩ f) := by
  refine congrArg s (funext fun a => Fin.ext ?_)
  match a with
  | ⟨0, _⟩ => show p.val + 1 * 0 = p.val; omega
  | ⟨1, _⟩ => show 1024 + 1 * d.val = 1024 + d.val; omega
  | ⟨2, _⟩ => show 0 + 1 * f.val = f.val; omega

theorem down_at (p : Fin 2) (s : Vec Ideal S2x1024x2048 .bf16) (f : Fin 1024) (x : Fin 2048) :
    down p s (ix3 0 f x) = s (ix3 p f x) := by
  refine congrArg s (funext fun a => Fin.ext ?_)
  match a with
  | ⟨0, _⟩ => show p.val + 1 * 0 = p.val; omega
  | ⟨1, _⟩ => show 0 + 1 * f.val = f.val; omega
  | ⟨2, _⟩ => show 0 + 1 * x.val = x.val; omega

/-- The rows a point computes. -/
theorem rows_at (p : Fin 2) (w : Vec Ideal S1x512x1024 .i32) (g : Vec Ideal S1x512x1 .f32) (s0 s1 : Vec Ideal S2x2048x1024 .bf16)
    (s2 : Vec Ideal S2x1024x2048 .bf16) (i : Fin 512) (x : Fin 2048) :
    rows p w g s0 s1 s2 (ix3 0 i x)
      = expertOf (fun d => highOf (w (ix3 0 i d))) (fun d => lowOf (w (ix3 0 i d))) (fun f d => s0 (ix3 p d f))
          (fun f d => s1 (ix3 p d f)) (fun f => s2 (ix3 p f x)) (g (ix3 0 i 0)) := by
  have hm : ∀ (a b : FVec Ideal S512x1024 .f32) (f : Fin 1024),
      mulf (mulf a (logistic a)) b (ix2 i f) = a (ix2 i f) * Ideal.logistic (a (ix2 i f)) * b (ix2 i f) := fun _ _ _ => rfl
  unfold rows
  rw [pay1_at, pay7_eq, lowered_at]
  simp only [hm, halves_at, upper_at, lower_at, down_at]
  rfl

end Cert.Proof.Moe

end
-- ==== Proof.MoeSlots.lean ====
/-
  What the two slots of a weight buffer hold between grid points.  At point `p` the rounded block of that point is written
  into slot `p / 4 % 2` at the rows of block `p % 4`; the same place is written again only eight points later.  So before
  point `n` every block written at one of the eight points before it is still there.
-/
module

public import Idealize.ShloMosaic.Lib.VecWindow
public import Idealize.ShloMosaic.Lib.Pointwise

@[expose] public section

namespace Cert.Proof.Moe

open Idealize.ShloMosaic
open VecWindow (put window)

variable {α : Type} {N R T W : ℕ}

/-- Before point `n` the buffer `s` holds the blocks of the points since `n - 8` that wrote one (the first 64 do). -/
def Kept (blk : Fin N → (⟨3, ![1, R, W]⟩ : Shape).Idx → α) (n : ℕ) (s : (⟨3, ![2, T, W]⟩ : Shape).Idx → α) : Prop :=
  ∀ (p : Fin N), p.val < 64 → p.val < n → n ≤ p.val + 8 → ∀ (i : Fin R) (x : Fin W) (h : p.val % 4 * R + i.val < T),
    s (ix3 ⟨p.val / 4 % 2, Nat.mod_lt _ (by decide)⟩ ⟨p.val % 4 * R + i.val, h⟩ x) = blk p (ix3 0 i x)

theorem kept_zero (blk : Fin N → (⟨3, ![1, R, W]⟩ : Shape).Idx → α) (s : (⟨3, ![2, T, W]⟩ : Shape).Idx → α) : Kept blk 0 s :=
  fun _ _ h => absurd h (Nat.not_lt_zero _)

/-- A point of the last round writes nothing, and every block it may still need stays. -/
theorem kept_stay {blk : Fin N → (⟨3, ![1, R, W]⟩ : Shape).Idx → α} {n : ℕ} {s : (⟨3, ![2, T, W]⟩ : Shape).Idx → α}
    (h : Kept blk n s) (hn : 64 ≤ n) : Kept blk (n + 1) s :=
  fun p hp _ h2 => h p hp (by omega) (by omega)

/-- Writing the point's block keeps the others of the last eight points. -/
theorem kept_put {blk : Fin N → (⟨3, ![1, R, W]⟩ : Shape).Idx → α} {t : Fin N} {s : (⟨3, ![2, T, W]⟩ : Shape).Idx → α}
    (h : Kept blk t.val s) {q : ℕ} (hq : q = t.val / 4 % 2) :
    Kept blk (t.val + 1) (put s ![q, t.val % 4 * R, 0] ![1, R, W] (blk t)) := by
  subst hq
  intro p hp h1 h2 i x hr
  by_cases e : p = t
  · subst e
    have hm : ∀ a, (![p.val / 4 % 2, p.val % 4 * R, 0] : Fin 3 → ℕ) a
          ≤ ((ix3 ⟨p.val / 4 % 2, Nat.mod_lt _ (by decide)⟩ ⟨p.val % 4 * R + i.val, hr⟩ x : (⟨3, ![2, T, W]⟩ : Shape).Idx) a).val
        ∧ ((ix3 ⟨p.val / 4 % 2, Nat.mod_lt _ (by decide)⟩ ⟨p.val % 4 * R + i.val, hr⟩ x : (⟨3, ![2, T, W]⟩ : Shape).Idx) a).val
          < (![p.val / 4 % 2, p.val % 4 * R, 0] : Fin 3 → ℕ) a + (![1, R, W] : Fin 3 → ℕ) a := by
      intro a
      match a with
      | ⟨0, _⟩ => exact ⟨Nat.le_refl _, Nat.lt_succ_self _⟩
      | ⟨1, _⟩ => exact ⟨Nat.le_add_right _ _, Nat.add_lt_add_left i.isLt _⟩
      | ⟨2, _⟩ => exact ⟨Nat.zero_le _, by rw [show (![p.val / 4 % 2, p.val % 4 * R, 0] : Fin 3 → ℕ) ⟨2, by decide⟩ = 0 from rfl, Nat.zero_add]; exact x.isLt⟩
    unfold put
    rw [dif_pos hm]
    refine congrArg (blk p) (funext fun a => Fin.ext ?_)
    match a with
    | ⟨0, _⟩ => exact Nat.sub_self _
    | ⟨1, _⟩ => exact Nat.add_sub_cancel_left _ _
    | ⟨2, _⟩ => exact Nat.sub_zero _
  · have hne : p.val ≠ t.val := fun h' => e (Fin.ext h')
    have hR : 0 < R := lt_of_le_of_lt (Nat.zero_le _) i.isLt
    unfold put
    rw [dif_neg]
    · exact h p hp (by omega) (by omega) i x hr
    · intro hall
      have h0 : t.val / 4 % 2 ≤ p.val / 4 % 2 ∧ p.val / 4 % 2 < t.val / 4 % 2 + 1 := hall 0
      have h1' : t.val % 4 * R ≤ p.val % 4 * R + i.val ∧ p.val % 4 * R + i.val < t.val % 4 * R + R := hall 1
      have e1 : p.val % 4 = t.val % 4 := by
        have hi := i.isLt
        rcases Nat.lt_trichotomy (p.val % 4) (t.val % 4) with hl | hl | hl
        · have := Nat.mul_le_mul_right R (Nat.succ_le_of_lt hl)
          rw [Nat.succ_mul] at this
          omega
        · exact hl
        · have := Nat.mul_le_mul_right R (Nat.succ_le_of_lt hl)
          rw [Nat.succ_mul] at this
          omega
      omega

/-- The weights of the expert that point `t` computes with, from the blocks of the round before: the same in both slots. -/
def full (blk : Fin N → (⟨3, ![1, R, W]⟩ : Shape).Idx → α) (t : Fin N) (hR : 0 < R) (y : (⟨3, ![2, T, W]⟩ : Shape).Idx) : α :=
  blk ⟨(4 * (t.val / 4 - 1) + (y 1).val / R) % N, Nat.mod_lt _ (lt_of_le_of_lt (Nat.zero_le _) t.isLt)⟩
    (ix3 0 ⟨(y 1).val % R, Nat.mod_lt _ hR⟩ (y 2))

/-- The slot that point `t` reads holds them. -/
theorem kept_full {blk : Fin N → (⟨3, ![1, R, W]⟩ : Shape).Idx → α} {t : Fin N} {s : (⟨3, ![2, T, W]⟩ : Shape).Idx → α}
    (h : Kept blk t.val s) (hT : T = 4 * R) (hR : 0 < R) (h4 : 4 ≤ t.val) (h68 : t.val < 68) (y : (⟨3, ![2, T, W]⟩ : Shape).Idx)
    (hy : (y 0).val = (t.val / 4 + 1) % 2) : s y = full blk t hR y := by
  have hy1 : (y 1).val < 4 * R := hT ▸ (y 1).isLt
  have hk : (y 1).val / R < 4 := Nat.div_lt_of_lt_mul (by rw [Nat.mul_comm]; exact hy1)
  have hy1s : (y 1).val / R * R + (y 1).val % R = (y 1).val := by rw [Nat.mul_comm]; exact Nat.div_add_mod _ _
  unfold full
  have hr : (y 1).val % R < R := Nat.mod_lt _ hR
  have hyT : (y 1).val < T := (y 1).isLt
  obtain ⟨k, hke⟩ : ∃ k, (y 1).val / R = k := ⟨_, rfl⟩
  rw [hke] at hk hy1s
  have hlt : 4 * (t.val / 4 - 1) + k < N := lt_of_lt_of_le (by omega) (Nat.le_of_lt t.isLt)
  have hN : (4 * (t.val / 4 - 1) + k) % N = 4 * (t.val / 4 - 1) + k := Nat.mod_eq_of_lt hlt
  have hs : (4 * (t.val / 4 - 1) + k) % 4 * R + (y 1).val % R = (y 1).val := by
    rw [show (4 * (t.val / 4 - 1) + k) % 4 = k by omega]
    exact hy1s
  have key := h ⟨4 * (t.val / 4 - 1) + k, hlt⟩ (by show 4 * (t.val / 4 - 1) + k < 64; omega)
    (by show 4 * (t.val / 4 - 1) + k < t.val; omega) (by show t.val ≤ 4 * (t.val / 4 - 1) + k + 8; omega)
    ⟨(y 1).val % R, hr⟩ (y 2) (by show (4 * (t.val / 4 - 1) + k) % 4 * R + (y 1).val % R < T; rw [hs]; exact hyT)
  rw [show (⟨(4 * (t.val / 4 - 1) + (y 1).val / R) % N, Nat.mod_lt _ (lt_of_le_of_lt (Nat.zero_le _) t.isLt)⟩ : Fin N)
    = ⟨4 * (t.val / 4 - 1) + k, hlt⟩ from Fin.ext ((congrArg (fun k => (4 * (t.val / 4 - 1) + k) % N) hke).trans hN)]
  refine Eq.trans (congrArg s (funext fun a => Fin.ext ?_)) key
  match a with
  | ⟨0, _⟩ => exact hy.trans (by show (t.val / 4 + 1) % 2 = (4 * (t.val / 4 - 1) + k) / 4 % 2; omega)
  | ⟨1, _⟩ => exact hs.symm
  | ⟨2, _⟩ => rfl

end Cert.Proof.Moe
-- ==== Proof.MoeFrame.lean ====
/-
  The frame of the expert call: what its buffers hold between the points of the grid, that the body keeps it, and so that
  the call runs to its end and leaves its arguments as they were.
-/
module

public import proofs.«01_k».proof.Proof.MoeRun
public import proofs.«01_k».proof.Proof.MoeSlots
public import Idealize.ShloMosaic.Lib.Claim

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (put window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounded block of the gate weights that point `t` writes, -/
def gateBlk (c : Dev nD) (t : Fin cfg0.N) : Vec F S1x512x1024 .bf16 := k0_pay2 (iblk m c 2 t)

/-- that of the up weights, -/
def upBlk (c : Dev nD) (t : Fin cfg0.N) : Vec F S1x512x1024 .bf16 := k0_pay3 (iblk m c 3 t)

/-- and that of the down weights. -/
def downBlk (c : Dev nD) (t : Fin cfg0.N) : Vec F S1x256x2048 .bf16 := k0_pay4 (iblk m c 4 t)

/-- What point `t` leaves in the result block: zeros in the first round, the rows of the expert before afterwards. -/
def out (c : Dev nD) (t : Fin cfg0.N) : Vec F S1x512x2048 .f32 :=
  if t.val < 4 then k0_pay12 (F := F)
  else rows ⟨(t.val / 4 + 1) % 2, Nat.mod_lt _ (by decide)⟩ (iblk m c 0 t) (iblk m c 1 t) (full (gateBlk m c) t (by decide))
    (full (upBlk m c) t (by decide)) (full (downBlk m c) t (by decide))

theorem window_congr {s : Shape} {α : Type} {f g : s.Idx → α} {off size : Fin s.rank → ℕ} (inb : ∀ a, off a + size a ≤ s.size a)
    (h : ∀ y : s.Idx, (∀ a, off a ≤ (y a).val ∧ (y a).val < off a + size a) → f y = g y) : window f off size inb = window g off size inb :=
  funext fun x => h _ fun a => by
    have e : ((Rect.unit off size inb).emb x a).val = off a + 1 * (x a).val := rfl
    have := (x a).isLt
    have hs : (Rect.unit off size inb).shape.size a = size a := rfl
    omega

/-- The rows computed at point `t` depend only on the slot that is read. -/
theorem rows_kept (c : Dev nD) (t : Fin cfg0.N) (h4 : 4 ≤ t.val) {s0 s1 : Vec F S2x2048x1024 .bf16} {s2 : Vec F S2x1024x2048 .bf16}
    (k0 : Kept (gateBlk m c) t.val s0) (k1 : Kept (upBlk m c) t.val s1) (k2 : Kept (downBlk m c) t.val s2) (q : Fin 2)
    (hq : q.val = (t.val / 4 + 1) % 2) : rows q (iblk m c 0 t) (iblk m c 1 t) s0 s1 s2 = out m c t := by
  have h68 : t.val < 68 := lt_of_lt_of_eq t.isLt N_0
  have g {y : S2x2048x1024.Idx} {n : ℕ} (hy : ∀ a, (![q.val, n, 0] : Fin 3 → ℕ) a ≤ (y a).val ∧ (y a).val < (![q.val, n, 0] : Fin 3 → ℕ) a + S1x1024x1024.size a) :
      (y 0).val = (t.val / 4 + 1) % 2 := by
    have : q.val ≤ (y 0).val ∧ (y 0).val < q.val + 1 := hy 0
    omega
  have e0 : upper q s0 = upper q (full (gateBlk m c) t (by decide)) :=
    window_congr _ fun y hy => kept_full k0 rfl (by decide) h4 h68 y (g hy)
  have e0' : lower q s0 = lower q (full (gateBlk m c) t (by decide)) :=
    window_congr _ fun y hy => kept_full k0 rfl (by decide) h4 h68 y (g hy)
  have e1 : upper q s1 = upper q (full (upBlk m c) t (by decide)) :=
    window_congr _ fun y hy => kept_full k1 rfl (by decide) h4 h68 y (g hy)
  have e1' : lower q s1 = lower q (full (upBlk m c) t (by decide)) :=
    window_congr _ fun y hy => kept_full k1 rfl (by decide) h4 h68 y (g hy)
  have e2 : down q s2 = down q (full (downBlk m c) t (by decide)) :=
    window_congr _ fun y hy => kept_full k2 rfl (by decide) h4 h68 y (by
      have : q.val ≤ (y 0).val ∧ (y 0).val < q.val + 1 := hy 0
      omega)
  unfold out
  rw [if_neg (by omega), show (⟨(t.val / 4 + 1) % 2, Nat.mod_lt _ (by decide)⟩ : Fin 2) = q from Fin.ext hq.symm]
  unfold rows
  rw [e0, e0', e1, e1', e2]

/-! ## The proof data -/

/-- Between the points: the three weight buffers with the blocks of the last eight points, and the generator's register. -/
def Between (c : Dev nD) (n : ℕ) : sProp 𝕄 :=
  iprop(∃ s0 : Vec F S2x2048x1024 .bf16, ∃ s1 : Vec F S2x2048x1024 .bf16, ∃ s2 : Vec F S2x1024x2048 .bf16,
    ⌜Kept (gateBlk m c) n s0 ∧ Kept (upBlk m c) n s1 ∧ Kept (downBlk m c) n s2⌝
      ∗ slots c (Memref.whole cc0_scratch0) (Memref.whole cc0_scratch1) (Memref.whole cc0_scratch2) s0 s1 s2 ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t
  Φ t := Between m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The cases, and where a point writes -/

theorem cond1 : ∀ t : Fin grid0.N, k0_cond1 (grid0.coords t) = 1#1 ↔ t.val < 4 := by decide +kernel
theorem cond2 : ∀ t : Fin grid0.N, k0_cond2 (grid0.coords t) = 1#1 ↔ 4 ≤ t.val ∧ t.val < 64 ∧ t.val / 4 % 2 = 0 := by decide +kernel
theorem cond3 : ∀ t : Fin grid0.N, k0_cond3 (grid0.coords t) = 1#1 ↔ 4 ≤ t.val ∧ t.val < 64 ∧ t.val / 4 % 2 = 1 := by decide +kernel
theorem cond4 : ∀ t : Fin grid0.N, k0_cond4 (grid0.coords t) = 1#1 ↔ 64 ≤ t.val := by decide +kernel
theorem off1 : ∀ t : Fin grid0.N, k0_off1 (grid0.coords t) = ![0, t.val % 4 * 512, 0] := by decide +kernel
theorem off2 : ∀ t : Fin grid0.N, k0_off2 (grid0.coords t) = ![0, t.val % 4 * 256, 0] := by decide +kernel
theorem off3 : ∀ t : Fin grid0.N, k0_off3 (grid0.coords t) = ![0, t.val % 4 * 512, 0] := by decide +kernel
theorem off4 : ∀ t : Fin grid0.N, k0_off4 (grid0.coords t) = ![0, t.val % 4 * 256, 0] := by decide +kernel
theorem off5 : ∀ t : Fin grid0.N, k0_off5 (grid0.coords t) = ![1, t.val % 4 * 512, 0] := by decide +kernel
theorem off6 : ∀ t : Fin grid0.N, k0_off6 (grid0.coords t) = ![1, t.val % 4 * 256, 0] := by decide +kernel

/-- No point leaves the result block alone. -/
theorem idle5 : ∀ t : Fin cfg0.N, cfg0.idle 5 (cfg0.grid.coords t) = false := by decide +kernel

/-! ## The body at a point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point, its conditions put aside: from the buffers as the point before left them to the result block and
the buffers as the point after needs them. -/
theorem at_point (c : Dev nD) (t : Fin cfg0.N) (s0 s1 : Vec F S2x2048x1024 .bf16) (s2 : Vec F S2x1024x2048 .bf16)
    (k0 : Kept (gateBlk m c) t.val s0) (k1 : Kept (upBlk m c) t.val s1) (k2 : Kept (downBlk m c) t.val s2) :
    ∃ (s0' s1' : Vec F S2x2048x1024 .bf16) (s2' : Vec F S2x1024x2048 .bf16),
      (Kept (gateBlk m c) (t.val + 1) s0' ∧ Kept (upBlk m c) (t.val + 1) s1' ∧ Kept (downBlk m c) (t.val + 1) s2') ∧
      ∀ K : PUnit → sProp 𝕄,
        iprop(inputs c (st0_0 t) (st0_1 t) (st0_2 t) (st0_3 t) (st0_4 t) (iblk m c 0 t) (iblk m c 1 t) (iblk m c 2 t) (iblk m c 3 t) (iblk m c 4 t)
            ∗ (∃ d, owns (c : Thread nD τ) (st0_5 t) fullShare d)
            ∗ slots c (Memref.whole cc0_scratch0) (Memref.whole cc0_scratch1) (Memref.whole cc0_scratch2) s0 s1 s2
            ∗ (iprop(inputs c (st0_0 t) (st0_1 t) (st0_2 t) (st0_3 t) (st0_4 t) (iblk m c 0 t) (iblk m c 1 t) (iblk m c 2 t) (iblk m c 3 t) (iblk m c 4 t)
                ∗ owns (c : Thread nD τ) (st0_5 t) fullShare (out m c t)
                ∗ slots c (Memref.whole cc0_scratch0) (Memref.whole cc0_scratch1) (Memref.whole cc0_scratch2) s0' s1' s2') -∗ K ⟨⟩))
          ⊢ wp frame (wpE (defs₀ (F := F)) Variants.none c none) Set.univ (bodyAt0 t) K := by
  have h68 : t.val < 68 := lt_of_lt_of_eq t.isLt N_0
  by_cases hlast : 64 ≤ t.val
  · refine ⟨s0, s1, s2, ⟨kept_stay k0 hlast, kept_stay k1 hlast, kept_stay k2 hlast⟩, fun K => ?_⟩
    rw [← rows_kept m c t (by omega) k0 k1 k2 1 (by show 1 = _; omega)]
    exact run_last c (grid0.coords t) _ _ _ _ _ _ _ _ _ _ _ _ _ _ _ _ _ _ (mt (cond1 t).mp (by omega)) (mt (cond2 t).mp (by omega))
      (mt (cond3 t).mp (by omega)) ((cond4 t).mpr hlast) _ _ _ _ _ s0 s1 s2 Set.univ K
  by_cases hfirst : t.val < 4
  · refine ⟨_, _, _, ⟨kept_put (q := 0) k0 (by omega), kept_put (q := 0) k1 (by omega), kept_put (q := 0) k2 (by omega)⟩, fun K => ?_⟩
    rw [show out m c t = k0_pay12 (F := F) from if_pos hfirst]
    exact run_first c (grid0.coords t) _ _ _ _ _ _ _ _ _ _ _ _ _ _ _ _ _ _ ((cond1 t).mpr hfirst) (mt (cond2 t).mp (by omega))
      (mt (cond3 t).mp (by omega)) (mt (cond4 t).mp (by omega)) _ _ (off1 t) (off2 t) _ _ _ _ _ s0 s1 s2 Set.univ K
  by_cases hev : t.val / 4 % 2 = 0
  · refine ⟨_, _, _, ⟨kept_put (q := 0) k0 (by omega), kept_put (q := 0) k1 (by omega), kept_put (q := 0) k2 (by omega)⟩, fun K => ?_⟩
    rw [← rows_kept m c t (by omega) k0 k1 k2 1 (by show 1 = _; omega)]
    exact run_even c (grid0.coords t) _ _ _ _ _ _ _ _ _ _ _ _ _ _ _ _ _ _ (mt (cond1 t).mp (by omega)) ((cond2 t).mpr (by omega))
      (mt (cond3 t).mp (by omega)) (mt (cond4 t).mp (by omega)) _ _ (off3 t) (off4 t) _ _ _ _ _ s0 s1 s2 Set.univ K
  · refine ⟨_, _, _, ⟨kept_put (q := 1) k0 (by omega), kept_put (q := 1) k1 (by omega), kept_put (q := 1) k2 (by omega)⟩, fun K => ?_⟩
    rw [← rows_kept m c t (by omega) k0 k1 k2 0 (by show 0 = _; omega)]
    exact run_odd c (grid0.coords t) _ _ _ _ _ _ _ _ _ _ _ _ _ _ _ _ _ _ (mt (cond1 t).mp (by omega)) (mt (cond2 t).mp (by omega))
      ((cond3 t).mpr (by omega)) (mt (cond4 t).mp (by omega)) _ _ (off5 t) (off6 t) _ _ _ _ _ s0 s1 s2 Set.univ K

/-- The body keeps what holds between the points. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    after0, after1, after2, after3, after4, after5,
    show (dats m 0 c).Φ t.castSucc = Between m c t.val from rfl, show (dats m 0 c).Φ t.succ = Between m c (t.val + 1) from rfl]
  unfold Between
  iintro ⟨⟨%s0, %s1, %s2, %hk, ⟨HS0, HS1, HS2⟩, Hg⟩, Ho, ⟨%d0, H0⟩, ⟨%d1, H1⟩, ⟨%d2, H2⟩, ⟨%d3, H3⟩, ⟨%d4, H4⟩, ⟨%d5, H5⟩⟩
  obtain ⟨s0', s1', s2', hk', hrun⟩ := at_point m c t s0 s1 s2 hk.1 hk.2.1 hk.2.2
  iapply (hrun _)
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [HS0 HS1 HS2]
  · isplitl [HS0]; · iexact HS0
    isplitl [HS1]; · iexact HS1
    iexact HS2
  iintro ⟨⟨H0, H1, H2, H3, H4⟩, H5, ⟨HS0, HS1, HS2⟩⟩
  isplitl [HS0 HS1 HS2 Hg]
  · iexists s0'; iexists s1'; iexists s2'
    isplitr; · ipureintro; exact hk'
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by rw [idle5]; exact .rfl

/-! ## The first and the last point -/

theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Between m c 0 from rfl, scratch_eq]
  unfold Between
  iintro ⟨⟨⟨%s0, HS0⟩, ⟨%s1, HS1⟩, ⟨%s2, HS2⟩⟩, Hg⟩
  iexists s0; iexists s1; iexists s2
  isplitr; · ipureintro; exact ⟨kept_zero _ _, kept_zero _ _, kept_zero _ _⟩
  isplitl [HS0 HS1 HS2]
  · isplitl [HS0]; · iexact HS0
    isplitl [HS1]; · iexact HS1
    iexact HS2
  iexact Hg

theorem hout (c : Dev nD) : (dats m 0 c).Φ (Fin.last cfg0.N) ⊢ Pipeline.ΦA spec0 c := by
  rw [show (dats m 0 c).Φ (Fin.last cfg0.N) = Between m c cfg0.N from rfl, scratch_eq]
  unfold Between
  iintro ⟨%s0, %s1, %s2, -, ⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- The call runs to its end, its arrays are what the proof data say, and every counter is back at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.Proof.Moe

end
-- ==== Proof.MoeArray.lean ====
/-
  The array the expert call leaves: at every expert, row and lane, `expertOf` of the row's halves, of the expert's weights and
  of the row's gate; and zeros in the block after the last expert.
-/
module

public import proofs.«01_k».proof.Proof.MoeBody
public import proofs.«01_k».proof.Proof.MoeFrame
public import Idealize.ShloMosaic.Lib.Pipeline.ValueKit.Geometry

@[expose] public section

noncomputable section

namespace Cert.Proof.Moe

open Idealize.ShloMosaic Idealize.SL.Sem Cert.ExpertsIdeal
open Cert.ExpertsIdeal.Gen Idealize.ShloMosaic.TcCoe
open Cert.Proof.MoeRef (highOf lowOf projOf expertOf)

/-- The blocks' indices at a grid point `t`, of round `t / 4`: the rows and gates of the expert before the round's, the
    weights of the round's own, the result's block of the expert before (the first round's after the last expert). -/
theorem index0 : ∀ t : Fin cfg0.N, win0_0.index t = ![t.val / 4 - 1, t.val % 4, 0] :=
  (by decide +kernel : ∀ t : Fin grid0.N, _)
theorem index1 : ∀ t : Fin cfg0.N, win0_1.index t = ![t.val / 4 - 1, t.val % 4, 0] :=
  (by decide +kernel : ∀ t : Fin grid0.N, _)
theorem index2 : ∀ t : Fin cfg0.N, win0_2.index t = ![3, min (t.val / 4) 15, t.val % 4, 0] :=
  (by decide +kernel : ∀ t : Fin grid0.N, _)
theorem index3 : ∀ t : Fin cfg0.N, win0_3.index t = ![3, min (t.val / 4) 15, t.val % 4, 0] :=
  (by decide +kernel : ∀ t : Fin grid0.N, _)
theorem index4 : ∀ t : Fin cfg0.N, win0_4.index t = ![3, min (t.val / 4) 15, t.val % 4, 0] :=
  (by decide +kernel : ∀ t : Fin grid0.N, _)
theorem index5 : ∀ t : Fin cfg0.N, win0_5.index t = ![(t.val / 4 + 16) % 17, t.val % 4, 0] :=
  (by decide +kernel : ∀ t : Fin grid0.N, _)

/-- No two points write one place of the result. -/
theorem disjoint5 : ∀ t t' : Fin cfg0.N, (cfg0.win 5).flush t = true → (cfg0.win 5).flush t' = true → t ≠ t' →
    Disjoint ((cfg0.win 5).blk t).view.set ((cfg0.win 5).blk t').view.set := by
  intro t t' _ _ hne
  refine (cfg0.win 5).disjoint_blk fun h => hne ?_
  have ht : t.val < 68 := lt_of_lt_of_eq t.isLt N_0
  have ht' : t'.val < 68 := lt_of_lt_of_eq t'.isLt N_0
  have h' : win0_5.index t = win0_5.index t' := h
  rw [index5, index5] at h'
  have h0 : (t.val / 4 + 16) % 17 = (t'.val / 4 + 16) % 17 := congrFun h' 0
  have h1 : t.val % 4 = t'.val % 4 := congrFun h' 1
  exact Fin.ext (by omega)

variable (m : (ℓ : Loc nD τ sig) → Buf (Elt Ideal) ℓ) (c : Dev nD)

/-- The blocks a point reads, as parts of the arguments. -/
theorem block0 (t : Fin cfg0.N) (i : Fin 512) (x : Fin 1024) :
    iblk m c 0 t (ix3 0 i x) = m ((c.tc : Thread nD τ).loc main_arg0)
      (ix3 ⟨t.val / 4 - 1, by have := t.isLt; have : cfg0.N = 68 := N_0; omega⟩ ⟨t.val % 4 * 512 + i.val, by omega⟩ x) := by
  blk_simp [iblk, V_main_arg0]
  blk_ext [index0]

theorem block1 (t : Fin cfg0.N) (i : Fin 512) :
    iblk m c 1 t (ix3 0 i 0) = m ((c.tc : Thread nD τ).loc main_arg1)
      (ix3 ⟨t.val / 4 - 1, by have := t.isLt; have : cfg0.N = 68 := N_0; omega⟩ ⟨t.val % 4 * 512 + i.val, by omega⟩ 0) := by
  blk_simp [iblk, V_main_arg1]
  blk_ext [index1]

theorem block2 (t : Fin cfg0.N) (i : Fin 512) (x : Fin 1024) :
    iblk m c 2 t (ix4 0 0 i x) = m ((c.tc : Thread nD τ).loc main_arg2)
      (ix4 3 ⟨min (t.val / 4) 15, by omega⟩ ⟨t.val % 4 * 512 + i.val, by omega⟩ x) := by
  blk_simp [iblk, V_main_arg2]
  blk_ext [index2]

theorem block3 (t : Fin cfg0.N) (i : Fin 512) (x : Fin 1024) :
    iblk m c 3 t (ix4 0 0 i x) = m ((c.tc : Thread nD τ).loc main_arg3)
      (ix4 3 ⟨min (t.val / 4) 15, by omega⟩ ⟨t.val % 4 * 512 + i.val, by omega⟩ x) := by
  blk_simp [iblk, V_main_arg3]
  blk_ext [index3]

theorem block4 (t : Fin cfg0.N) (i : Fin 256) (x : Fin 2048) :
    iblk m c 4 t (ix4 0 0 i x) = m ((c.tc : Thread nD τ).loc main_arg4)
      (ix4 3 ⟨min (t.val / 4) 15, by omega⟩ ⟨t.val % 4 * 256 + i.val, by omega⟩ x) := by
  blk_simp [iblk, V_main_arg4]
  blk_ext [index4]

/-- The point that computes row `r` of expert `e`. -/
def pointOf (e : Fin 16) (r : Fin 2048) : Fin cfg0.N :=
  ⟨4 * (e.val + 1) + r.val / 512, by have : cfg0.N = 68 := N_0; omega⟩

/-- The point of the first round that writes row `r`. -/
def zeroOf (r : Fin 2048) : Fin cfg0.N := ⟨r.val / 512, by have : cfg0.N = 68 := N_0; omega⟩

/-- The weights that point has: those of expert `e`. -/
theorem gate_full (e : Fin 16) (r : Fin 2048) (p : Fin 2) (d : Fin 2048) (f : Fin 1024) :
    (full (gateBlk m c) (pointOf e r) (by decide) (ix3 p d f : S2x2048x1024.Idx) : EReal)
      = m ((c.tc : Thread nD τ).loc main_arg2) (ix4 3 e d f) := by
  unfold full gateBlk
  refine (pay2_at _ _ _).trans ((block2 m c _ _ _).trans ?_)
  have hp : (pointOf e r).val / 4 = e.val + 1 := by show (4 * (e.val + 1) + r.val / 512) / 4 = _; omega
  have hN : cfg0.N = 68 := N_0
  have hv : (4 * ((pointOf e r).val / 4 - 1) + d.val / 512) % cfg0.N = 4 * e.val + d.val / 512 := by rw [hp, hN]; omega
  have h1 : min ((4 * ((pointOf e r).val / 4 - 1) + d.val / 512) % cfg0.N / 4) 15 = e.val := by rw [hv]; omega
  have h2 : (4 * ((pointOf e r).val / 4 - 1) + d.val / 512) % cfg0.N % 4 * 512 + d.val % 512 = d.val := by rw [hv]; omega
  exact congrArg _ (congrArg₂ (fun a b => ix4 3 a b f) (Fin.ext h1) (Fin.ext h2))

theorem up_full (e : Fin 16) (r : Fin 2048) (p : Fin 2) (d : Fin 2048) (f : Fin 1024) :
    (full (upBlk m c) (pointOf e r) (by decide) (ix3 p d f : S2x2048x1024.Idx) : EReal)
      = m ((c.tc : Thread nD τ).loc main_arg3) (ix4 3 e d f) := by
  unfold full upBlk
  refine (pay3_at _ _ _).trans ((block3 m c _ _ _).trans ?_)
  have hp : (pointOf e r).val / 4 = e.val + 1 := by show (4 * (e.val + 1) + r.val / 512) / 4 = _; omega
  have hN : cfg0.N = 68 := N_0
  have hv : (4 * ((pointOf e r).val / 4 - 1) + d.val / 512) % cfg0.N = 4 * e.val + d.val / 512 := by rw [hp, hN]; omega
  have h1 : min ((4 * ((pointOf e r).val / 4 - 1) + d.val / 512) % cfg0.N / 4) 15 = e.val := by rw [hv]; omega
  have h2 : (4 * ((pointOf e r).val / 4 - 1) + d.val / 512) % cfg0.N % 4 * 512 + d.val % 512 = d.val := by rw [hv]; omega
  exact congrArg _ (congrArg₂ (fun a b => ix4 3 a b f) (Fin.ext h1) (Fin.ext h2))

theorem down_full (e : Fin 16) (r : Fin 2048) (p : Fin 2) (f : Fin 1024) (x : Fin 2048) :
    (full (downBlk m c) (pointOf e r) (by decide) (ix3 p f x : S2x1024x2048.Idx) : EReal)
      = m ((c.tc : Thread nD τ).loc main_arg4) (ix4 3 e f x) := by
  unfold full downBlk
  refine (pay4_at _ _ _).trans ((block4 m c _ _ _).trans ?_)
  have hp : (pointOf e r).val / 4 = e.val + 1 := by show (4 * (e.val + 1) + r.val / 512) / 4 = _; omega
  have hN : cfg0.N = 68 := N_0
  have hv : (4 * ((pointOf e r).val / 4 - 1) + f.val / 256) % cfg0.N = 4 * e.val + f.val / 256 := by rw [hp, hN]; omega
  have h1 : min ((4 * ((pointOf e r).val / 4 - 1) + f.val / 256) % cfg0.N / 4) 15 = e.val := by rw [hv]; omega
  have h2 : (4 * ((pointOf e r).val / 4 - 1) + f.val / 256) % cfg0.N % 4 * 256 + f.val % 256 = f.val := by rw [hv]; omega
  exact congrArg _ (congrArg₂ (fun a b => ix4 3 a b x) (Fin.ext h1) (Fin.ext h2))

/-- What a point writes back. -/
theorem flushed_eq (t : Fin cfg0.N) : (dats m 0 c).flushed 5 t = (cfg0.win 5).cut (grid0.coords t) (out m c t) := by
  unfold Idealize.ShloMosaic.Pipeline.Dat.flushed
  rw [after5]

/-- The array after the run, at a row of an expert, -/
theorem final_at (e : Fin 16) (r x : Fin 2048) :
    (dats m 0 c).arrAt 5 cfg0.N (ix3 ⟨e.val, by omega⟩ r x)
      = expertOf (fun d => highOf (m ((c.tc : Thread nD τ).loc main_arg0) (ix3 e r d)))
          (fun d => lowOf (m ((c.tc : Thread nD τ).loc main_arg0) (ix3 e r d)))
          (fun f d => m ((c.tc : Thread nD τ).loc main_arg2) (ix4 3 e d f))
          (fun f d => m ((c.tc : Thread nD τ).loc main_arg3) (ix4 3 e d f))
          (fun f => m ((c.tc : Thread nD τ).loc main_arg4) (ix4 3 e f x)) (m ((c.tc : Thread nD τ).loc main_arg1) (ix3 e r 0)) := by
  have hp : (pointOf e r).val = 4 * (e.val + 1) + r.val / 512 := rfl
  have he : (ix3 ⟨e.val, by omega⟩ r x : S17x2048x2048.Idx)
      = ((cfg0.win 5).blk (pointOf e r)).view.emb (ix3 0 ⟨r.val % 512, by omega⟩ x : S1x512x2048.Idx) := by
    blk_ext [index5, hp]
  rw [he, (dats m 0 c).arrAt_emb_eq_flushed 5 disjoint5 (pointOf e r) (flush0_5 _), flushed_eq]
  refine Eq.trans (b := out m c (pointOf e r) (ix3 0 ⟨r.val % 512, by omega⟩ x)) rfl ?_
  unfold out
  rw [if_neg (by omega), rows_at]
  have b0 : ∀ d : Fin 1024, iblk m c 0 (pointOf e r) (ix3 0 ⟨r.val % 512, by omega⟩ d)
      = m ((c.tc : Thread nD τ).loc main_arg0) (ix3 e r d) := fun d => (block0 m c _ _ _).trans
    (congrArg _ (congrArg₂ (fun a b => ix3 a b d) (Fin.ext (by simp only [hp]; omega)) (Fin.ext (by simp only [hp]; omega))))
  have b1 : iblk m c 1 (pointOf e r) (ix3 0 ⟨r.val % 512, by omega⟩ 0)
      = m ((c.tc : Thread nD τ).loc main_arg1) (ix3 e r 0) := (block1 m c _ _).trans
    (congrArg _ (congrArg₂ (fun a b => ix3 a b 0) (Fin.ext (by simp only [hp]; omega)) (Fin.ext (by simp only [hp]; omega))))
  simp only [b0, b1, gate_full, up_full, down_full]

/-- and in the block after the last expert. -/
theorem final_zero (e : Fin 17) (h16 : e.val = 16) (r x : Fin 2048) : (dats m 0 c).arrAt 5 cfg0.N (ix3 e r x) = (0 : EReal) := by
  have hp : (zeroOf r).val = r.val / 512 := rfl
  have he : (ix3 e r x : S17x2048x2048.Idx)
      = ((cfg0.win 5).blk (zeroOf r)).view.emb (ix3 0 ⟨r.val % 512, by omega⟩ x : S1x512x2048.Idx) := by
    blk_ext [index5, hp]
  rw [he, (dats m 0 c).arrAt_emb_eq_flushed 5 disjoint5 (zeroOf r) (flush0_5 _), flushed_eq]
  refine Eq.trans (b := out m c (zeroOf r) (ix3 0 ⟨r.val % 512, by omega⟩ x)) rfl ?_
  unfold out
  rw [if_pos (by omega)]
  exact pay12_at _ _

end Cert.Proof.Moe

end
-- ==== Proof.Moe.lean ====
/-
  The claims about the expert call: the frames of the call and of its reference, and that both end with one array.
-/
module

public import proofs.«01_k».proof.Proof.MoeArray
public import proofs.«01_k».proof.Proof.MoeFrameBits
public import proofs.«01_k».proof.Defs
public import proofs.«01_k».proof.Proof.Gen.Experts
public import proofs.«01_k».proof.Proof.Gen.ExpertsIdeal
public import proofs.«01_k».proof.Proof.Gen.ExpertsRefIdeal
public import Idealize.ShloMosaic.Lib.Claim

@[expose] public section

noncomputable section

namespace Cert.Proof.Moe

open Idealize.ShloMosaic
open Cert.Proof.MoeRef (result result_at result_pad)

theorem frame_p : Cert.quiescent_Experts (hExperts := Cert.Experts.Gen.facts) := fun m ρ _ =>
  Cert.Proof.MoeBits.frame (F := Bits) m ρ

theorem frame_pi : Cert.quiescent_ExpertsIdeal (hExpertsIdeal := Cert.ExpertsIdeal.Gen.facts) := fun m ρ _ => frame (F := Ideal) m ρ

theorem frame_ri : Cert.quiescent_ExpertsRefIdeal (hExpertsRefIdeal := Cert.ExpertsRefIdeal.Gen.facts) := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The call's array is the reference's. -/
theorem arrays_eq (m : (ℓ : Loc Cert.ExpertsIdeal.nD Cert.ExpertsIdeal.τ Cert.ExpertsIdeal.sig) → Buf (Elt Ideal) ℓ)
    (c : Dev Cert.ExpertsIdeal.nD) (e : Fin 17) (r x : Fin 2048) :
    ((dats m 0 c).arrAt 5 Cert.ExpertsIdeal.cfg0.N (ix3 e r x) : EReal)
      = result (F := Ideal) (m ((c.tc : Thread Cert.ExpertsIdeal.nD Cert.ExpertsIdeal.τ).loc Cert.ExpertsIdeal.main_arg0))
          (m ((c.tc : Thread Cert.ExpertsIdeal.nD Cert.ExpertsIdeal.τ).loc Cert.ExpertsIdeal.main_arg1))
          (m ((c.tc : Thread Cert.ExpertsIdeal.nD Cert.ExpertsIdeal.τ).loc Cert.ExpertsIdeal.main_arg2))
          (m ((c.tc : Thread Cert.ExpertsIdeal.nD Cert.ExpertsIdeal.τ).loc Cert.ExpertsIdeal.main_arg3))
          (m ((c.tc : Thread Cert.ExpertsIdeal.nD Cert.ExpertsIdeal.τ).loc Cert.ExpertsIdeal.main_arg4)) (ix3 e r x) := by
  by_cases h : e.val < 16
  · rw [show e = ⟨(⟨e.val, h⟩ : Fin 16).val, by omega⟩ from rfl]
    exact (final_at m c ⟨e.val, h⟩ r x).trans (result_at _ _ _ _ _ ⟨e.val, h⟩ r x).symm
  · exact (final_zero m c e (by omega) r x).trans (result_pad _ _ _ _ _ e (by omega) r x).symm

theorem algebraic : Cert.algebraic_ExpertsIdeal_ExpertsRefIdeal (hExpertsIdeal := Cert.ExpertsIdeal.Gen.facts)
    (hExpertsRefIdeal := Cert.ExpertsRefIdeal.Gen.facts) := by
  intro m g m' g' _ hagree
  refine ⟨fun c => (dats m 0 c).arrAt 5 Cert.ExpertsIdeal.cfg0.N, ?_, ?_⟩
  · exact (θ_run Cert.ExpertsIdeal.defs _ _).mono (fun r h c => ⟨(h.2 c).1 5, h.1.1 c⟩)
      (θ_run_and (frame (F := Ideal) m g) (run_main (F := Ideal) m g))
  · refine (θ_run Cert.ExpertsRefIdeal.defs _ _).mono (fun r h c => ⟨(h c).1.trans (funext fun i => ?_), (h c).2⟩)
      (Cert.Proof.MoeRef.run (F := Ideal) m' g')
    obtain ⟨e, x, y, rfl⟩ : ∃ (e : Fin 17) (x y : Fin 2048), i = ix3 e x y := ⟨i 0, i 1, i 2, by funext a; fin_cases a <;> rfl⟩
    obtain ⟨h0, h1, h2, h3, h4⟩ := hagree c
    rw [h0, h1, h2, h3, h4]
    exact (arrays_eq m c e x y).symm

end Cert.Proof.Moe

end
-- ==== Proof.MoeCtxRun.lean ====
/-
  What the expert call's body does at one grid point, in the four cases its conditions tell apart: the first round only
  rounds weights into slot 0; an even round computes from slot 1 and rounds into slot 0; an odd round computes from slot 0
  and rounds into slot 1; the last round only computes from slot 1.
-/
module

public import proofs.«01_k».proof.Proof.Gen.ExpertsCtxIdeal.Frame
public import proofs.«01_k».proof.Proof.Gen.ExpertsCtxIdeal.Points
public import proofs.«01_k».proof.Proof.Gen.ExpertsCtxIdeal.Skeleton
public import Idealize.ShloMosaic.Lib.VecWindow

@[expose] public section

set_option maxRecDepth 16384

noncomputable section

namespace Cert.Proof.MoeCtx

open Cert.ExpertsCtxIdeal Cert.ExpertsCtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

local notation "𝕄" => MT nD τ sig Unit (Elt F) ℕ (UR sig nD τ) ℕ

/-- The first 1024 rows of slot `p` of a gate or up buffer, -/
def upper (p : Fin 2) (s : Vec F S2x2048x1024 .bf16) : Vec F S1x1024x1024 .bf16 :=
  window s ![p.val, 0, 0] S1x1024x1024.size (by revert p; decide)

/-- its last 1024 rows, -/
def lower (p : Fin 2) (s : Vec F S2x2048x1024 .bf16) : Vec F S1x1024x1024 .bf16 :=
  window s ![p.val, 1024, 0] S1x1024x1024.size (by revert p; decide)

/-- and slot `p` of the down buffer. -/
def down (p : Fin 2) (s : Vec F S2x1024x2048 .bf16) : Vec F S1x1024x2048 .bf16 :=
  window s ![p.val, 0, 0] S1x1024x2048.size (by revert p; decide)

/-- The expert's rows from the gathered rows `x0`, their gates `x1` and slot `p` of the three weight buffers. -/
def rows (p : Fin 2) (x0 : Vec F S1x272x1024 .i32) (x1 : Vec F S1x272x1 .f32) (s0 s1 : Vec F S2x2048x1024 .bf16)
    (s2 : Vec F S2x1024x2048 .bf16) : Vec F S1x272x2048 .f32 :=
  k0_pay1 (k0_pay7 x0 (upper p s0) (lower p s0) (upper p s1) (lower p s1) (down p s2)) x1

/-- A load from a whole buffer is a window of its contents. -/
theorem load_unit {s : Shape} {e : EltTy} {a : Memref sig .tc .vmem s e} (h : a.IsWhole) (x : Vec F s e) {off size : Fin s.rank → ℕ}
    (inb : ∀ k, off k + size k ≤ s.size k) :
    a.view.readAt (Elt F) (Rect.unit off size inb).toLoadRect (h.unread x) = window x off size inb := by
  rw [View.readAt_unit _ _ inb rfl inb, h.read_unread]

/-- The five input blocks, owned at their contents, -/
abbrev inputs (c : Dev nD) (arg2 : Memref sig .tc .vmem S1x272x1024 .i32) (arg3 : Memref sig .tc .vmem S1x272x1 .f32)
    (arg4 arg5 : Memref sig .tc .vmem S1x1x256x1024 .f32) (arg6 : Memref sig .tc .vmem S1x1x128x2048 .f32)
    (x0 : Vec F S1x272x1024 .i32) (x1 : Vec F S1x272x1 .f32) (x2 x3 : Vec F S1x1x256x1024 .f32)
    (x4 : Vec F S1x1x128x2048 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- and the three weight buffers at theirs. -/
abbrev slots (c : Dev nD) (arg8 arg9 : Memref sig .tc .vmem S2x2048x1024 .bf16) (arg10 : Memref sig .tc .vmem S2x1024x2048 .bf16)
    (s0 s1 : Vec F S2x2048x1024 .bf16) (s2 : Vec F S2x1024x2048 .bf16) : sProp 𝕄 :=
  iprop(owns (c : Thread nD τ) arg8 fullShare s0 ∗ owns (c : Thread nD τ) arg9 fullShare s1 ∗ owns (c : Thread nD τ) arg10 fullShare s2)

set_option maxHeartbeats 1000000 in
/-- The first round: zeros into the result block, and the round's weights into slot 0. -/
theorem run_first (c : Dev nD) (i : grid0.Coords) (arg2 : Memref sig .tc .vmem S1x272x1024 .i32) (harg2 : arg2.IsWhole) (arg3 : Memref sig .tc .vmem S1x272x1 .f32) (harg3 : arg3.IsWhole)
    (arg4 : Memref sig .tc .vmem S1x1x256x1024 .f32) (harg4 : arg4.IsWhole) (arg5 : Memref sig .tc .vmem S1x1x256x1024 .f32) (harg5 : arg5.IsWhole) (arg6 : Memref sig .tc .vmem S1x1x128x2048 .f32) (harg6 : arg6.IsWhole)
    (arg7 : Memref sig .tc .vmem S1x272x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : k0_cond1 i = 1#1) (h2 : ¬ k0_cond2 i = 1#1) (h3 : ¬ k0_cond3 i = 1#1) (h4 : ¬ k0_cond4 i = 1#1)
    (o o' : Fin 3 → ℕ) (ho : k0_off1 i = o) (ho' : k0_off2 i = o')
    (x0 : Vec F S1x272x1024 .i32) (x1 : Vec F S1x272x1 .f32) (x2 : Vec F S1x1x256x1024 .f32) (x3 : Vec F S1x1x256x1024 .f32) (x4 : Vec F S1x1x128x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare k0_pay12
          ∗ slots c arg8 arg9 arg10 (put s0 o S1x256x1024.size (k0_pay2 x2)) (put s1 o S1x256x1024.size (k0_pay3 x3)) (put s2 o' S1x128x2048.size (k0_pay4 x4))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    exact View.read_writes_full _ _ _ _ _
  isplitl [HS0]
  · iexists _; isplitr
    swap; · iexact HS0
    ipureintro
    refine (View.read_writes_cons_put _ _ _ _ _ ho).trans ?_
    rw [View.writes_nil, harg8.read_unread]
    exact congrArg (fun w => put s0 o S1x256x1024.size (k0_pay2 w)) ((View.readAt_full _ _ _).trans (harg4.read_unread _))
  isplitl [HS1]
  · iexists _; isplitr
    swap; · iexact HS1
    ipureintro
    refine (View.read_writes_cons_put _ _ _ _ _ ho).trans ?_
    rw [View.writes_nil, harg9.read_unread]
    exact congrArg (fun w => put s1 o S1x256x1024.size (k0_pay3 w)) ((View.readAt_full _ _ _).trans (harg5.read_unread _))
  iexists _; isplitr
  swap; · iexact HS2
  ipureintro
  refine (View.read_writes_cons_put _ _ _ _ _ ho').trans ?_
  rw [View.writes_nil, harg10.read_unread]
  exact congrArg (fun w => put s2 o' S1x128x2048.size (k0_pay4 w)) ((View.readAt_full _ _ _).trans (harg6.read_unread _))

set_option maxHeartbeats 1000000 in
/-- An even round after the first: the rows from slot 1, and the round's weights into slot 0. -/
theorem run_even (c : Dev nD) (i : grid0.Coords) (arg2 : Memref sig .tc .vmem S1x272x1024 .i32) (harg2 : arg2.IsWhole) (arg3 : Memref sig .tc .vmem S1x272x1 .f32) (harg3 : arg3.IsWhole)
    (arg4 : Memref sig .tc .vmem S1x1x256x1024 .f32) (harg4 : arg4.IsWhole) (arg5 : Memref sig .tc .vmem S1x1x256x1024 .f32) (harg5 : arg5.IsWhole) (arg6 : Memref sig .tc .vmem S1x1x128x2048 .f32) (harg6 : arg6.IsWhole)
    (arg7 : Memref sig .tc .vmem S1x272x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : ¬ k0_cond1 i = 1#1) (h2 : k0_cond2 i = 1#1) (h3 : ¬ k0_cond3 i = 1#1) (h4 : ¬ k0_cond4 i = 1#1)
    (o o' : Fin 3 → ℕ) (ho : k0_off3 i = o) (ho' : k0_off4 i = o')
    (x0 : Vec F S1x272x1024 .i32) (x1 : Vec F S1x272x1 .f32) (x2 : Vec F S1x1x256x1024 .f32) (x3 : Vec F S1x1x256x1024 .f32) (x4 : Vec F S1x1x128x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare (rows 1 x0 x1 s0 s1 s2)
          ∗ slots c arg8 arg9 arg10 (put s0 o S1x256x1024.size (k0_pay2 x2)) (put s1 o S1x256x1024.size (k0_pay3 x3)) (put s2 o' S1x128x2048.size (k0_pay4 x4))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    refine (View.read_writes_full _ _ _ _ _).trans ?_
    unfold run_even.sl.r run_even.sl.r_1
    rw [View.readAt_full, View.readAt_full, harg2.read_unread, harg3.read_unread]
    rw [load_unit harg8, load_unit harg8, load_unit harg9, load_unit harg9, load_unit harg10]
    rfl
  isplitl [HS0]
  · iexists _; isplitr
    swap; · iexact HS0
    ipureintro
    refine (View.read_writes_cons_put _ _ _ _ _ ho).trans ?_
    rw [View.writes_nil, harg8.read_unread]
    exact congrArg (fun w => put s0 o S1x256x1024.size (k0_pay2 w)) ((View.readAt_full _ _ _).trans (harg4.read_unread _))
  isplitl [HS1]
  · iexists _; isplitr
    swap; · iexact HS1
    ipureintro
    refine (View.read_writes_cons_put _ _ _ _ _ ho).trans ?_
    rw [View.writes_nil, harg9.read_unread]
    exact congrArg (fun w => put s1 o S1x256x1024.size (k0_pay3 w)) ((View.readAt_full _ _ _).trans (harg5.read_unread _))
  iexists _; isplitr
  swap; · iexact HS2
  ipureintro
  refine (View.read_writes_cons_put _ _ _ _ _ ho').trans ?_
  rw [View.writes_nil, harg10.read_unread]
  exact congrArg (fun w => put s2 o' S1x128x2048.size (k0_pay4 w)) ((View.readAt_full _ _ _).trans (harg6.read_unread _))

set_option maxHeartbeats 1000000 in
/-- An odd round: the rows from slot 0, and the round's weights into slot 1. -/
theorem run_odd (c : Dev nD) (i : grid0.Coords) (arg2 : Memref sig .tc .vmem S1x272x1024 .i32) (harg2 : arg2.IsWhole) (arg3 : Memref sig .tc .vmem S1x272x1 .f32) (harg3 : arg3.IsWhole)
    (arg4 : Memref sig .tc .vmem S1x1x256x1024 .f32) (harg4 : arg4.IsWhole) (arg5 : Memref sig .tc .vmem S1x1x256x1024 .f32) (harg5 : arg5.IsWhole) (arg6 : Memref sig .tc .vmem S1x1x128x2048 .f32) (harg6 : arg6.IsWhole)
    (arg7 : Memref sig .tc .vmem S1x272x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : ¬ k0_cond1 i = 1#1) (h2 : ¬ k0_cond2 i = 1#1) (h3 : k0_cond3 i = 1#1) (h4 : ¬ k0_cond4 i = 1#1)
    (o o' : Fin 3 → ℕ) (ho : k0_off5 i = o) (ho' : k0_off6 i = o')
    (x0 : Vec F S1x272x1024 .i32) (x1 : Vec F S1x272x1 .f32) (x2 : Vec F S1x1x256x1024 .f32) (x3 : Vec F S1x1x256x1024 .f32) (x4 : Vec F S1x1x128x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare (rows 0 x0 x1 s0 s1 s2)
          ∗ slots c arg8 arg9 arg10 (put s0 o S1x256x1024.size (k0_pay2 x2)) (put s1 o S1x256x1024.size (k0_pay3 x3)) (put s2 o' S1x128x2048.size (k0_pay4 x4))) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    refine (View.read_writes_full _ _ _ _ _).trans ?_
    unfold run_odd.sl.r run_odd.sl.r_1
    rw [View.readAt_full, View.readAt_full, harg2.read_unread, harg3.read_unread]
    rw [load_unit harg8, load_unit harg8, load_unit harg9, load_unit harg9, load_unit harg10]
    rfl
  isplitl [HS0]
  · iexists _; isplitr
    swap; · iexact HS0
    ipureintro
    refine (View.read_writes_cons_put _ _ _ _ _ ho).trans ?_
    unfold run_odd.sl.v80
    rw [View.writes_nil, harg8.read_unread]
    exact congrArg (fun w => put s0 o S1x256x1024.size (k0_pay2 w)) ((View.readAt_full _ _ _).trans (harg4.read_unread _))
  isplitl [HS1]
  · iexists _; isplitr
    swap; · iexact HS1
    ipureintro
    refine (View.read_writes_cons_put _ _ _ _ _ ho).trans ?_
    unfold run_odd.sl.v87
    rw [View.writes_nil, harg9.read_unread]
    exact congrArg (fun w => put s1 o S1x256x1024.size (k0_pay3 w)) ((View.readAt_full _ _ _).trans (harg5.read_unread _))
  iexists _; isplitr
  swap; · iexact HS2
  ipureintro
  refine (View.read_writes_cons_put _ _ _ _ _ ho').trans ?_
  unfold run_odd.sl.v94
  rw [View.writes_nil, harg10.read_unread]
  exact congrArg (fun w => put s2 o' S1x128x2048.size (k0_pay4 w)) ((View.readAt_full _ _ _).trans (harg6.read_unread _))

set_option maxHeartbeats 1000000 in
/-- The last round: the rows from slot 1; the buffers stay. -/
theorem run_last (c : Dev nD) (i : grid0.Coords) (arg2 : Memref sig .tc .vmem S1x272x1024 .i32) (harg2 : arg2.IsWhole) (arg3 : Memref sig .tc .vmem S1x272x1 .f32) (harg3 : arg3.IsWhole)
    (arg4 : Memref sig .tc .vmem S1x1x256x1024 .f32) (harg4 : arg4.IsWhole) (arg5 : Memref sig .tc .vmem S1x1x256x1024 .f32) (harg5 : arg5.IsWhole) (arg6 : Memref sig .tc .vmem S1x1x128x2048 .f32) (harg6 : arg6.IsWhole)
    (arg7 : Memref sig .tc .vmem S1x272x2048 .f32) (harg7 : arg7.IsWhole) (arg8 : Memref sig .tc .vmem S2x2048x1024 .bf16) (harg8 : arg8.IsWhole) (arg9 : Memref sig .tc .vmem S2x2048x1024 .bf16) (harg9 : arg9.IsWhole)
    (arg10 : Memref sig .tc .vmem S2x1024x2048 .bf16) (harg10 : arg10.IsWhole)
    (h1 : ¬ k0_cond1 i = 1#1) (h2 : ¬ k0_cond2 i = 1#1) (h3 : ¬ k0_cond3 i = 1#1) (h4 : k0_cond4 i = 1#1)
    (x0 : Vec F S1x272x1024 .i32) (x1 : Vec F S1x272x1 .f32) (x2 : Vec F S1x1x256x1024 .f32) (x3 : Vec F S1x1x256x1024 .f32) (x4 : Vec F S1x1x128x2048 .f32)
    (s0 : Vec F S2x2048x1024 .bf16) (s1 : Vec F S2x2048x1024 .bf16) (s2 : Vec F S2x1024x2048 .bf16) (E : Set ℕ) (K : PUnit → sProp 𝕄) :
    iprop(inputs c arg2 arg3 arg4 arg5 arg6 x0 x1 x2 x3 x4 ∗ (∃ d, owns (c : Thread nD τ) arg7 fullShare d) ∗ slots c arg8 arg9 arg10 s0 s1 s2
        ∗ (iprop(inputs c arg2 arg3 arg4 arg5 arg6 x0 x1 x2 x3 x4 ∗ owns (c : Thread nD τ) arg7 fullShare (rows 1 x0 x1 s0 s1 s2)
          ∗ slots c arg8 arg9 arg10 s0 s1 s2) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton, k0_part4_eq_skeleton]
  unfold inputs slots owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1; obtain rfl := harg10.eq_unread hfs2
  sl_exec (disch := first | sl_exact h1 | sl_exact h2 | sl_exact h3 | sl_exact h4)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    refine (View.read_writes_full _ _ _ _ _).trans ?_
    unfold run_last.sl.r run_last.sl.r_1
    rw [View.readAt_full, View.readAt_full, harg2.read_unread, harg3.read_unread]
    rw [load_unit harg8, load_unit harg8, load_unit harg9, load_unit harg9, load_unit harg10]
    rfl
  isplitl [HS0]
  · iexists _; isplitr
    swap; · iexact HS0
    ipureintro
    exact harg8.read_unread _
  isplitl [HS1]
  · iexists _; isplitr
    swap; · iexact HS1
    ipureintro
    exact harg9.read_unread _
  iexists _; isplitr
  swap; · iexact HS2
  ipureintro
  exact harg10.read_unread _

end Cert.Proof.MoeCtx

end
-- ==== Proof.MoeCtxBody.lean ====
/-
  What the body of the experts' call with context rows stores, at an index over the extended reals.
-/
module

public import proofs.«01_k».proof.Proof.MoeCtxRun
public import proofs.«01_k».proof.Proof.MoeRef
public import Idealize.ShloMosaic.Lib.Pointwise

@[expose] public section

noncomputable section

namespace Cert.Proof.MoeCtx

open Idealize.ShloMosaic Cert.ExpertsCtxIdeal
open Cert.ExpertsCtxIdeal.Gen Idealize.ShloMosaic.TcCoe
open Cert.Proof.MoeRef (highOf lowOf projOf expertOf)

/-- The product of 272 rows with the expert's gate or up weights, half by half. -/
def halves (w : Vec Ideal S1x272x1024 .i32) (a b : FVec Ideal S1x1024x1024 .bf16) : FVec Ideal S272x1024 .f32 :=
  addf (matmul dot_S272x1024_S1024x1024_S272x1024_1_0_0_1_n_n none
      (truncf .bf16 (bitcastToFloat .f32 (andi (shapeCast S272x1024 w shapeCasts_S1x272x1024_S272x1024) (broadcast S272x1024 4294901760#32))) bitsLt_bf16_f32)
      (shapeCast S1024x1024 a shapeCasts_S1x1024x1024_S1024x1024) (constant S272x1024 .f32 0x00000000#32))
    (matmul dot_S272x1024_S1024x1024_S272x1024_1_0_0_1_n_n none
      (truncf .bf16 (bitcastToFloat .f32 (shli (shapeCast S272x1024 w shapeCasts_S1x272x1024_S272x1024) (broadcast S272x1024 16#32))) bitsLt_bf16_f32)
      (shapeCast S1024x1024 b shapeCasts_S1x1024x1024_S1024x1024) (constant S272x1024 .f32 0x00000000#32))

theorem halves_at (w : Vec Ideal S1x272x1024 .i32) (a b : FVec Ideal S1x1024x1024 .bf16) (i : Fin 272) (f : Fin 1024) :
    halves w a b (ix2 i f)
      = ∑ d : Fin 1024, highOf (w (ix3 0 i d)) * a (ix3 0 d f) + ∑ d : Fin 1024, lowOf (w (ix3 0 i d)) * b (ix3 0 d f) := by
  unfold halves
  pointwise [dot_S272x1024_S1024x1024_S272x1024_1_0_0_1_n_n]
  rfl

/-- The hidden numbers times the down weights. -/
def lowered (h : FVec Ideal S272x1024 .f32) (w : FVec Ideal S1x1024x2048 .bf16) : FVec Ideal S272x2048 .f32 :=
  matmul dot_S272x1024_S1024x2048_S272x2048_1_0_0_1_n_n none (truncf .bf16 h bitsLt_bf16_f32)
    (shapeCast S1024x2048 w shapeCasts_S1x1024x2048_S1024x2048) (constant S272x2048 .f32 0x00000000#32)

theorem lowered_at (h : FVec Ideal S272x1024 .f32) (w : FVec Ideal S1x1024x2048 .bf16) (i : Fin 272) (x : Fin 2048) :
    lowered h w (ix2 i x) = ∑ f : Fin 1024, h (ix2 i f) * w (ix3 0 f x) := by
  unfold lowered
  pointwise [dot_S272x1024_S1024x2048_S272x2048_1_0_0_1_n_n]

theorem pay7_eq (w : Vec Ideal S1x272x1024 .i32) (a b c d : FVec Ideal S1x1024x1024 .bf16) (e : FVec Ideal S1x1024x2048 .bf16) :
    k0_pay7 w a b c d e = lowered (mulf (mulf (halves w a b) (logistic (halves w a b))) (halves w c d)) e := rfl

theorem pay1_at (v : FVec Ideal S272x2048 .f32) (g : Vec Ideal S1x272x1 .f32) (i : Fin 272) (x : Fin 2048) :
    k0_pay1 v g (ix3 0 i x) = v (ix2 i x) * g (ix3 0 i 0) := by
  unfold k0_pay1
  pointwise

theorem pay2_at (v : Vec Ideal S1x1x256x1024 .f32) (i : Fin 256) (x : Fin 1024) : k0_pay2 v (ix3 0 i x) = v (ix4 0 0 i x) := by
  unfold k0_pay2
  pointwise

theorem pay3_at (v : Vec Ideal S1x1x256x1024 .f32) (i : Fin 256) (x : Fin 1024) : k0_pay3 v (ix3 0 i x) = v (ix4 0 0 i x) := by
  unfold k0_pay3
  pointwise

theorem pay4_at (v : Vec Ideal S1x1x128x2048 .f32) (i : Fin 128) (x : Fin 2048) : k0_pay4 v (ix3 0 i x) = v (ix4 0 0 i x) := by
  unfold k0_pay4
  pointwise

theorem pay12_at (i : Fin 272) (x : Fin 2048) : k0_pay12 (F := Ideal) (ix3 0 i x) = 0 := by
  unfold k0_pay12
  pointwise

theorem upper_at (p : Fin 2) (s : Vec Ideal S2x2048x1024 .bf16) (d f : Fin 1024) :
    upper p s (ix3 0 d f) = s (ix3 p ⟨d.val, by omega⟩ f) := by
  refine congrArg s (funext fun a => Fin.ext ?_)
  match a with
  | ⟨0, _⟩ => show p.val + 1 * 0 = p.val; omega
  | ⟨1, _⟩ => show 0 + 1 * d.val = d.val; omega
  | ⟨2, _⟩ => show 0 + 1 * f.val = f.val; omega

theorem lower_at (p : Fin 2) (s : Vec Ideal S2x2048x1024 .bf16) (d f : Fin 1024) :
    lower p s (ix3 0 d f) = s (ix3 p ⟨1024 + d.val, by omega⟩ f) := by
  refine congrArg s (funext fun a => Fin.ext ?_)
  match a with
  | ⟨0, _⟩ => show p.val + 1 * 0 = p.val; omega
  | ⟨1, _⟩ => show 1024 + 1 * d.val = 1024 + d.val; omega
  | ⟨2, _⟩ => show 0 + 1 * f.val = f.val; omega

theorem down_at (p : Fin 2) (s : Vec Ideal S2x1024x2048 .bf16) (f : Fin 1024) (x : Fin 2048) :
    down p s (ix3 0 f x) = s (ix3 p f x) := by
  refine congrArg s (funext fun a => Fin.ext ?_)
  match a with
  | ⟨0, _⟩ => show p.val + 1 * 0 = p.val; omega
  | ⟨1, _⟩ => show 0 + 1 * f.val = f.val; omega
  | ⟨2, _⟩ => show 0 + 1 * x.val = x.val; omega

/-- The rows a point computes. -/
theorem rows_at (p : Fin 2) (w : Vec Ideal S1x272x1024 .i32) (g : Vec Ideal S1x272x1 .f32) (s0 s1 : Vec Ideal S2x2048x1024 .bf16)
    (s2 : Vec Ideal S2x1024x2048 .bf16) (i : Fin 272) (x : Fin 2048) :
    rows p w g s0 s1 s2 (ix3 0 i x)
      = expertOf (fun d => highOf (w (ix3 0 i d))) (fun d => lowOf (w (ix3 0 i d))) (fun f d => s0 (ix3 p d f))
          (fun f d => s1 (ix3 p d f)) (fun f => s2 (ix3 p f x)) (g (ix3 0 i 0)) := by
  have hm : ∀ (a b : FVec Ideal S272x1024 .f32) (f : Fin 1024),
      mulf (mulf a (logistic a)) b (ix2 i f) = a (ix2 i f) * Ideal.logistic (a (ix2 i f)) * b (ix2 i f) := fun _ _ _ => rfl
  unfold rows
  rw [pay1_at, pay7_eq, lowered_at]
  simp only [hm, halves_at, upper_at, lower_at, down_at]
  rfl

end Cert.Proof.MoeCtx

end
-- ==== Proof.MoeCtxSlots.lean ====
/-
  What the two slots of a weight buffer hold between grid points, in the call with eight points in a round.  At point `p`
  the rounded block of that point is written
  into slot `p / 8 % 2` at the rows of block `p % 8`; the same place is written again only sixteen points later.  So before
  point `n` every block written at one of the sixteen points before it is still there.
-/
module

public import Idealize.ShloMosaic.Lib.VecWindow
public import Idealize.ShloMosaic.Lib.Pointwise

@[expose] public section

namespace Cert.Proof.MoeCtx

open Idealize.ShloMosaic
open VecWindow (put window)

variable {α : Type} {N R T W : ℕ}

/-- Before point `n` the buffer `s` holds the blocks of the points since `n - 16` that wrote one (the first 128 do). -/
def Kept (blk : Fin N → (⟨3, ![1, R, W]⟩ : Shape).Idx → α) (n : ℕ) (s : (⟨3, ![2, T, W]⟩ : Shape).Idx → α) : Prop :=
  ∀ (p : Fin N), p.val < 128 → p.val < n → n ≤ p.val + 16 → ∀ (i : Fin R) (x : Fin W) (h : p.val % 8 * R + i.val < T),
    s (ix3 ⟨p.val / 8 % 2, Nat.mod_lt _ (by decide)⟩ ⟨p.val % 8 * R + i.val, h⟩ x) = blk p (ix3 0 i x)

theorem kept_zero (blk : Fin N → (⟨3, ![1, R, W]⟩ : Shape).Idx → α) (s : (⟨3, ![2, T, W]⟩ : Shape).Idx → α) : Kept blk 0 s :=
  fun _ _ h => absurd h (Nat.not_lt_zero _)

/-- A point of the last round writes nothing, and every block it may still need stays. -/
theorem kept_stay {blk : Fin N → (⟨3, ![1, R, W]⟩ : Shape).Idx → α} {n : ℕ} {s : (⟨3, ![2, T, W]⟩ : Shape).Idx → α}
    (h : Kept blk n s) (hn : 128 ≤ n) : Kept blk (n + 1) s :=
  fun p hp _ h2 => h p hp (by omega) (by omega)

/-- Writing the point's block keeps the others of the last sixteen points. -/
theorem kept_put {blk : Fin N → (⟨3, ![1, R, W]⟩ : Shape).Idx → α} {t : Fin N} {s : (⟨3, ![2, T, W]⟩ : Shape).Idx → α}
    (h : Kept blk t.val s) {q : ℕ} (hq : q = t.val / 8 % 2) :
    Kept blk (t.val + 1) (put s ![q, t.val % 8 * R, 0] ![1, R, W] (blk t)) := by
  subst hq
  intro p hp h1 h2 i x hr
  by_cases e : p = t
  · subst e
    have hm : ∀ a, (![p.val / 8 % 2, p.val % 8 * R, 0] : Fin 3 → ℕ) a
          ≤ ((ix3 ⟨p.val / 8 % 2, Nat.mod_lt _ (by decide)⟩ ⟨p.val % 8 * R + i.val, hr⟩ x : (⟨3, ![2, T, W]⟩ : Shape).Idx) a).val
        ∧ ((ix3 ⟨p.val / 8 % 2, Nat.mod_lt _ (by decide)⟩ ⟨p.val % 8 * R + i.val, hr⟩ x : (⟨3, ![2, T, W]⟩ : Shape).Idx) a).val
          < (![p.val / 8 % 2, p.val % 8 * R, 0] : Fin 3 → ℕ) a + (![1, R, W] : Fin 3 → ℕ) a := by
      intro a
      match a with
      | ⟨0, _⟩ => exact ⟨Nat.le_refl _, Nat.lt_succ_self _⟩
      | ⟨1, _⟩ => exact ⟨Nat.le_add_right _ _, Nat.add_lt_add_left i.isLt _⟩
      | ⟨2, _⟩ => exact ⟨Nat.zero_le _, by rw [show (![p.val / 8 % 2, p.val % 8 * R, 0] : Fin 3 → ℕ) ⟨2, by decide⟩ = 0 from rfl, Nat.zero_add]; exact x.isLt⟩
    unfold put
    rw [dif_pos hm]
    refine congrArg (blk p) (funext fun a => Fin.ext ?_)
    match a with
    | ⟨0, _⟩ => exact Nat.sub_self _
    | ⟨1, _⟩ => exact Nat.add_sub_cancel_left _ _
    | ⟨2, _⟩ => exact Nat.sub_zero _
  · have hne : p.val ≠ t.val := fun h' => e (Fin.ext h')
    have hR : 0 < R := lt_of_le_of_lt (Nat.zero_le _) i.isLt
    unfold put
    rw [dif_neg]
    · exact h p hp (by omega) (by omega) i x hr
    · intro hall
      have h0 : t.val / 8 % 2 ≤ p.val / 8 % 2 ∧ p.val / 8 % 2 < t.val / 8 % 2 + 1 := hall 0
      have h1' : t.val % 8 * R ≤ p.val % 8 * R + i.val ∧ p.val % 8 * R + i.val < t.val % 8 * R + R := hall 1
      have e1 : p.val % 8 = t.val % 8 := by
        have hi := i.isLt
        rcases Nat.lt_trichotomy (p.val % 8) (t.val % 8) with hl | hl | hl
        · have := Nat.mul_le_mul_right R (Nat.succ_le_of_lt hl)
          rw [Nat.succ_mul] at this
          omega
        · exact hl
        · have := Nat.mul_le_mul_right R (Nat.succ_le_of_lt hl)
          rw [Nat.succ_mul] at this
          omega
      omega

/-- The weights of the expert that point `t` computes with, from the blocks of the round before: the same in both slots. -/
def full (blk : Fin N → (⟨3, ![1, R, W]⟩ : Shape).Idx → α) (t : Fin N) (hR : 0 < R) (y : (⟨3, ![2, T, W]⟩ : Shape).Idx) : α :=
  blk ⟨(8 * (t.val / 8 - 1) + (y 1).val / R) % N, Nat.mod_lt _ (lt_of_le_of_lt (Nat.zero_le _) t.isLt)⟩
    (ix3 0 ⟨(y 1).val % R, Nat.mod_lt _ hR⟩ (y 2))

/-- The slot that point `t` reads holds them. -/
theorem kept_full {blk : Fin N → (⟨3, ![1, R, W]⟩ : Shape).Idx → α} {t : Fin N} {s : (⟨3, ![2, T, W]⟩ : Shape).Idx → α}
    (h : Kept blk t.val s) (hT : T = 8 * R) (hR : 0 < R) (h4 : 8 ≤ t.val) (h68 : t.val < 136) (y : (⟨3, ![2, T, W]⟩ : Shape).Idx)
    (hy : (y 0).val = (t.val / 8 + 1) % 2) : s y = full blk t hR y := by
  have hy1 : (y 1).val < 8 * R := hT ▸ (y 1).isLt
  have hk : (y 1).val / R < 8 := Nat.div_lt_of_lt_mul (by rw [Nat.mul_comm]; exact hy1)
  have hy1s : (y 1).val / R * R + (y 1).val % R = (y 1).val := by rw [Nat.mul_comm]; exact Nat.div_add_mod _ _
  unfold full
  have hr : (y 1).val % R < R := Nat.mod_lt _ hR
  have hyT : (y 1).val < T := (y 1).isLt
  obtain ⟨k, hke⟩ : ∃ k, (y 1).val / R = k := ⟨_, rfl⟩
  rw [hke] at hk hy1s
  have hlt : 8 * (t.val / 8 - 1) + k < N := lt_of_lt_of_le (by omega) (Nat.le_of_lt t.isLt)
  have hN : (8 * (t.val / 8 - 1) + k) % N = 8 * (t.val / 8 - 1) + k := Nat.mod_eq_of_lt hlt
  have hs : (8 * (t.val / 8 - 1) + k) % 8 * R + (y 1).val % R = (y 1).val := by
    rw [show (8 * (t.val / 8 - 1) + k) % 8 = k by omega]
    exact hy1s
  have key := h ⟨8 * (t.val / 8 - 1) + k, hlt⟩ (by show 8 * (t.val / 8 - 1) + k < 128; omega)
    (by show 8 * (t.val / 8 - 1) + k < t.val; omega) (by show t.val ≤ 8 * (t.val / 8 - 1) + k + 16; omega)
    ⟨(y 1).val % R, hr⟩ (y 2) (by show (8 * (t.val / 8 - 1) + k) % 8 * R + (y 1).val % R < T; rw [hs]; exact hyT)
  rw [show (⟨(8 * (t.val / 8 - 1) + (y 1).val / R) % N, Nat.mod_lt _ (lt_of_le_of_lt (Nat.zero_le _) t.isLt)⟩ : Fin N)
    = ⟨8 * (t.val / 8 - 1) + k, hlt⟩ from Fin.ext ((congrArg (fun k => (8 * (t.val / 8 - 1) + k) % N) hke).trans hN)]
  refine Eq.trans (congrArg s (funext fun a => Fin.ext ?_)) key
  match a with
  | ⟨0, _⟩ => exact hy.trans (by show (t.val / 8 + 1) % 2 = (8 * (t.val / 8 - 1) + k) / 8 % 2; omega)
  | ⟨1, _⟩ => exact hs.symm
  | ⟨2, _⟩ => rfl

end Cert.Proof.MoeCtx
-- ==== Proof.MoeCtxFrame.lean ====
/-
  The frame of the expert call: what its buffers hold between the points of the grid, that the body keeps it, and so that
  the call runs to its end and leaves its arguments as they were.
-/
module

public import proofs.«01_k».proof.Proof.MoeCtxRun
public import proofs.«01_k».proof.Proof.MoeCtxSlots
public import Idealize.ShloMosaic.Lib.Claim

@[expose] public section

set_option maxRecDepth 16384

noncomputable section

namespace Cert.Proof.MoeCtx

open Cert.ExpertsCtxIdeal Cert.ExpertsCtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (put window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounded block of the gate weights that point `t` writes, -/
def gateBlk (c : Dev nD) (t : Fin cfg0.N) : Vec F S1x256x1024 .bf16 := k0_pay2 (iblk m c 2 t)

/-- that of the up weights, -/
def upBlk (c : Dev nD) (t : Fin cfg0.N) : Vec F S1x256x1024 .bf16 := k0_pay3 (iblk m c 3 t)

/-- and that of the down weights. -/
def downBlk (c : Dev nD) (t : Fin cfg0.N) : Vec F S1x128x2048 .bf16 := k0_pay4 (iblk m c 4 t)

/-- What point `t` leaves in the result block: zeros in the first round, the rows of the expert before afterwards. -/
def out (c : Dev nD) (t : Fin cfg0.N) : Vec F S1x272x2048 .f32 :=
  if t.val < 8 then k0_pay12 (F := F)
  else rows ⟨(t.val / 8 + 1) % 2, Nat.mod_lt _ (by decide)⟩ (X0_0 m c t) (X0_1 m c t) (full (gateBlk m c) t (by decide))
    (full (upBlk m c) t (by decide)) (full (downBlk m c) t (by decide))

theorem window_congr {s : Shape} {α : Type} {f g : s.Idx → α} {off size : Fin s.rank → ℕ} (inb : ∀ a, off a + size a ≤ s.size a)
    (h : ∀ y : s.Idx, (∀ a, off a ≤ (y a).val ∧ (y a).val < off a + size a) → f y = g y) : window f off size inb = window g off size inb :=
  funext fun x => h _ fun a => by
    have e : ((Rect.unit off size inb).emb x a).val = off a + 1 * (x a).val := rfl
    have := (x a).isLt
    have hs : (Rect.unit off size inb).shape.size a = size a := rfl
    omega

/-- The rows computed at point `t` depend only on the slot that is read. -/
theorem rows_kept (c : Dev nD) (t : Fin cfg0.N) (h4 : 8 ≤ t.val) {s0 s1 : Vec F S2x2048x1024 .bf16} {s2 : Vec F S2x1024x2048 .bf16}
    (k0 : Kept (gateBlk m c) t.val s0) (k1 : Kept (upBlk m c) t.val s1) (k2 : Kept (downBlk m c) t.val s2) (q : Fin 2)
    (hq : q.val = (t.val / 8 + 1) % 2) : rows q (X0_0 m c t) (X0_1 m c t) s0 s1 s2 = out m c t := by
  have h68 : t.val < 136 := lt_of_lt_of_eq t.isLt N_0
  have g {y : S2x2048x1024.Idx} {n : ℕ} (hy : ∀ a, (![q.val, n, 0] : Fin 3 → ℕ) a ≤ (y a).val ∧ (y a).val < (![q.val, n, 0] : Fin 3 → ℕ) a + S1x1024x1024.size a) :
      (y 0).val = (t.val / 8 + 1) % 2 := by
    have : q.val ≤ (y 0).val ∧ (y 0).val < q.val + 1 := hy 0
    omega
  have e0 : upper q s0 = upper q (full (gateBlk m c) t (by decide)) :=
    window_congr _ fun y hy => kept_full k0 rfl (by decide) h4 h68 y (g hy)
  have e0' : lower q s0 = lower q (full (gateBlk m c) t (by decide)) :=
    window_congr _ fun y hy => kept_full k0 rfl (by decide) h4 h68 y (g hy)
  have e1 : upper q s1 = upper q (full (upBlk m c) t (by decide)) :=
    window_congr _ fun y hy => kept_full k1 rfl (by decide) h4 h68 y (g hy)
  have e1' : lower q s1 = lower q (full (upBlk m c) t (by decide)) :=
    window_congr _ fun y hy => kept_full k1 rfl (by decide) h4 h68 y (g hy)
  have e2 : down q s2 = down q (full (downBlk m c) t (by decide)) :=
    window_congr _ fun y hy => kept_full k2 rfl (by decide) h4 h68 y (by
      have : q.val ≤ (y 0).val ∧ (y 0).val < q.val + 1 := hy 0
      omega)
  unfold out
  rw [if_neg (by omega), show (⟨(t.val / 8 + 1) % 2, Nat.mod_lt _ (by decide)⟩ : Fin 2) = q from Fin.ext hq.symm]
  unfold rows
  rw [e0, e0', e1, e1', e2]

/-! ## The proof data -/

/-- Between the points: the three weight buffers with the blocks of the last sixteen points, and the generator's register. -/
def Between (c : Dev nD) (n : ℕ) : sProp 𝕄 :=
  iprop(∃ s0 : Vec F S2x2048x1024 .bf16, ∃ s1 : Vec F S2x2048x1024 .bf16, ∃ s2 : Vec F S2x1024x2048 .bf16,
    ⌜Kept (gateBlk m c) n s0 ∧ Kept (upBlk m c) n s1 ∧ Kept (downBlk m c) n s2⌝
      ∗ slots c (Memref.whole cc0_scratch0) (Memref.whole cc0_scratch1) (Memref.whole cc0_scratch2) s0 s1 s2 ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => out m c t
  Φ t := Between m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out m c t := by dsimp only [dats]

theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The cases, and where a point writes -/

theorem cond1 : ∀ t : Fin grid0.N, k0_cond1 (grid0.coords t) = 1#1 ↔ t.val < 8 := by decide +kernel
theorem cond2 : ∀ t : Fin grid0.N, k0_cond2 (grid0.coords t) = 1#1 ↔ 8 ≤ t.val ∧ t.val < 128 ∧ t.val / 8 % 2 = 0 := by decide +kernel
theorem cond3 : ∀ t : Fin grid0.N, k0_cond3 (grid0.coords t) = 1#1 ↔ 8 ≤ t.val ∧ t.val < 128 ∧ t.val / 8 % 2 = 1 := by decide +kernel
theorem cond4 : ∀ t : Fin grid0.N, k0_cond4 (grid0.coords t) = 1#1 ↔ 128 ≤ t.val := by decide +kernel
theorem off1 : ∀ t : Fin grid0.N, k0_off1 (grid0.coords t) = ![0, t.val % 8 * 256, 0] := by decide +kernel
theorem off2 : ∀ t : Fin grid0.N, k0_off2 (grid0.coords t) = ![0, t.val % 8 * 128, 0] := by decide +kernel
theorem off3 : ∀ t : Fin grid0.N, k0_off3 (grid0.coords t) = ![0, t.val % 8 * 256, 0] := by decide +kernel
theorem off4 : ∀ t : Fin grid0.N, k0_off4 (grid0.coords t) = ![0, t.val % 8 * 128, 0] := by decide +kernel
theorem off5 : ∀ t : Fin grid0.N, k0_off5 (grid0.coords t) = ![1, t.val % 8 * 256, 0] := by decide +kernel
theorem off6 : ∀ t : Fin grid0.N, k0_off6 (grid0.coords t) = ![1, t.val % 8 * 128, 0] := by decide +kernel

/-- No point leaves the result block alone. -/
theorem idle5 : ∀ t : Fin cfg0.N, cfg0.idle 5 (cfg0.grid.coords t) = false := by decide +kernel

/-! ## The body at a point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point, its conditions put aside: from the buffers as the point before left them to the result block and
the buffers as the point after needs them. -/
theorem at_point (c : Dev nD) (t : Fin cfg0.N) (s0 s1 : Vec F S2x2048x1024 .bf16) (s2 : Vec F S2x1024x2048 .bf16)
    (k0 : Kept (gateBlk m c) t.val s0) (k1 : Kept (upBlk m c) t.val s1) (k2 : Kept (downBlk m c) t.val s2) :
    ∃ (s0' s1' : Vec F S2x2048x1024 .bf16) (s2' : Vec F S2x1024x2048 .bf16),
      (Kept (gateBlk m c) (t.val + 1) s0' ∧ Kept (upBlk m c) (t.val + 1) s1' ∧ Kept (downBlk m c) (t.val + 1) s2') ∧
      ∀ K : PUnit → sProp 𝕄,
        iprop(inputs c (st0_0 t) (st0_1 t) (st0_2 t) (st0_3 t) (st0_4 t) (X0_0 m c t) (X0_1 m c t) (iblk m c 2 t) (iblk m c 3 t) (iblk m c 4 t)
            ∗ (∃ d, owns (c : Thread nD τ) (st0_5 t) fullShare d)
            ∗ slots c (Memref.whole cc0_scratch0) (Memref.whole cc0_scratch1) (Memref.whole cc0_scratch2) s0 s1 s2
            ∗ (iprop(inputs c (st0_0 t) (st0_1 t) (st0_2 t) (st0_3 t) (st0_4 t) (X0_0 m c t) (X0_1 m c t) (iblk m c 2 t) (iblk m c 3 t) (iblk m c 4 t)
                ∗ owns (c : Thread nD τ) (st0_5 t) fullShare (out m c t)
                ∗ slots c (Memref.whole cc0_scratch0) (Memref.whole cc0_scratch1) (Memref.whole cc0_scratch2) s0' s1' s2') -∗ K ⟨⟩))
          ⊢ wp frame (wpE (defs₀ (F := F)) Variants.none c none) Set.univ (bodyAt0 t) K := by
  have h68 : t.val < 136 := lt_of_lt_of_eq t.isLt N_0
  by_cases hlast : 128 ≤ t.val
  · refine ⟨s0, s1, s2, ⟨kept_stay k0 hlast, kept_stay k1 hlast, kept_stay k2 hlast⟩, fun K => ?_⟩
    rw [← rows_kept m c t (by omega) k0 k1 k2 1 (by show 1 = _; omega)]
    exact run_last c (grid0.coords t) _ _ _ _ _ _ _ _ _ _ _ _ _ _ _ _ _ _ (mt (cond1 t).mp (by omega)) (mt (cond2 t).mp (by omega))
      (mt (cond3 t).mp (by omega)) ((cond4 t).mpr hlast) _ _ _ _ _ s0 s1 s2 Set.univ K
  by_cases hfirst : t.val < 8
  · refine ⟨_, _, _, ⟨kept_put (q := 0) k0 (by omega), kept_put (q := 0) k1 (by omega), kept_put (q := 0) k2 (by omega)⟩, fun K => ?_⟩
    rw [show out m c t = k0_pay12 (F := F) from if_pos hfirst]
    exact run_first c (grid0.coords t) _ _ _ _ _ _ _ _ _ _ _ _ _ _ _ _ _ _ ((cond1 t).mpr hfirst) (mt (cond2 t).mp (by omega))
      (mt (cond3 t).mp (by omega)) (mt (cond4 t).mp (by omega)) _ _ (off1 t) (off2 t) _ _ _ _ _ s0 s1 s2 Set.univ K
  by_cases hev : t.val / 8 % 2 = 0
  · refine ⟨_, _, _, ⟨kept_put (q := 0) k0 (by omega), kept_put (q := 0) k1 (by omega), kept_put (q := 0) k2 (by omega)⟩, fun K => ?_⟩
    rw [← rows_kept m c t (by omega) k0 k1 k2 1 (by show 1 = _; omega)]
    exact run_even c (grid0.coords t) _ _ _ _ _ _ _ _ _ _ _ _ _ _ _ _ _ _ (mt (cond1 t).mp (by omega)) ((cond2 t).mpr (by omega))
      (mt (cond3 t).mp (by omega)) (mt (cond4 t).mp (by omega)) _ _ (off3 t) (off4 t) _ _ _ _ _ s0 s1 s2 Set.univ K
  · refine ⟨_, _, _, ⟨kept_put (q := 1) k0 (by omega), kept_put (q := 1) k1 (by omega), kept_put (q := 1) k2 (by omega)⟩, fun K => ?_⟩
    rw [← rows_kept m c t (by omega) k0 k1 k2 0 (by show 0 = _; omega)]
    exact run_odd c (grid0.coords t) _ _ _ _ _ _ _ _ _ _ _ _ _ _ _ _ _ _ (mt (cond1 t).mp (by omega)) (mt (cond2 t).mp (by omega))
      ((cond3 t).mpr (by omega)) (mt (cond4 t).mp (by omega)) _ _ (off5 t) (off6 t) _ _ _ _ _ s0 s1 s2 Set.univ K

/-- The body keeps what holds between the points. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    after0, after1, after2, after3, after4, after5,
    show (dats m 0 c).Φ t.castSucc = Between m c t.val from rfl, show (dats m 0 c).Φ t.succ = Between m c (t.val + 1) from rfl]
  unfold Between
  iintro ⟨⟨%s0, %s1, %s2, %hk, ⟨HS0, HS1, HS2⟩, Hg⟩, Ho, ⟨%d0, H0⟩, ⟨%d1, H1⟩, ⟨%d2, H2⟩, ⟨%d3, H3⟩, ⟨%d4, H4⟩, ⟨%d5, H5⟩⟩
  obtain ⟨s0', s1', s2', hk', hrun⟩ := at_point m c t s0 s1 s2 hk.1 hk.2.1 hk.2.2
  iapply (hrun _)
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [HS0 HS1 HS2]
  · isplitl [HS0]; · iexact HS0
    isplitl [HS1]; · iexact HS1
    iexact HS2
  iintro ⟨⟨H0, H1, H2, H3, H4⟩, H5, ⟨HS0, HS1, HS2⟩⟩
  isplitl [HS0 HS1 HS2 Hg]
  · iexists s0'; iexists s1'; iexists s2'
    isplitr; · ipureintro; exact hk'
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by rw [idle5]; exact .rfl

/-! ## The first and the last point -/

theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Between m c 0 from rfl, scratch_eq]
  unfold Between
  iintro ⟨⟨⟨%s0, HS0⟩, ⟨%s1, HS1⟩, ⟨%s2, HS2⟩⟩, Hg⟩
  iexists s0; iexists s1; iexists s2
  isplitr; · ipureintro; exact ⟨kept_zero _ _, kept_zero _ _, kept_zero _ _⟩
  isplitl [HS0 HS1 HS2]
  · isplitl [HS0]; · iexact HS0
    isplitl [HS1]; · iexact HS1
    iexact HS2
  iexact Hg

theorem hout (c : Dev nD) : (dats m 0 c).Φ (Fin.last cfg0.N) ⊢ Pipeline.ΦA spec0 c := by
  rw [show (dats m 0 c).Φ (Fin.last cfg0.N) = Between m c cfg0.N from rfl, scratch_eq]
  unfold Between
  iintro ⟨%s0, %s1, %s2, -, ⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- The call runs to its end, its arrays are what the proof data say, and every counter is back at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.Proof.MoeCtx

end
-- ==== Proof.MoeCtxArray.lean ====
/-
  The array the call with context rows leaves: at every expert, chosen row and lane, `expertOf` of the row's halves, of the
  expert's weights and of the row's gate; and zeros in the block after the last expert.
-/
module

public import proofs.«01_k».proof.Proof.MoeCtxBody
public import proofs.«01_k».proof.Proof.MoeCtxFrame
public import Idealize.ShloMosaic.Lib.Pipeline.ValueKit.Geometry

@[expose] public section

noncomputable section

namespace Cert.Proof.MoeCtx

open Idealize.ShloMosaic Idealize.SL.Sem Cert.ExpertsCtxIdeal
open Cert.ExpertsCtxIdeal.Gen Idealize.ShloMosaic.TcCoe
open Cert.Proof.MoeRef (highOf lowOf projOf expertOf)

/-- The blocks' indices at a grid point `t`, of round `t / 8`: the rows and gates of the expert before the round's, the
    weights of the round's own, the result's block of the expert before (the first round's after the last expert). -/
theorem index0 : ∀ t : Fin cfg0.N, win0_0.index t = ![t.val / 8 - 1, t.val % 8, 0] :=
  (by decide +kernel : ∀ t : Fin grid0.N, _)
theorem index1 : ∀ t : Fin cfg0.N, win0_1.index t = ![t.val / 8 - 1, t.val % 8, 0] :=
  (by decide +kernel : ∀ t : Fin grid0.N, _)
theorem index2 : ∀ t : Fin cfg0.N, win0_2.index t = ![1, min (t.val / 8) 15, t.val % 8, 0] :=
  (by decide +kernel : ∀ t : Fin grid0.N, _)
theorem index3 : ∀ t : Fin cfg0.N, win0_3.index t = ![1, min (t.val / 8) 15, t.val % 8, 0] :=
  (by decide +kernel : ∀ t : Fin grid0.N, _)
theorem index4 : ∀ t : Fin cfg0.N, win0_4.index t = ![1, min (t.val / 8) 15, t.val % 8, 0] :=
  (by decide +kernel : ∀ t : Fin grid0.N, _)
theorem index5 : ∀ t : Fin cfg0.N, win0_5.index t = ![(t.val / 8 + 16) % 17, t.val % 8, 0] :=
  (by decide +kernel : ∀ t : Fin grid0.N, _)

/-- The result's blocks lie in the array whole at every point of the grid, -/
theorem xsize5 : ∀ t : Fin cfg0.N, ∀ a, (cfg0.win 5).xsize (cfg0.grid.coords t) a = (cfg0.win 5).size a := by decide +kernel

/-- so a place of the block is a place of what is written back. -/
def cell5 (t : Fin cfg0.N) (j : S1x272x2048.Idx) : ((cfg0.win 5).xblock (cfg0.grid.coords t)).Idx :=
  fun a => ⟨(j a).val, lt_of_lt_of_eq (j a).isLt (xsize5 t a).symm⟩

/-- No two points write one place of the result. -/
theorem disjoint5 : ∀ t t' : Fin cfg0.N, (cfg0.win 5).flush t = true → (cfg0.win 5).flush t' = true → t ≠ t' →
    Disjoint ((cfg0.win 5).blk t).view.set ((cfg0.win 5).blk t').view.set := by
  intro t t' _ _ hne
  refine (cfg0.win 5).disjoint_blk fun h => hne ?_
  have ht : t.val < 136 := lt_of_lt_of_eq t.isLt N_0
  have ht' : t'.val < 136 := lt_of_lt_of_eq t'.isLt N_0
  have h' : win0_5.index t = win0_5.index t' := h
  rw [index5, index5] at h'
  have h0 : (t.val / 8 + 16) % 17 = (t'.val / 8 + 16) % 17 := congrFun h' 0
  have h1 : t.val % 8 = t'.val % 8 := congrFun h' 1
  exact Fin.ext (by omega)

variable (m : (ℓ : Loc nD τ sig) → Buf (Elt Ideal) ℓ) (c : Dev nD)

/-- The blocks a point reads, as parts of the arguments. -/
theorem block0 (t : Fin cfg0.N) (i : Fin 272) (x : Fin 1024) :
    X0_0 m c t (ix3 0 i x) = m ((c.tc : Thread nD τ).loc main_arg0)
      (ix3 ⟨t.val / 8 - 1, by have := t.isLt; have : cfg0.N = 136 := N_0; omega⟩ ⟨t.val % 8 * 272 + i.val, by omega⟩ x) := by
  unfold X0_0 Pipeline.Window.fill
  rw [dif_pos (moved0_0 t _)]
  blk_simp [iblk, V_main_arg0]
  blk_ext [index0]

theorem block1 (t : Fin cfg0.N) (i : Fin 272) :
    X0_1 m c t (ix3 0 i 0) = m ((c.tc : Thread nD τ).loc main_arg1)
      (ix3 ⟨t.val / 8 - 1, by have := t.isLt; have : cfg0.N = 136 := N_0; omega⟩ ⟨t.val % 8 * 272 + i.val, by omega⟩ 0) := by
  unfold X0_1 Pipeline.Window.fill
  rw [dif_pos (moved0_1 t _)]
  blk_simp [iblk, V_main_arg1]
  blk_ext [index1]

theorem block2 (t : Fin cfg0.N) (i : Fin 256) (x : Fin 1024) :
    iblk m c 2 t (ix4 0 0 i x) = m ((c.tc : Thread nD τ).loc main_arg2)
      (ix4 1 ⟨min (t.val / 8) 15, by omega⟩ ⟨t.val % 8 * 256 + i.val, by omega⟩ x) := by
  blk_simp [iblk, V_main_arg2]
  blk_ext [index2]

theorem block3 (t : Fin cfg0.N) (i : Fin 256) (x : Fin 1024) :
    iblk m c 3 t (ix4 0 0 i x) = m ((c.tc : Thread nD τ).loc main_arg3)
      (ix4 1 ⟨min (t.val / 8) 15, by omega⟩ ⟨t.val % 8 * 256 + i.val, by omega⟩ x) := by
  blk_simp [iblk, V_main_arg3]
  blk_ext [index3]

theorem block4 (t : Fin cfg0.N) (i : Fin 128) (x : Fin 2048) :
    iblk m c 4 t (ix4 0 0 i x) = m ((c.tc : Thread nD τ).loc main_arg4)
      (ix4 1 ⟨min (t.val / 8) 15, by omega⟩ ⟨t.val % 8 * 128 + i.val, by omega⟩ x) := by
  blk_simp [iblk, V_main_arg4]
  blk_ext [index4]

/-- The point that computes row `r` of expert `e`. -/
def pointOf (e : Fin 16) (r : Fin 2176) : Fin cfg0.N :=
  ⟨8 * (e.val + 1) + r.val / 272, by have : cfg0.N = 136 := N_0; omega⟩

/-- The point of the first round that writes row `r`. -/
def zeroOf (r : Fin 2176) : Fin cfg0.N := ⟨r.val / 272, by have : cfg0.N = 136 := N_0; omega⟩

/-- The weights that point has: those of expert `e`. -/
theorem gate_full (e : Fin 16) (r : Fin 2176) (p : Fin 2) (d : Fin 2048) (f : Fin 1024) :
    (full (gateBlk m c) (pointOf e r) (by decide) (ix3 p d f : S2x2048x1024.Idx) : EReal)
      = m ((c.tc : Thread nD τ).loc main_arg2) (ix4 1 e d f) := by
  unfold full gateBlk
  refine (pay2_at _ _ _).trans ((block2 m c _ _ _).trans ?_)
  have hp : (pointOf e r).val / 8 = e.val + 1 := by show (8 * (e.val + 1) + r.val / 272) / 8 = _; omega
  have hN : cfg0.N = 136 := N_0
  have hv : (8 * ((pointOf e r).val / 8 - 1) + d.val / 256) % cfg0.N = 8 * e.val + d.val / 256 := by rw [hp, hN]; omega
  have h1 : min ((8 * ((pointOf e r).val / 8 - 1) + d.val / 256) % cfg0.N / 8) 15 = e.val := by rw [hv]; omega
  have h2 : (8 * ((pointOf e r).val / 8 - 1) + d.val / 256) % cfg0.N % 8 * 256 + d.val % 256 = d.val := by rw [hv]; omega
  exact congrArg _ (congrArg₂ (fun a b => ix4 1 a b f) (Fin.ext h1) (Fin.ext h2))

theorem up_full (e : Fin 16) (r : Fin 2176) (p : Fin 2) (d : Fin 2048) (f : Fin 1024) :
    (full (upBlk m c) (pointOf e r) (by decide) (ix3 p d f : S2x2048x1024.Idx) : EReal)
      = m ((c.tc : Thread nD τ).loc main_arg3) (ix4 1 e d f) := by
  unfold full upBlk
  refine (pay3_at _ _ _).trans ((block3 m c _ _ _).trans ?_)
  have hp : (pointOf e r).val / 8 = e.val + 1 := by show (8 * (e.val + 1) + r.val / 272) / 8 = _; omega
  have hN : cfg0.N = 136 := N_0
  have hv : (8 * ((pointOf e r).val / 8 - 1) + d.val / 256) % cfg0.N = 8 * e.val + d.val / 256 := by rw [hp, hN]; omega
  have h1 : min ((8 * ((pointOf e r).val / 8 - 1) + d.val / 256) % cfg0.N / 8) 15 = e.val := by rw [hv]; omega
  have h2 : (8 * ((pointOf e r).val / 8 - 1) + d.val / 256) % cfg0.N % 8 * 256 + d.val % 256 = d.val := by rw [hv]; omega
  exact congrArg _ (congrArg₂ (fun a b => ix4 1 a b f) (Fin.ext h1) (Fin.ext h2))

theorem down_full (e : Fin 16) (r : Fin 2176) (p : Fin 2) (f : Fin 1024) (x : Fin 2048) :
    (full (downBlk m c) (pointOf e r) (by decide) (ix3 p f x : S2x1024x2048.Idx) : EReal)
      = m ((c.tc : Thread nD τ).loc main_arg4) (ix4 1 e f x) := by
  unfold full downBlk
  refine (pay4_at _ _ _).trans ((block4 m c _ _ _).trans ?_)
  have hp : (pointOf e r).val / 8 = e.val + 1 := by show (8 * (e.val + 1) + r.val / 272) / 8 = _; omega
  have hN : cfg0.N = 136 := N_0
  have hv : (8 * ((pointOf e r).val / 8 - 1) + f.val / 128) % cfg0.N = 8 * e.val + f.val / 128 := by rw [hp, hN]; omega
  have h1 : min ((8 * ((pointOf e r).val / 8 - 1) + f.val / 128) % cfg0.N / 8) 15 = e.val := by rw [hv]; omega
  have h2 : (8 * ((pointOf e r).val / 8 - 1) + f.val / 128) % cfg0.N % 8 * 128 + f.val % 128 = f.val := by rw [hv]; omega
  exact congrArg _ (congrArg₂ (fun a b => ix4 1 a b x) (Fin.ext h1) (Fin.ext h2))

/-- What a point writes back. -/
theorem flushed_eq (t : Fin cfg0.N) : (dats m 0 c).flushed 5 t = (cfg0.win 5).cut (grid0.coords t) (out m c t) := by
  unfold Idealize.ShloMosaic.Pipeline.Dat.flushed
  rw [after5]

/-- The array after the run, at a row of an expert, -/
theorem final_at (e : Fin 16) (r : Fin 2176) (x : Fin 2048) :
    (dats m 0 c).arrAt 5 cfg0.N (ix3 ⟨e.val, by omega⟩ ⟨r.val, by omega⟩ x)
      = expertOf (fun d => highOf (m ((c.tc : Thread nD τ).loc main_arg0) (ix3 e ⟨r.val, by omega⟩ d)))
          (fun d => lowOf (m ((c.tc : Thread nD τ).loc main_arg0) (ix3 e ⟨r.val, by omega⟩ d)))
          (fun f d => m ((c.tc : Thread nD τ).loc main_arg2) (ix4 1 e d f))
          (fun f d => m ((c.tc : Thread nD τ).loc main_arg3) (ix4 1 e d f))
          (fun f => m ((c.tc : Thread nD τ).loc main_arg4) (ix4 1 e f x)) (m ((c.tc : Thread nD τ).loc main_arg1) (ix3 e ⟨r.val, by omega⟩ 0)) := by
  have hp : (pointOf e r).val = 8 * (e.val + 1) + r.val / 272 := rfl
  have he : (ix3 ⟨e.val, by omega⟩ ⟨r.val, by omega⟩ x : S17x2560x2048.Idx)
      = ((cfg0.win 5).blk (pointOf e r)).view.emb (cell5 _ (ix3 0 ⟨r.val % 272, by omega⟩ x)) := by
    unfold cell5
    blk_ext [index5, hp]
  rw [he, (dats m 0 c).arrAt_emb_eq_flushed 5 disjoint5 (pointOf e r) (flush0_5 _), flushed_eq]
  refine Eq.trans (b := out m c (pointOf e r) (ix3 0 ⟨r.val % 272, by omega⟩ x)) rfl ?_
  unfold out
  rw [if_neg (by omega), rows_at]
  have b0 : ∀ d : Fin 1024, X0_0 m c (pointOf e r) (ix3 0 ⟨r.val % 272, by omega⟩ d)
      = m ((c.tc : Thread nD τ).loc main_arg0) (ix3 e ⟨r.val, by omega⟩ d) := fun d => (block0 m c _ _ _).trans
    (congrArg _ (congrArg₂ (fun a b => ix3 a b d) (Fin.ext (by simp only [hp]; omega)) (Fin.ext (by simp only [hp]; omega))))
  have b1 : X0_1 m c (pointOf e r) (ix3 0 ⟨r.val % 272, by omega⟩ 0)
      = m ((c.tc : Thread nD τ).loc main_arg1) (ix3 e ⟨r.val, by omega⟩ 0) := (block1 m c _ _).trans
    (congrArg _ (congrArg₂ (fun a b => ix3 a b 0) (Fin.ext (by simp only [hp]; omega)) (Fin.ext (by simp only [hp]; omega))))
  simp only [b0, b1, gate_full, up_full, down_full]

/-- and in the block after the last expert. -/
theorem final_zero (e : Fin 17) (h16 : e.val = 16) (r : Fin 2176) (x : Fin 2048) : (dats m 0 c).arrAt 5 cfg0.N (ix3 e ⟨r.val, by omega⟩ x) = (0 : EReal) := by
  have hp : (zeroOf r).val = r.val / 272 := rfl
  have he : (ix3 e ⟨r.val, by omega⟩ x : S17x2560x2048.Idx)
      = ((cfg0.win 5).blk (zeroOf r)).view.emb (cell5 _ (ix3 0 ⟨r.val % 272, by omega⟩ x)) := by
    unfold cell5
    blk_ext [index5, hp]
  rw [he, (dats m 0 c).arrAt_emb_eq_flushed 5 disjoint5 (zeroOf r) (flush0_5 _), flushed_eq]
  refine Eq.trans (b := out m c (zeroOf r) (ix3 0 ⟨r.val % 272, by omega⟩ x)) rfl ?_
  unfold out
  rw [if_pos (by omega)]
  exact pay12_at _ _

end Cert.Proof.MoeCtx

end
-- ==== Proof.MoeCtxRef.lean ====
/-
  What the reference of the experts with context rows computes, step by step: each of its arrays as a function of the
  arguments, in the reference's own operations, and then at an index over the extended reals.
-/
module

public import proofs.«01_k».proof.Proof.Gen.ExpertsCtxRefIdeal.Run
public import proofs.«01_k».proof.Proof.MoeRef
public import Idealize.ShloMosaic.Lib.Pointwise
public import Idealize.ShloMosaic.PureOps.Ideal.Laws

@[expose] public section

noncomputable section

namespace Cert.Proof.MoeCtxRef

open Idealize.ShloMosaic Idealize.SL.Sem Cert.ExpertsCtxRefIdeal
open Cert.ExpertsCtxRefIdeal.Gen Idealize.ShloMosaic.TcCoe
open Cert.ExpertsCtxRefIdeal.Facts

open Cert.Proof.MoeRef (highOf lowOf projOf expertOf sum_halves)

variable {F : FTy → Type} [FloatOps F]

/-- The number in the upper half of each word, -/
def high (w : IVec S16x2560x1024 32) : FVec F S16x2560x1024 .f32 :=
  bitcastToFloat .f32 (andi w (broadcastInDim S16x2560x1024 ![] bcast_S_S16x2560x1024 (constantI S_ 32 4294901760#32)))

/-- that in the lower half, -/
def low (w : IVec S16x2560x1024 32) : FVec F S16x2560x1024 .f32 :=
  bitcastToFloat .f32 (Host.shli w (broadcastInDim S16x2560x1024 ![] bcast_S_S16x2560x1024 (constantI S_ 32 16#32)))

/-- and the gathered rows: the first after the other. -/
def gathered (w : IVec S16x2560x1024 32) : FVec F S16x2560x2048 .f32 :=
  concatenate S16x2560x2048 2 [⟨S16x2560x1024, high w⟩, ⟨S16x2560x1024, low w⟩]
    concatenates_S16x2560x1024_S16x2560x1024_S16x2560x2048_d2

/-- The rows times the layer's gate or up weights, expert by expert. -/
def project (x : FVec F S16x2560x2048 .f32) (w : FVec F S4x16x2048x1024 .f32) : FVec F S16x2560x1024 .f32 :=
  Host.dotGeneral dot_S16x2560x2048_S16x2048x1024_S16x2560x1024_2_1_1_2_0_0 none x
    (shapeCast _ (extractStridedSlice S1x16x2048x1024 ![1, 0, 0, 0] w slices_S4x16x2048x1024_S1x16x2048x1024_1_0_0_0)
      shapeCasts_S1x16x2048x1024_S16x2048x1024)

/-- A number times its logistic. -/
def silu (x : FVec F S16x2560x1024 .f32) : FVec F S16x2560x1024 .f32 :=
  mulf x (Host.divf (broadcastInDim S16x2560x1024 ![] bcast_S_S16x2560x1024 (constant S_ .f32 0x3F800000#32))
    (addf (broadcastInDim S16x2560x1024 ![] bcast_S_S16x2560x1024 (constant S_ .f32 0x3F800000#32)) (Host.exp (Host.negf x))))

/-- The experts' rows: the hidden numbers times the down weights, times the rows' gates. -/
def expert (h : FVec F S16x2560x1024 .f32) (w : FVec F S4x16x1024x2048 .f32) (g : FVec F S16x2560x1 .f32) : FVec F S16x2560x2048 .f32 :=
  mulf (Host.dotGeneral dot_S16x2560x1024_S16x1024x2048_S16x2560x2048_2_1_1_2_0_0 none h
      (shapeCast _ (extractStridedSlice S1x16x1024x2048 ![1, 0, 0, 0] w slices_S4x16x1024x2048_S1x16x1024x2048_1_0_0_0)
        shapeCasts_S1x16x1024x2048_S16x1024x2048))
    (broadcastInDim S16x2560x2048 ![0, 1, 2] bcast_S16x2560x1_S16x2560x2048_0_1_2 g)

/-- The whole result: those rows, and a block of zeros after them. -/
def result (w : IVec S16x2560x1024 32) (g : FVec F S16x2560x1 .f32) (wg wu : FVec F S4x16x2048x1024 .f32)
    (wd : FVec F S4x16x1024x2048 .f32) : FVec F S17x2560x2048 .f32 :=
  pad S17x2560x2048 ![0, 0, 0] ![1, 0, 0] ![0, 0, 0]
    (expert (mulf (silu (project (gathered w) wg)) (project (gathered w) wu)) wd g)
    (sitofp .f32 (constantI S_ 32 0#32)) pads_S16x2560x2048_S17x2560x2048_010_000_000 h_S_

/-- The reference's run ends with `result` of its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2⟩) (Cert.ExpertsCtxRefIdeal.Value.run m ρ)

/-! ## At an index, over the extended reals -/

theorem high_at (w : IVec S16x2560x1024 32) (i : S16x2560x1024.Idx) : (high (F := Ideal) w i : EReal) = highOf (w i) := rfl

theorem low_at (w : IVec S16x2560x1024 32) (i : S16x2560x1024.Idx) : (low (F := Ideal) w i : EReal) = lowOf (w i) := rfl

theorem gathered_at (w : IVec S16x2560x1024 32) (e : Fin 16) (r : Fin 2560) (d : Fin 2048) :
    (gathered (F := Ideal) w (ix3 e r d) : EReal)
      = if h : d.val < 1024 then highOf (w (ix3 e r ⟨d.val, h⟩)) else lowOf (w (ix3 e r ⟨d.val - 1024, by omega⟩)) := by
  unfold gathered
  pointwise
  simp only [high_at, low_at]

theorem project_at (x : FVec Ideal S16x2560x2048 .f32) (w : FVec Ideal S4x16x2048x1024 .f32) (e : Fin 16) (r : Fin 2560) (f : Fin 1024) :
    project x w (ix3 e r f) = ∑ d : Fin 2048, x (ix3 e r d) * w (ix4 1 e d f) := by
  unfold project
  pointwise [dot_S16x2560x2048_S16x2048x1024_S16x2560x1024_2_1_1_2_0_0]

theorem silu_at (x : FVec Ideal S16x2560x1024 .f32) (e : Fin 16) (r : Fin 2560) (f : Fin 1024) :
    silu x (ix3 e r f) = x (ix3 e r f) * Ideal.logistic (x (ix3 e r f)) := by
  unfold silu
  pointwise
  rfl

theorem expert_at (h : FVec Ideal S16x2560x1024 .f32) (w : FVec Ideal S4x16x1024x2048 .f32) (g : FVec Ideal S16x2560x1 .f32)
    (e : Fin 16) (r : Fin 2560) (x : Fin 2048) :
    expert h w g (ix3 e r x) = (∑ f : Fin 1024, h (ix3 e r f) * w (ix4 1 e f x)) * g (ix3 e r 0) := by
  unfold expert
  pointwise [dot_S16x2560x1024_S16x1024x2048_S16x2560x2048_2_1_1_2_0_0]

theorem result_pad (w : IVec S16x2560x1024 32) (g : FVec Ideal S16x2560x1 .f32) (wg wu : FVec Ideal S4x16x2048x1024 .f32)
    (wd : FVec Ideal S4x16x1024x2048 .f32) (e : Fin 17) (he : e.val = 16) (r : Fin 2560) (x : Fin 2048) : result w g wg wu wd (ix3 e r x) = 0 := by
  have hz : (FloatOps.sitofp (F := Ideal) FTy.f32 0#32 : EReal) = 0 := by
    show (((0#32 : BitVec 32).toInt : ℝ) : EReal) = 0
    simp
  unfold result
  pointwise
  rw [dif_neg (by omega)]
  exact hz

theorem project_gathered (w : IVec S16x2560x1024 32) (wt : FVec Ideal S4x16x2048x1024 .f32) (e : Fin 16) (r : Fin 2560) (f : Fin 1024) :
    project (gathered w) wt (ix3 e r f)
      = projOf (fun d => highOf (w (ix3 e r d))) (fun d => lowOf (w (ix3 e r d))) (fun d => wt (ix4 1 e d f)) := by
  rw [project_at]
  simp only [gathered_at]
  exact sum_halves (n := 1024) (fun d => highOf (w (ix3 e r d))) (fun d => lowOf (w (ix3 e r d))) (fun d => wt (ix4 1 e d f))

theorem result_at (w : IVec S16x2560x1024 32) (g : FVec Ideal S16x2560x1 .f32) (wg wu : FVec Ideal S4x16x2048x1024 .f32)
    (wd : FVec Ideal S4x16x1024x2048 .f32) (e : Fin 16) (r : Fin 2560) (x : Fin 2048) :
    result w g wg wu wd (ix3 ⟨e.val, by omega⟩ r x)
      = expertOf (fun d => highOf (w (ix3 e r d))) (fun d => lowOf (w (ix3 e r d))) (fun f d => wg (ix4 1 e d f))
          (fun f d => wu (ix4 1 e d f)) (fun f => wd (ix4 1 e f x)) (g (ix3 e r 0)) := by
  have hm : ∀ f : Fin 1024, mulf (silu (project (gathered w) wg)) (project (gathered w) wu) (ix3 e r f)
      = silu (project (gathered w) wg) (ix3 e r f) * project (gathered w) wu (ix3 e r f) := fun _ => rfl
  unfold result
  pointwise
  rw [expert_at]
  simp only [hm, silu_at, project_gathered]
  rfl

end Cert.Proof.MoeCtxRef

end
-- ==== Proof.MoeCtx.lean ====
/-
  The claims about the experts' call with context rows: the frames of the call and of its reference, and that both end with
  one array on the rows that were chosen.
-/
module

public import proofs.«01_k».proof.Proof.MoeCtxArray
public import proofs.«01_k».proof.Proof.MoeCtxRef
public import proofs.«01_k».proof.Proof.MoeCtxFrameBits
public import proofs.«01_k».proof.Defs
public import proofs.«01_k».proof.Proof.Gen.ExpertsCtx
public import proofs.«01_k».proof.Proof.Gen.ExpertsCtxIdeal
public import proofs.«01_k».proof.Proof.Gen.ExpertsCtxRefIdeal
public import Idealize.ShloMosaic.Lib.Claim

@[expose] public section

noncomputable section

namespace Cert.Proof.MoeCtx

open Idealize.ShloMosaic
open Cert.Proof.MoeCtxRef (result result_at result_pad)

theorem frame_p : Cert.quiescent_ExpertsCtx (hExpertsCtx := Cert.ExpertsCtx.Gen.facts) := fun m ρ _ =>
  Cert.Proof.MoeCtxBits.frame (F := Bits) m ρ

theorem frame_pi : Cert.quiescent_ExpertsCtxIdeal (hExpertsCtxIdeal := Cert.ExpertsCtxIdeal.Gen.facts) := fun m ρ _ => frame (F := Ideal) m ρ

theorem frame_ri : Cert.quiescent_ExpertsCtxRefIdeal (hExpertsCtxRefIdeal := Cert.ExpertsCtxRefIdeal.Gen.facts) := fun m ρ _ =>
  (θ_run Cert.ExpertsCtxRefIdeal.defs _ _).mono (fun r h => ⟨fun c => (h c).2, sem_eq_zero_of_no_sems (by decide) r.2⟩)
    (Cert.ExpertsCtxRefIdeal.Value.run (F := Ideal) m ρ)

/-- On the rows that were chosen the call's array is the reference's. -/
theorem arrays_eq (m : (ℓ : Loc Cert.ExpertsCtxIdeal.nD Cert.ExpertsCtxIdeal.τ Cert.ExpertsCtxIdeal.sig) → Buf (Elt Ideal) ℓ)
    (c : Dev Cert.ExpertsCtxIdeal.nD) (e : Fin 17) (r : Fin 2176) (x : Fin 2048) :
    ((dats m 0 c).arrAt 5 Cert.ExpertsCtxIdeal.cfg0.N (ix3 e ⟨r.val, by omega⟩ x) : EReal)
      = result (F := Ideal) (m ((c.tc : Thread Cert.ExpertsCtxIdeal.nD Cert.ExpertsCtxIdeal.τ).loc Cert.ExpertsCtxIdeal.main_arg0))
          (m ((c.tc : Thread Cert.ExpertsCtxIdeal.nD Cert.ExpertsCtxIdeal.τ).loc Cert.ExpertsCtxIdeal.main_arg1))
          (m ((c.tc : Thread Cert.ExpertsCtxIdeal.nD Cert.ExpertsCtxIdeal.τ).loc Cert.ExpertsCtxIdeal.main_arg2))
          (m ((c.tc : Thread Cert.ExpertsCtxIdeal.nD Cert.ExpertsCtxIdeal.τ).loc Cert.ExpertsCtxIdeal.main_arg3))
          (m ((c.tc : Thread Cert.ExpertsCtxIdeal.nD Cert.ExpertsCtxIdeal.τ).loc Cert.ExpertsCtxIdeal.main_arg4)) (ix3 e ⟨r.val, by omega⟩ x) := by
  by_cases h : e.val < 16
  · rw [show e = ⟨(⟨e.val, h⟩ : Fin 16).val, by omega⟩ from rfl]
    exact (final_at m c ⟨e.val, h⟩ r x).trans (result_at _ _ _ _ _ ⟨e.val, h⟩ ⟨r.val, by omega⟩ x).symm
  · exact (final_zero m c e (by omega) r x).trans (result_pad _ _ _ _ _ e (by omega) ⟨r.val, by omega⟩ x).symm

/-- The mask's side condition, -/
theorem on_facts : Cert.On_chosen_rows.Facts := ⟨by decide⟩

/-- and its rows: those below 2176. -/
theorem row_lt [Cert.On_chosen_rows.Facts] (w : IVec Cert.On_chosen_rows.S16x2560x1024 32) (g : FVec Ideal Cert.On_chosen_rows.S16x2560x1 .f32)
    (wg wu : FVec Ideal Cert.On_chosen_rows.S4x16x2048x1024 .f32) (wd : FVec Ideal Cert.On_chosen_rows.S4x16x1024x2048 .f32)
    (e : Fin 17) (r : Fin 2560) (x : Fin 2048) (h : Cert.On_chosen_rows.fn (F := Ideal) w g wg wu wd (ix3 e r x) = 1#1) : r.val < 2176 := by
  by_contra hn
  have : Cert.On_chosen_rows.fn (F := Ideal) w g wg wu wd (ix3 e r x) = IntOp.cmpi .slt (BitVec.ofNat 32 r.val) 2176#32 := by
    unfold Cert.On_chosen_rows.fn
    pointwise
  rw [this] at h
  have hi : (BitVec.ofNat 32 r.val).toInt = r.val := by
    rw [BitVec.toInt_eq_toNat_of_lt (by rw [BitVec.toNat_ofNat]; omega), BitVec.toNat_ofNat]
    omega
  have h2 : ¬ (BitVec.ofNat 32 r.val).toInt < 2176 := by omega
  simp [IntOp.cmpi, BitVec.slt, h2] at h

theorem algebraic : Cert.algebraic_ExpertsCtxIdeal_ExpertsCtxRefIdeal_on_chosen_rows (hExpertsCtxIdeal := Cert.ExpertsCtxIdeal.Gen.facts)
    (hExpertsCtxRefIdeal := Cert.ExpertsCtxRefIdeal.Gen.facts) (hOn_chosen_rows := on_facts) := by
  intro m g m' g' _ hagree
  refine ⟨fun c => (dats m 0 c).arrAt 5 Cert.ExpertsCtxIdeal.cfg0.N, ?_, ?_⟩
  · exact (θ_run Cert.ExpertsCtxIdeal.defs _ _).mono (fun r h c => ⟨fun i _ => congrFun ((h.2 c).1 5) i, h.1.1 c⟩)
      (θ_run_and (frame (F := Ideal) m g) (run_main (F := Ideal) m g))
  · refine (θ_run Cert.ExpertsCtxRefIdeal.defs _ _).mono (fun r h c => ⟨fun i hi => (congrFun (h c).1 i).trans ?_, (h c).2⟩)
      (Cert.Proof.MoeCtxRef.run (F := Ideal) m' g')
    obtain ⟨e, x, y, rfl⟩ : ∃ (e : Fin 17) (x : Fin 2560) (y : Fin 2048), i = ix3 e x y := ⟨i 0, i 1, i 2, by funext a; fin_cases a <;> rfl⟩
    letI := on_facts
    have hx := row_lt _ _ _ _ _ e x y hi
    obtain ⟨h0, h1, h2, h3, h4⟩ := hagree c
    rw [h0, h1, h2, h3, h4]
    exact (arrays_eq m c e ⟨x.val, hx⟩ y).symm

end Cert.Proof.MoeCtx

end
-- ==== Proof.ConvInRef.lean ====
/-
  What the reference of the short convolution's first projection computes: its two arrays as functions of the arguments, in
  its own operations, and then at an index over the extended reals. The norm under a scale and a shift is stated for any
  scale and shift, as the references of the other layers' calls norm the same way under theirs.
-/
module

public import proofs.«01_k».proof.Proof.Gen.ConvInRefIdeal.Run
public import Idealize.ShloMosaic.Lib.Pointwise

@[expose] public section

noncomputable section

namespace Cert.Proof.ConvInRef

open Idealize.ShloMosaic Idealize.SL.Sem Cert.ConvInRefIdeal
open Cert.ConvInRefIdeal.Gen Idealize.ShloMosaic.TcCoe
open Cert.ConvInRefIdeal.Facts

variable {F : FTy → Type} [FloatOps F]

/-- The latent tokens by batch and position. -/
def latents (xc : FVec F S20480x2048 .f32) : FVec F S4x4096x2048 .f32 :=
  shapeCast _ (extractStridedSlice S16384x2048 ![0, 0] xc slices_S20480x2048_S16384x2048_0_0) shapeCasts_S16384x2048_S4x4096x2048

/-- The latent tokens, normed and under their batch's scale and shift. -/
def latentRows (x : FVec F S4x4096x2048 .f32) (g : FVec F S2048 .f32) (scale shift : FVec F S1x4x1x1x2048 .f32) : FVec F S4x4096x2048 .f32 :=
  addf (mulf (mulf (mulf x (broadcastInDim S4x4096x2048 ![0, 1, 2] bcast_S4x4096x1_S4x4096x2048_0_1_2
      (Host.rsqrt (addf (Host.divf (broadcastInDim S4x4096x1 ![0, 1] bcast_S4x4096_S4x4096x1_0_1
          (Host.reduceAdd (mulf x x) (constant S_ .f32 0x00000000#32) reducesTo_S4x4096x2048_S4x4096_d2 h_S_))
        (broadcastInDim S4x4096x1 ![] bcast_S_S4x4096x1 (constant S_ .f32 0x45000000#32)))
        (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 g)))
      (broadcastInDim S4x4096x2048 ![0, 1, 2] bcast_S4x1x2048_S4x4096x2048_0_1_2
        (addf (broadcastInDim S4x1x2048 ![] bcast_S_S4x1x2048 (constant S_ .f32 0x3F800000#32))
          (shapeCast _ scale shapeCasts_S1x4x1x1x2048_S4x1x2048))))
    (broadcastInDim S4x4096x2048 ![0, 1, 2] bcast_S4x1x2048_S4x4096x2048_0_1_2
      (shapeCast _ shift shapeCasts_S1x4x1x1x2048_S4x1x2048))

/-- The context tokens. -/
def context (xc : FVec F S20480x2048 .f32) : FVec F S1024x2048 .f32 :=
  extractStridedSlice S1024x2048 ![16384, 0] xc slices_S20480x2048_S1024x2048_16384_0

/-- The context tokens, normed and under the context's scale and shift. -/
def contextRows (x : FVec F S1024x2048 .f32) (g : FVec F S2048 .f32) (scale shift : FVec F S1x1x1x1x2048 .f32) : FVec F S1024x2048 .f32 :=
  addf (mulf (mulf (mulf x (broadcastInDim S1024x2048 ![0, 1] bcast_S1024x1_S1024x2048_0_1
      (Host.rsqrt (addf (Host.divf (broadcastInDim S1024x1 ![0] bcast_S1024_S1024x1_0
          (Host.reduceAdd (mulf x x) (constant S_ .f32 0x00000000#32) reducesTo_S1024x2048_S1024_d1 h_S_))
        (broadcastInDim S1024x1 ![] bcast_S_S1024x1 (constant S_ .f32 0x45000000#32)))
        (broadcastInDim S1024x1 ![] bcast_S_S1024x1 (constant S_ .f32 0x358637BD#32))))))
      (broadcastInDim S1024x2048 ![0, 1] bcast_S1x2048_S1024x2048_0_1 (broadcastInDim S1x2048 ![1] bcast_S2048_S1x2048_1 g)))
      (broadcastInDim S1024x2048 ![0, 1] bcast_S1x2048_S1024x2048_0_1
        (addf (broadcastInDim S1x2048 ![] bcast_S_S1x2048 (constant S_ .f32 0x3F800000#32))
          (shapeCast _ scale shapeCasts_S1x1x1x1x2048_S1x2048))))
    (broadcastInDim S1024x2048 ![0, 1] bcast_S1x2048_S1024x2048_0_1
      (shapeCast _ shift shapeCasts_S1x1x1x1x2048_S1x2048))

/-- Latents over context. -/
def stacked (a : FVec F S4x4096x2048 .f32) (b : FVec F S1024x2048 .f32) : FVec F S17408x2048 .f32 :=
  concatenate S17408x2048 0 [⟨S16384x2048, shapeCast _ a shapeCasts_S4x4096x2048_S16384x2048⟩, ⟨S1024x2048, b⟩]
    concatenates_S16384x2048_S1024x2048_S17408x2048_d0

/-- The tokens' rows, normed, the latents under a scale and a shift of their batch's and the context under its own. -/
def normed (xc : FVec F S20480x2048 .f32) (g : FVec F S2048 .f32) (scale shift : FVec F S1x4x1x1x2048 .f32)
    (scaleC shiftC : FVec F S1x1x1x1x2048 .f32) : FVec F S17408x2048 .f32 :=
  stacked (latentRows (latents xc) g scale shift) (contextRows (context xc) g scaleC shiftC)

/-- The rows that are projected. -/
def rows (xc : FVec F S20480x2048 .f32) (g : FVec F S2048 .f32) (mp : FVec F S4x8x6x1x2048 .f32) : FVec F S17408x2048 .f32 :=
  normed xc g (extractStridedSlice S1x4x1x1x2048 ![0, 0, 1, 0, 0] mp slices_S4x8x6x1x2048_S1x4x1x1x2048_0_0_1_0_0)
    (extractStridedSlice S1x4x1x1x2048 ![0, 0, 0, 0, 0] mp slices_S4x8x6x1x2048_S1x4x1x1x2048_0_0_0_0_0)
    (extractStridedSlice S1x1x1x1x2048 ![0, 4, 1, 0, 0] mp slices_S4x8x6x1x2048_S1x1x1x1x2048_0_4_1_0_0)
    (extractStridedSlice S1x1x1x1x2048 ![0, 4, 0, 0, 0] mp slices_S4x8x6x1x2048_S1x1x1x1x2048_0_4_0_0_0)

/-- The projection, of which the three parts are a gate, a gate and the values. -/
def projected (h : FVec F S17408x2048 .f32) (w : FVec F S2048x6144 .f32) : FVec F S17408x6144 .f32 :=
  Host.dotGeneral dot_S17408x2048_S2048x6144_S17408x6144_1_0_0_1_n_n none h w

/-- Rows over zeros. -/
def padded (y : FVec F S17408x2048 .f32) : FVec F S20480x2048 .bf16 :=
  pad S20480x2048 ![0, 0] ![3072, 0] ![0, 0] (truncf .bf16 y bitsLt_bf16_f32) (sitofp .bf16 (constantI S_ 32 0#32))
    pads_S17408x2048_S20480x2048_030720_000 h_S_

/-- The first gate. -/
def gate (p : FVec F S17408x6144 .f32) : FVec F S20480x2048 .bf16 :=
  padded (extractStridedSlice S17408x2048 ![0, 0] p slices_S17408x6144_S17408x2048_0_0)

/-- The values under the second gate. -/
def gated (p : FVec F S17408x6144 .f32) : FVec F S20480x2048 .bf16 :=
  padded (mulf (extractStridedSlice S17408x2048 ![0, 2048] p slices_S17408x6144_S17408x2048_0_2048)
    (extractStridedSlice S17408x2048 ![0, 4096] p slices_S17408x6144_S17408x2048_0_4096))

set_option maxRecDepth 8192 in
/-- The reference's run, its results read as those functions of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = gate (projected (rows (m ((c.tc : Thread nD τ).loc main_arg0)) (m ((c.tc : Thread nD τ).loc main_arg1))
              (m ((c.tc : Thread nD τ).loc main_arg2))) (m ((c.tc : Thread nD τ).loc main_arg3)))
      ∧ r.2.mem ((c.tc : Thread nD τ).loc main_v59)
          = gated (projected (rows (m ((c.tc : Thread nD τ).loc main_arg0)) (m ((c.tc : Thread nD τ).loc main_arg1))
              (m ((c.tc : Thread nD τ).loc main_arg2))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Cert.ConvInRefIdeal.Value.run m ρ)

/-! ## At an index, over the extended reals -/

/-- A row over its root mean square, times the gain, times one more than the scale, plus the shift. -/
def normOf (x g scale shift : Fin 2048 → EReal) (d : Fin 2048) : EReal :=
  x d * Ideal.rsqrt (Ideal.div (∑ e, x e * x e) (Ideal.ofBits .f32 0x45000000#32) + Ideal.ofBits .f32 0x358637BD#32) * g d
    * (Ideal.ofBits .f32 0x3F800000#32 + scale d) + shift d

theorem latents_at (xc : FVec Ideal S20480x2048 .f32) (b : Fin 4) (t : Fin 4096) (d : Fin 2048) :
    latents xc (ix3 b t d) = xc (ix2 ⟨b.val * 4096 + t.val, by omega⟩ d) := by
  unfold latents
  pointwise

theorem latentRows_at (x : FVec Ideal S4x4096x2048 .f32) (g : FVec Ideal S2048 .f32) (scale shift : FVec Ideal S1x4x1x1x2048 .f32)
    (b : Fin 4) (t : Fin 4096) (d : Fin 2048) :
    latentRows x g scale shift (ix3 b t d)
      = normOf (fun e => x (ix3 b t e)) (fun e => g (ix1 e)) (fun e => scale (ix5 0 b 0 0 e)) (fun e => shift (ix5 0 b 0 0 e)) d := by
  unfold latentRows normOf
  pointwise

theorem context_at (xc : FVec Ideal S20480x2048 .f32) (t : Fin 1024) (d : Fin 2048) :
    context xc (ix2 t d) = xc (ix2 ⟨16384 + t.val, by omega⟩ d) := by
  unfold context
  pointwise

theorem contextRows_at (x : FVec Ideal S1024x2048 .f32) (g : FVec Ideal S2048 .f32) (scale shift : FVec Ideal S1x1x1x1x2048 .f32)
    (t : Fin 1024) (d : Fin 2048) :
    contextRows x g scale shift (ix2 t d)
      = normOf (fun e => x (ix2 t e)) (fun e => g (ix1 e)) (fun e => scale (ix5 0 0 0 0 e)) (fun e => shift (ix5 0 0 0 0 e)) d := by
  unfold contextRows normOf
  pointwise

theorem stacked_at (a : FVec Ideal S4x4096x2048 .f32) (b : FVec Ideal S1024x2048 .f32) (r : Fin 17408) (d : Fin 2048) :
    stacked a b (ix2 r d) = if h : r.val < 16384 then a (ix3 ⟨r.val / 4096, by omega⟩ ⟨r.val % 4096, by omega⟩ d)
      else b (ix2 ⟨r.val - 16384, by omega⟩ d) := by
  unfold stacked
  pointwise

/-- A normed row, when the scales and shifts are those of layer `l`: row `r` is under the scale and shift numbered
    `r / 4096`, the context's being the fifth. -/
theorem normed_at (xc : FVec Ideal S20480x2048 .f32) (g : FVec Ideal S2048 .f32) (mp : FVec Ideal S4x8x6x1x2048 .f32) (l : Fin 4)
    (scale shift : FVec Ideal S1x4x1x1x2048 .f32) (scaleC shiftC : FVec Ideal S1x1x1x1x2048 .f32)
    (hs : ∀ (b : Fin 4) (e : Fin 2048), scale (ix5 0 b 0 0 e) = mp (ix5 l ⟨b.val, by omega⟩ 1 0 e))
    (hh : ∀ (b : Fin 4) (e : Fin 2048), shift (ix5 0 b 0 0 e) = mp (ix5 l ⟨b.val, by omega⟩ 0 0 e))
    (hsC : ∀ e : Fin 2048, scaleC (ix5 0 0 0 0 e) = mp (ix5 l 4 1 0 e))
    (hhC : ∀ e : Fin 2048, shiftC (ix5 0 0 0 0 e) = mp (ix5 l 4 0 0 e)) (r : Fin 17408) (d : Fin 2048) :
    normed xc g scale shift scaleC shiftC (ix2 r d)
      = normOf (fun e => xc (ix2 ⟨r.val, by omega⟩ e)) (fun e => g (ix1 e)) (fun e => mp (ix5 l ⟨r.val / 4096, by omega⟩ 1 0 e))
          (fun e => mp (ix5 l ⟨r.val / 4096, by omega⟩ 0 0 e)) d := by
  unfold normed
  rw [stacked_at]
  split
  · rw [latentRows_at]
    simp only [latents_at, hs, hh]
    have h1 : (⟨r.val / 4096 * 4096 + r.val % 4096, by omega⟩ : Fin 20480) = ⟨r.val, by omega⟩ := Fin.ext (by simp only; omega)
    rw [h1]
  · next h =>
    rw [contextRows_at]
    simp only [context_at, hsC, hhC]
    have h1 : (⟨16384 + (r.val - 16384), by omega⟩ : Fin 20480) = ⟨r.val, by omega⟩ := Fin.ext (by simp only; omega)
    have h2 : (⟨r.val / 4096, by omega⟩ : Fin 8) = 4 := Fin.ext (by simp only; omega)
    rw [h1, h2]

/-- A row of the projection's left side. -/
theorem rows_at (xc : FVec Ideal S20480x2048 .f32) (g : FVec Ideal S2048 .f32) (mp : FVec Ideal S4x8x6x1x2048 .f32)
    (r : Fin 17408) (d : Fin 2048) :
    rows xc g mp (ix2 r d)
      = normOf (fun e => xc (ix2 ⟨r.val, by omega⟩ e)) (fun e => g (ix1 e)) (fun e => mp (ix5 0 ⟨r.val / 4096, by omega⟩ 1 0 e))
          (fun e => mp (ix5 0 ⟨r.val / 4096, by omega⟩ 0 0 e)) d :=
  normed_at xc g mp 0 _ _ _ _ (fun b e => by pointwise) (fun b e => by pointwise) (fun e => by pointwise) (fun e => by pointwise) r d

theorem projected_at (h : FVec Ideal S17408x2048 .f32) (w : FVec Ideal S2048x6144 .f32) (r : Fin 17408) (n : Fin 6144) :
    projected h w (ix2 r n) = ∑ d : Fin 2048, h (ix2 r d) * w (ix2 d n) := by
  unfold projected
  pointwise [dot_S17408x2048_S2048x6144_S17408x6144_1_0_0_1_n_n]

theorem gate_at (p : FVec Ideal S17408x6144 .f32) (r : Fin 17408) (n : Fin 2048) :
    gate p (ix2 ⟨r.val, by omega⟩ n) = p (ix2 r ⟨n.val, by omega⟩) := by
  unfold gate padded
  pointwise

theorem gated_at (p : FVec Ideal S17408x6144 .f32) (r : Fin 17408) (n : Fin 2048) :
    gated p (ix2 ⟨r.val, by omega⟩ n) = p (ix2 r ⟨2048 + n.val, by omega⟩) * p (ix2 r ⟨4096 + n.val, by omega⟩) := by
  unfold gated padded
  pointwise

end Cert.Proof.ConvInRef

end
-- ==== Proof.Loads.lean ====
/-
  What a load of a whole buffer reads, in any program: what the buffer holds, or what was stored in it before.
-/
module

public import Idealize.ShloMosaic.Lib.Pipeline.Value
public import Idealize.ShloMosaic.Lib.Pipeline.ValueKit.Basic

@[expose] public section

noncomputable section

namespace Cert.Proof.Loads

open Idealize.ShloMosaic Idealize.SL.Sem Idealize.ShloMosaic.TcCoe

variable {F : FTy → Type} [FloatOps F]

/-- A load of a whole staging buffer reads what it holds. -/
theorem load_held {sp : Space} {s : Shape} {e : EltTy} {sig : RefSig} (a : Memref sig .tc sp s e) (ha : a.IsWhole)
    {off : Fin s.rank → Nat} (h : off = fun _ => 0) (inb : ∀ d, off d + s.size d ≤ s.size d) (x : s.Idx → Elt F e) :
    View.readAt (Elt F) a.view (Rect.unit off s.size inb).toLoadRect (ha.unread x) = x := by
  have e1 : View.readAt (Elt F) a.view (Rect.unit off s.size inb).toLoadRect (ha.unread x)
      = View.ld (View.read (Elt F) a.view (ha.unread x)) (Rect.unit off s.size inb) := rfl
  rw [e1, ha.read_unread, View.ld_unit_zero h]

/-- A load of a whole scratch buffer after a store of the whole of it reads what was stored. -/
theorem load_stored {sp : Space} {s : Shape} {e : EltTy} {sig : RefSig} (a : View sig .tc sp s e)
    {off : Fin s.rank → Nat} (h : off = fun _ => 0) (inb : ∀ d, off d + s.size d ≤ s.size d) (x : s.Idx → Elt F e) :
    a.readCov [⟨Rect.unit off s.size inb, x⟩] (Rect.unit off s.size inb).toLoadRect = x := by
  rw [View.readCov_eq_canon', View.canon_cons_unit_zero h inb x []]
  exact View.ld_unit_zero h inb x

theorem off2 : (![0, 0] : Fin 2 → Nat) = fun _ => 0 := by funext a; fin_cases a <;> rfl
theorem off5 : (![0, 0, 0, 0, 0] : Fin 5 → Nat) = fun _ => 0 := by funext a; fin_cases a <;> rfl

end Cert.Proof.Loads

end
-- ==== Proof.ConvInBody.lean ====
/-
  What one grid point of the short convolution's first projection stores: the rows it norms (or finds normed in its
  scratch) times the weights' blocks.
-/
module

public import proofs.«01_k».proof.Proof.ConvInRef
public import proofs.«01_k».proof.Proof.Loads
public import proofs.«01_k».proof.Proof.Gen.ConvInIdeal.Frame

@[expose] public section

noncomputable section

namespace Cert.Proof.ConvIn

open Idealize.ShloMosaic Idealize.SL.Sem Cert.ConvInIdeal
open Cert.ConvInIdeal.Gen Idealize.ShloMosaic.TcCoe
open Cert.Proof.ConvInRef (normOf)
open Cert.Proof.Loads (load_held load_stored off2 off5)

section
variable {F : FTy → Type} [FloatOps F]

variable (c : Dev nD) (i : grid0.Coords) (arg2 : Memref sig .tc .vmem S512x2048 .f32) (harg2 : arg2.IsWhole)
    (arg3 : Memref sig .tc .vmem S1x2048 .f32) (harg3 : arg3.IsWhole)
    (arg4 : Memref sig .tc .vmem S1x1x1x1x2048 .f32) (harg4 : arg4.IsWhole)
    (arg5 : Memref sig .tc .vmem S1x1x1x1x2048 .f32) (harg5 : arg5.IsWhole)
    (arg6 : Memref sig .tc .vmem S2048x1024 .bf16) (harg6 : arg6.IsWhole)
    (arg7 : Memref sig .tc .vmem S2048x1024 .bf16) (harg7 : arg7.IsWhole)
    (arg8 : Memref sig .tc .vmem S2048x1024 .bf16) (harg8 : arg8.IsWhole)
    (arg9 : Memref sig .tc .vmem S512x1024 .bf16) (harg9 : arg9.IsWhole)
    (arg10 : Memref sig .tc .vmem S512x1024 .bf16) (harg10 : arg10.IsWhole)
    (arg11 : Memref sig .tc .vmem S512x2048 .bf16) (harg11 : arg11.IsWhole)
    (x0 : Vec F S512x2048 .f32) (x1 : Vec F S1x2048 .f32) (x2 : Vec F S1x1x1x1x2048 .f32) (x3 : Vec F S1x1x1x1x2048 .f32)
    (x4 : Vec F S2048x1024 .bf16) (x5 : Vec F S2048x1024 .bf16) (x6 : Vec F S2048x1024 .bf16) (y : Vec F S512x2048 .bf16)

/-- A grid point that norms its rows leaves them in the scratch, -/
theorem scratchA (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6
      = k0_pay1 x0 x1 x3 x2 := by
  unfold sout0_A_0
  rw [View.read_writes_junk_eq_canon]
  have h : (kernelRun0_A c i arg2 harg2 arg3 harg3 arg4 harg4 arg5 harg5 arg6 harg6 arg7 harg7 arg8 harg8 arg9 harg9 arg10 harg10 arg11 harg11 hc0 x0 x1 x2 x3 x4 x5 x6).2.2.1
      = [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩] := rfl
  rw [h, load_held arg2 harg2 off2, load_held arg3 harg3 off2, load_held arg4 harg4 off5, load_held arg5 harg5 off5]
  exact View.canon_cons_unit_zero off2 _ _ _

/-- stores their product with the first block of the weights, -/
theorem outA_7 (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay2 (k0_pay1 x0 x1 x3 x2) x4 := by
  unfold out0_A_7
  rw [View.read_writes_junk_eq_canon]
  have h : (kernelRun0_A c i arg2 harg2 arg3 harg3 arg4 harg4 arg5 harg5 arg6 harg6 arg7 harg7 arg8 harg8 arg9 harg9 arg10 harg10 arg11 harg11 hc0 x0 x1 x2 x3 x4 x5 x6).1
      = [⟨Rect.unit ![0, 0] S512x1024.size inb_S512x1024_S512x1024_0_0, k0_pay2
          (arg11.view.readCov [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩]
            (Rect.unit ![0, 0] S512x2048.size inb_S512x2048_S512x2048_0_0).toLoadRect)
          (View.readAt (Elt F) arg6.view (Rect.unit ![0, 0] S2048x1024.size inb_S2048x1024_S2048x1024_0_0).toLoadRect (harg6.unread x4))⟩] := rfl
  rw [h, load_held arg2 harg2 off2, load_held arg3 harg3 off2, load_held arg4 harg4 off5, load_held arg5 harg5 off5,
    load_held arg6 harg6 off2, load_stored _ off2]
  exact View.canon_cons_unit_zero off2 _ _ _

/-- and the product of their products with the two others; -/
theorem outA_8 (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6
      = k0_pay3 (k0_pay1 x0 x1 x3 x2) x5 x6 := by
  unfold out0_A_8
  rw [View.read_writes_junk_eq_canon]
  have h : (kernelRun0_A c i arg2 harg2 arg3 harg3 arg4 harg4 arg5 harg5 arg6 harg6 arg7 harg7 arg8 harg8 arg9 harg9 arg10 harg10 arg11 harg11 hc0 x0 x1 x2 x3 x4 x5 x6).2.1
      = [⟨Rect.unit ![0, 0] S512x1024.size inb_S512x1024_S512x1024_0_0, k0_pay3
          (arg11.view.readCov [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩]
            (Rect.unit ![0, 0] S512x2048.size inb_S512x2048_S512x2048_0_0).toLoadRect)
          (View.readAt (Elt F) arg7.view (Rect.unit ![0, 0] S2048x1024.size inb_S2048x1024_S2048x1024_0_0).toLoadRect (harg7.unread x5))
          (View.readAt (Elt F) arg8.view (Rect.unit ![0, 0] S2048x1024.size inb_S2048x1024_S2048x1024_0_0).toLoadRect (harg8.unread x6))⟩] := rfl
  rw [h, load_held arg2 harg2 off2, load_held arg3 harg3 off2, load_held arg4 harg4 off5, load_held arg5 harg5 off5,
    load_held arg7 harg7 off2, load_held arg8 harg8 off2, load_stored _ off2]
  exact View.canon_cons_unit_zero off2 _ _ _

/-- a grid point that finds normed rows in its scratch stores the same of them. -/
theorem outB_7 (hc0 : ¬cond0_0 i) :
    out0_B_7 c i arg2 harg2 arg3 harg3 arg4 harg4 arg5 harg5 arg6 harg6 arg7 harg7 arg8 harg8 arg9 harg9 arg10 harg10 arg11 harg11 hc0 x0 x1 x2 x3 x4 x5 x6 y
      = k0_pay2 y x4 := by
  unfold out0_B_7
  rw [View.read_writes_junk_eq_canon]
  have h : (kernelRun0_B c i arg2 harg2 arg3 harg3 arg4 harg4 arg5 harg5 arg6 harg6 arg7 harg7 arg8 harg8 arg9 harg9 arg10 harg10 arg11 harg11 hc0 x0 x1 x2 x3 x4 x5 x6 y).1
      = [⟨Rect.unit ![0, 0] S512x1024.size inb_S512x1024_S512x1024_0_0, k0_pay2
          (View.readAt (Elt F) arg11.view (Rect.unit ![0, 0] S512x2048.size inb_S512x2048_S512x2048_0_0).toLoadRect (harg11.unread y))
          (View.readAt (Elt F) arg6.view (Rect.unit ![0, 0] S2048x1024.size inb_S2048x1024_S2048x1024_0_0).toLoadRect (harg6.unread x4))⟩] := rfl
  rw [h, load_held arg11 harg11 off2, load_held arg6 harg6 off2]
  exact View.canon_cons_unit_zero off2 _ _ _

theorem outB_8 (hc0 : ¬cond0_0 i) :
    out0_B_8 c i arg2 harg2 arg3 harg3 arg4 harg4 arg5 harg5 arg6 harg6 arg7 harg7 arg8 harg8 arg9 harg9 arg10 harg10 arg11 harg11 hc0 x0 x1 x2 x3 x4 x5 x6 y
      = k0_pay3 y x5 x6 := by
  unfold out0_B_8
  rw [View.read_writes_junk_eq_canon]
  have h : (kernelRun0_B c i arg2 harg2 arg3 harg3 arg4 harg4 arg5 harg5 arg6 harg6 arg7 harg7 arg8 harg8 arg9 harg9 arg10 harg10 arg11 harg11 hc0 x0 x1 x2 x3 x4 x5 x6 y).2.1
      = [⟨Rect.unit ![0, 0] S512x1024.size inb_S512x1024_S512x1024_0_0, k0_pay3
          (View.readAt (Elt F) arg11.view (Rect.unit ![0, 0] S512x2048.size inb_S512x2048_S512x2048_0_0).toLoadRect (harg11.unread y))
          (View.readAt (Elt F) arg7.view (Rect.unit ![0, 0] S2048x1024.size inb_S2048x1024_S2048x1024_0_0).toLoadRect (harg7.unread x5))
          (View.readAt (Elt F) arg8.view (Rect.unit ![0, 0] S2048x1024.size inb_S2048x1024_S2048x1024_0_0).toLoadRect (harg8.unread x6))⟩] := rfl
  rw [h, load_held arg11 harg11 off2, load_held arg7 harg7 off2, load_held arg8 harg8 off2]
  exact View.canon_cons_unit_zero off2 _ _ _

end

/-! ## At an index, over the extended reals -/

theorem pay1_at (x : FVec Ideal S512x2048 .f32) (g : FVec Ideal S1x2048 .f32) (scale shift : FVec Ideal S1x1x1x1x2048 .f32)
    (i : Fin 512) (d : Fin 2048) :
    k0_pay1 (F := Ideal) x g scale shift (ix2 i d)
      = normOf (fun e => x (ix2 i e)) (fun e => g (ix2 0 e)) (fun e => scale (ix5 0 0 0 0 e)) (fun e => shift (ix5 0 0 0 0 e)) d := by
  unfold k0_pay1 normOf
  pointwise

theorem pay2_at (h : FVec Ideal S512x2048 .bf16) (w : FVec Ideal S2048x1024 .bf16) (i : Fin 512) (n : Fin 1024) :
    k0_pay2 (F := Ideal) h w (ix2 i n) = ∑ d : Fin 2048, h (ix2 i d) * w (ix2 d n) := by
  unfold k0_pay2
  pointwise [dot_S512x2048_S2048x1024_S512x1024_1_0_0_1_n_n]

theorem pay3_at (h : FVec Ideal S512x2048 .bf16) (v w : FVec Ideal S2048x1024 .bf16) (i : Fin 512) (n : Fin 1024) :
    k0_pay3 (F := Ideal) h v w (ix2 i n) = (∑ d : Fin 2048, h (ix2 i d) * v (ix2 d n)) * ∑ d : Fin 2048, h (ix2 i d) * w (ix2 d n) := by
  unfold k0_pay3
  pointwise [dot_S512x2048_S2048x1024_S512x1024_1_0_0_1_n_n]

end Cert.Proof.ConvIn

end
-- ==== Proof.ConvInArray.lean ====
/-
  The two arrays the short convolution's first projection leaves, on the rows of tokens: `normOf` of a token's row, of the gain
  and of the scale and shift the row is under, times the columns of the weights.
-/
module

public import proofs.«01_k».proof.Proof.ConvInBody
public import proofs.«01_k».proof.Proof.Gen.ConvInIdeal.Value
public import Idealize.ShloMosaic.Lib.Pipeline.ValueKit.Geometry

@[expose] public section

noncomputable section

namespace Cert.Proof.ConvIn

open Idealize.ShloMosaic Idealize.SL.Sem Cert.ConvInIdeal
open Cert.ConvInIdeal.Gen Idealize.ShloMosaic.TcCoe
open Cert.Proof.ConvInRef (normOf)

/-- The blocks' indices at a grid point: the rows of point `t` are block `t / 2`, under scale and shift `t / 16`, and the
    columns are block `t % 2` of each third of the weights. -/
theorem index0 : ∀ t : Fin cfg0.N, win0_0.index t = ![t.val / 2, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val / 16, 0, 0, 0] := (by decide +kernel : ∀ t : Fin grid0.N, _)
theorem index3 : ∀ t : Fin cfg0.N, win0_3.index t = ![0, t.val / 16, 1, 0, 0] := (by decide +kernel : ∀ t : Fin grid0.N, _)
theorem index4 : ∀ t : Fin cfg0.N, win0_4.index t = ![0, t.val % 2] := (by decide +kernel : ∀ t : Fin grid0.N, _)
theorem index5 : ∀ t : Fin cfg0.N, win0_5.index t = ![0, 2 + t.val % 2] := (by decide +kernel : ∀ t : Fin grid0.N, _)
theorem index6 : ∀ t : Fin cfg0.N, win0_6.index t = ![0, 4 + t.val % 2] := (by decide +kernel : ∀ t : Fin grid0.N, _)
theorem index7 : ∀ t : Fin cfg0.N, win0_7.index t = ![t.val / 2, t.val % 2] := (by decide +kernel : ∀ t : Fin grid0.N, _)
theorem index8 : ∀ t : Fin cfg0.N, win0_8.index t = ![t.val / 2, t.val % 2] := (by decide +kernel : ∀ t : Fin grid0.N, _)

theorem flush7 : ∀ t : Fin cfg0.N, (cfg0.win 7).flush t = true :=
  (by decide +kernel : ∀ t : Fin grid0.N, (cfg0.win 7).flush t = true)
theorem flush8 : ∀ t : Fin cfg0.N, (cfg0.win 8).flush t = true :=
  (by decide +kernel : ∀ t : Fin grid0.N, (cfg0.win 8).flush t = true)

section
variable {F : FTy → Type} [FloatOps F]
variable (m : (ℓ : Loc nD τ sig) → Buf (Elt F) ℓ) (c : Dev nD)

/-- The first grid point of a block of rows. -/
def firstPoint (t : Fin cfg0.N) : Fin cfg0.N := ⟨t.val - t.val % 2, Nat.lt_of_le_of_lt (Nat.sub_le _ _) t.isLt⟩

/-- The rows the scratch holds while point `t` runs. -/
def rowsAt (t : Fin cfg0.N) : FVec F S512x2048 .bf16 :=
  k0_pay1 (iblk m c 0 (firstPoint t)) (iblk m c 1 (firstPoint t)) (iblk m c 3 (firstPoint t)) (iblk m c 2 (firstPoint t))

theorem firstPoint_even (t : Fin cfg0.N) (h0 : t.val % 2 = 0) : firstPoint t = t :=
  Fin.ext (by show t.val - t.val % 2 = t.val; omega)

/-- What the point before an odd one left in the scratch. -/
theorem kept (t : Fin cfg0.N) (h0 : ¬t.val % 2 = 0) :
    (outsAt0 m c (t.val - 1) (Nat.lt_of_le_of_lt (Nat.sub_le _ _) t.isLt)).2.2 = rowsAt m c t := by
  have hp : (firstPoint t).val % 2 = 0 := by show (t.val - t.val % 2) % 2 = 0; omega
  have e : (⟨t.val - 1, Nat.lt_of_le_of_lt (Nat.sub_le _ _) t.isLt⟩ : Fin cfg0.N) = firstPoint t :=
    Fin.ext (by show t.val - 1 = t.val - t.val % 2; omega)
  have hs : outsAt0 m c (t.val - 1) (Nat.lt_of_le_of_lt (Nat.sub_le _ _) t.isLt) = outsAt0 m c (firstPoint t).val (firstPoint t).isLt := by
    congr 1
    exact congrArg Fin.val e
  rw [hs, outsAt0_A m c (firstPoint t) hp]
  dsimp only
  rw [scratchA]
  rfl

/-- What point `t` writes back of the first gate, -/
theorem flushed7_eq (t : Fin cfg0.N) :
    (dats m 0 c).flushed 7 t = (cfg0.win 7).cut (grid0.coords t) (k0_pay2 (rowsAt m c t) (iblk m c 4 t)) := by
  by_cases h0 : t.val % 2 = 0
  · rw [Value.flushed7_A m c t h0, outA_7]
    unfold rowsAt
    rw [firstPoint_even t h0]
  · rw [Value.flushed7_B m c t h0, outB_7, kept m c t h0]

/-- and of the gated values. -/
theorem flushed8_eq (t : Fin cfg0.N) :
    (dats m 0 c).flushed 8 t = (cfg0.win 8).cut (grid0.coords t) (k0_pay3 (rowsAt m c t) (iblk m c 5 t) (iblk m c 6 t)) := by
  by_cases h0 : t.val % 2 = 0
  · rw [Value.flushed8_A m c t h0, outA_8]
    unfold rowsAt
    rw [firstPoint_even t h0]
  · rw [Value.flushed8_B m c t h0, outB_8, kept m c t h0]

end

section
variable (m : (ℓ : Loc nD τ sig) → Buf (Elt Ideal) ℓ) (c : Dev nD)

/-- The blocks a point reads, as parts of the arguments. -/
theorem block0 (t : Fin cfg0.N) (i : Fin 512) (d : Fin 2048) :
    iblk m c 0 t (ix2 i d) = m ((c.tc : Thread nD τ).loc main_arg0)
      (ix2 ⟨t.val / 2 * 512 + i.val, by have := t.isLt; have : cfg0.N = 68 := N_0; omega⟩ d) := by
  blk_simp [iblk, V_main_arg0]
  blk_ext [index0]

/-- The gain under a leading unit axis is the gain. -/
theorem row_at (x : FVec Ideal S2048 .f32) (d : Fin 2048) :
    shapeCast S1x2048 x shapeCasts_S2048_S1x2048 (ix2 0 d) = x (ix1 d) := by
  pointwise

theorem gain_row : V m c main_v0 = shapeCast S1x2048 (m ((c.tc : Thread nD τ).loc main_arg1)) shapeCasts_S2048_S1x2048 := rfl

theorem block1 (t : Fin cfg0.N) (d : Fin 2048) :
    iblk m c 1 t (ix2 0 d) = m ((c.tc : Thread nD τ).loc main_arg1) (ix1 d) := by
  have e : iblk m c 1 t (ix2 0 d) = V m c main_v0 (ix2 0 d) := by
    blk_simp [iblk]
    blk_ext [index1]
  rw [e, gain_row]
  exact row_at _ d

theorem block2 (t : Fin cfg0.N) (d : Fin 2048) :
    iblk m c 2 t (ix5 0 0 0 0 d) = m ((c.tc : Thread nD τ).loc main_arg2)
      (ix5 0 ⟨t.val / 16, by have := t.isLt; have : cfg0.N = 68 := N_0; omega⟩ 0 0 d) := by
  blk_simp [iblk, V_main_arg2]
  blk_ext [index2]

theorem block3 (t : Fin cfg0.N) (d : Fin 2048) :
    iblk m c 3 t (ix5 0 0 0 0 d) = m ((c.tc : Thread nD τ).loc main_arg2)
      (ix5 0 ⟨t.val / 16, by have := t.isLt; have : cfg0.N = 68 := N_0; omega⟩ 1 0 d) := by
  blk_simp [iblk, V_main_arg2]
  blk_ext [index3]

/-- The weights, cast on the way in, are the argument. -/
theorem weights_eq (d : Fin 2048) (n : Fin 6144) :
    (V m c main_v1 (ix2 d n) : EReal) = m ((c.tc : Thread nD τ).loc main_arg3) (ix2 d n) := rfl

theorem block4 (t : Fin cfg0.N) (d : Fin 2048) (n : Fin 1024) :
    (iblk m c 4 t (ix2 d n) : EReal) = m ((c.tc : Thread nD τ).loc main_arg3) (ix2 d ⟨t.val % 2 * 1024 + n.val, by omega⟩) := by
  refine Eq.trans ?_ (weights_eq m c d ⟨t.val % 2 * 1024 + n.val, by omega⟩)
  blk_simp [iblk]
  blk_ext [index4]

theorem block5 (t : Fin cfg0.N) (d : Fin 2048) (n : Fin 1024) :
    (iblk m c 5 t (ix2 d n) : EReal) = m ((c.tc : Thread nD τ).loc main_arg3) (ix2 d ⟨(2 + t.val % 2) * 1024 + n.val, by omega⟩) := by
  refine Eq.trans ?_ (weights_eq m c d ⟨(2 + t.val % 2) * 1024 + n.val, by omega⟩)
  blk_simp [iblk]
  blk_ext [index5]

theorem block6 (t : Fin cfg0.N) (d : Fin 2048) (n : Fin 1024) :
    (iblk m c 6 t (ix2 d n) : EReal) = m ((c.tc : Thread nD τ).loc main_arg3) (ix2 d ⟨(4 + t.val % 2) * 1024 + n.val, by omega⟩) := by
  refine Eq.trans ?_ (weights_eq m c d ⟨(4 + t.val % 2) * 1024 + n.val, by omega⟩)
  blk_simp [iblk]
  blk_ext [index6]

/-- A token's row, normed and under its scale and shift, from the arguments. -/
def rowOf (xc : FVec Ideal S20480x2048 .f32) (g : FVec Ideal S2048 .f32) (mp : FVec Ideal S4x8x6x1x2048 .f32) (r : Fin 17408) :
    Fin 2048 → EReal :=
  normOf (fun e => xc (ix2 ⟨r.val, by omega⟩ e)) (fun e => g (ix1 e)) (fun e => mp (ix5 0 ⟨r.val / 4096, by omega⟩ 1 0 e))
    (fun e => mp (ix5 0 ⟨r.val / 4096, by omega⟩ 0 0 e))

/-- The grid point of a row and a column. -/
def pointOf (r : Fin 17408) (n : Fin 2048) : Fin cfg0.N :=
  ⟨r.val / 512 * 2 + n.val / 1024, by have : cfg0.N = 68 := N_0; omega⟩

theorem rowsAt_eq (r : Fin 17408) (n : Fin 2048) (d : Fin 2048) :
    (rowsAt m c (pointOf r n) (ix2 ⟨r.val % 512, by omega⟩ d) : EReal)
      = rowOf (m ((c.tc : Thread nD τ).loc main_arg0)) (m ((c.tc : Thread nD τ).loc main_arg1))
          (m ((c.tc : Thread nD τ).loc main_arg2)) r d := by
  have hp : (firstPoint (pointOf r n)).val = r.val / 512 * 2 := by
    show (r.val / 512 * 2 + n.val / 1024) - (r.val / 512 * 2 + n.val / 1024) % 2 = _
    omega
  unfold rowsAt rowOf
  refine (pay1_at _ _ _ _ _ d).trans ?_
  simp only [block0, block1, block2, block3]
  have h0 : (⟨(firstPoint (pointOf r n)).val / 2 * 512 + r.val % 512, by rw [hp]; omega⟩ : Fin 20480) = ⟨r.val, by omega⟩ :=
    Fin.ext (by simp only [hp]; omega)
  have h1 : (⟨(firstPoint (pointOf r n)).val / 16, by rw [hp]; omega⟩ : Fin 8) = ⟨r.val / 4096, by omega⟩ :=
    Fin.ext (by simp only [hp]; omega)
  rw [h0, h1]

/-- The arrays after the run, at a token's row. -/
theorem final7_at (r : Fin 17408) (n : Fin 2048) :
    ((dats m 0 c).arrAt 7 cfg0.N (ix2 ⟨r.val, by omega⟩ n) : EReal)
      = ∑ d : Fin 2048, rowOf (m ((c.tc : Thread nD τ).loc main_arg0)) (m ((c.tc : Thread nD τ).loc main_arg1))
          (m ((c.tc : Thread nD τ).loc main_arg2)) r d
          * (m ((c.tc : Thread nD τ).loc main_arg3) (ix2 d ⟨n.val, by omega⟩) : EReal) := by
  have hp : (pointOf r n).val = r.val / 512 * 2 + n.val / 1024 := rfl
  have he : (ix2 ⟨r.val, by omega⟩ n : S20480x2048.Idx)
      = ((cfg0.win 7).blk (pointOf r n)).view.emb (ix2 ⟨r.val % 512, by omega⟩ ⟨n.val % 1024, by omega⟩ : S512x1024.Idx) := by
    blk_ext [index7, hp]
  rw [he, (dats m 0 c).arrAt_emb_eq_flushed 7 Value.disjoint7 (pointOf r n) (flush7 _), flushed7_eq]
  refine (pay2_at _ _ ⟨r.val % 512, by omega⟩ ⟨n.val % 1024, by omega⟩).trans (Finset.sum_congr rfl fun d _ => ?_)
  rw [rowsAt_eq, block4]
  have h : (⟨(pointOf r n).val % 2 * 1024 + n.val % 1024, by rw [hp]; omega⟩ : Fin 6144) = ⟨n.val, by omega⟩ :=
    Fin.ext (by simp only [hp]; omega)
  rw [h]

theorem final8_at (r : Fin 17408) (n : Fin 2048) :
    ((dats m 0 c).arrAt 8 cfg0.N (ix2 ⟨r.val, by omega⟩ n) : EReal)
      = (∑ d : Fin 2048, rowOf (m ((c.tc : Thread nD τ).loc main_arg0)) (m ((c.tc : Thread nD τ).loc main_arg1))
          (m ((c.tc : Thread nD τ).loc main_arg2)) r d
          * (m ((c.tc : Thread nD τ).loc main_arg3) (ix2 d ⟨2048 + n.val, by omega⟩) : EReal))
        * ∑ d : Fin 2048, rowOf (m ((c.tc : Thread nD τ).loc main_arg0)) (m ((c.tc : Thread nD τ).loc main_arg1))
          (m ((c.tc : Thread nD τ).loc main_arg2)) r d
          * (m ((c.tc : Thread nD τ).loc main_arg3) (ix2 d ⟨4096 + n.val, by omega⟩) : EReal) := by
  have hp : (pointOf r n).val = r.val / 512 * 2 + n.val / 1024 := rfl
  have he : (ix2 ⟨r.val, by omega⟩ n : S20480x2048.Idx)
      = ((cfg0.win 8).blk (pointOf r n)).view.emb (ix2 ⟨r.val % 512, by omega⟩ ⟨n.val % 1024, by omega⟩ : S512x1024.Idx) := by
    blk_ext [index8, hp]
  rw [he, (dats m 0 c).arrAt_emb_eq_flushed 8 Value.disjoint8 (pointOf r n) (flush8 _), flushed8_eq]
  refine (pay3_at _ _ _ ⟨r.val % 512, by omega⟩ ⟨n.val % 1024, by omega⟩).trans
    (congrArg₂ (· * ·) (Finset.sum_congr rfl fun d _ => ?_) (Finset.sum_congr rfl fun d _ => ?_))
  · rw [rowsAt_eq, block5]
    have h : (⟨(2 + (pointOf r n).val % 2) * 1024 + n.val % 1024, by rw [hp]; omega⟩ : Fin 6144) = ⟨2048 + n.val, by omega⟩ :=
      Fin.ext (by simp only [hp]; omega)
    rw [h]
  · rw [rowsAt_eq, block6]
    have h : (⟨(4 + (pointOf r n).val % 2) * 1024 + n.val % 1024, by rw [hp]; omega⟩ : Fin 6144) = ⟨4096 + n.val, by omega⟩ :=
      Fin.ext (by simp only [hp]; omega)
    rw [h]

end

end Cert.Proof.ConvIn

end
-- ==== Proof.ConvIn.lean ====
/-
  The claims about the short convolution's first projection: the reference's frame, and that kernel and reference end with
  the same two arrays on the rows of tokens.
-/
module

public import proofs.«01_k».proof.Proof.ConvInArray
public import proofs.«01_k».proof.Defs
public import Idealize.ShloMosaic.Lib.Claim

@[expose] public section

noncomputable section

namespace Cert.Proof.ConvIn

open Idealize.ShloMosaic
open Cert.Proof.ConvInRef (gate gated projected rows gate_at gated_at projected_at rows_at)

theorem frame_ri : Cert.quiescent_ConvInRefIdeal (hConvInRefIdeal := Cert.ConvInRefIdeal.Gen.facts) := fun m ρ _ =>
  (θ_run Cert.ConvInRefIdeal.defs _ _).mono (fun r h => ⟨fun c => (h c).2.2, sem_eq_zero_of_no_sems (by decide) r.2⟩)
    (Cert.ConvInRefIdeal.Value.run (F := Ideal) m ρ)

theorem on_facts : Cert.On_token_rows.Facts := ⟨by decide⟩

/-- The mask holds on the rows of tokens alone. -/
theorem row_lt [Cert.On_token_rows.Facts] (xc : FVec Ideal Cert.On_token_rows.S20480x2048 .f32)
    (g : FVec Ideal Cert.On_token_rows.S2048 .f32) (mp : FVec Ideal Cert.On_token_rows.S4x8x6x1x2048 .f32)
    (w : FVec Ideal Cert.On_token_rows.S2048x6144 .f32) (i : Fin 20480) (x : Fin 2048)
    (h : (Cert.On_token_rows.fn (F := Ideal) xc g mp w).1 (ix2 i x) = 1#1) : i.val < 17408 := by
  by_contra hn
  have : (Cert.On_token_rows.fn (F := Ideal) xc g mp w).1 (ix2 i x) = IntOp.cmpi .slt (BitVec.ofNat 32 i.val) 17408#32 := by
    unfold Cert.On_token_rows.fn
    pointwise
  rw [this] at h
  have hi : (BitVec.ofNat 32 i.val).toInt = i.val := by
    rw [BitVec.toInt_eq_toNat_of_lt (by rw [BitVec.toNat_ofNat]; omega), BitVec.toNat_ofNat]
    omega
  have h2 : ¬ (BitVec.ofNat 32 i.val).toInt < 17408 := by omega
  simp [IntOp.cmpi, BitVec.slt, h2] at h

section
variable (m : (ℓ : Loc Cert.ConvInIdeal.nD Cert.ConvInIdeal.τ Cert.ConvInIdeal.sig) → Buf (Elt Ideal) ℓ)
  (c : Dev Cert.ConvInIdeal.nD)

/-- The reference's projection of the kernel's arguments. -/
def projectedOf : FVec Ideal Cert.ConvInRefIdeal.S17408x6144 .f32 :=
  projected (rows (m ((c.tc : Thread Cert.ConvInIdeal.nD Cert.ConvInIdeal.τ).loc Cert.ConvInIdeal.main_arg0))
      (m ((c.tc : Thread Cert.ConvInIdeal.nD Cert.ConvInIdeal.τ).loc Cert.ConvInIdeal.main_arg1))
      (m ((c.tc : Thread Cert.ConvInIdeal.nD Cert.ConvInIdeal.τ).loc Cert.ConvInIdeal.main_arg2)))
    (m ((c.tc : Thread Cert.ConvInIdeal.nD Cert.ConvInIdeal.τ).loc Cert.ConvInIdeal.main_arg3))

theorem projectedOf_at (r : Fin 17408) (n : Fin 6144) :
    projectedOf m c (ix2 r n)
      = ∑ d : Fin 2048, rowOf (m ((c.tc : Thread Cert.ConvInIdeal.nD Cert.ConvInIdeal.τ).loc Cert.ConvInIdeal.main_arg0))
          (m ((c.tc : Thread Cert.ConvInIdeal.nD Cert.ConvInIdeal.τ).loc Cert.ConvInIdeal.main_arg1))
          (m ((c.tc : Thread Cert.ConvInIdeal.nD Cert.ConvInIdeal.τ).loc Cert.ConvInIdeal.main_arg2)) r d
          * (m ((c.tc : Thread Cert.ConvInIdeal.nD Cert.ConvInIdeal.τ).loc Cert.ConvInIdeal.main_arg3) (ix2 d n) : EReal) := by
  refine (projected_at _ _ r n).trans (Finset.sum_congr rfl fun d _ => ?_)
  exact congrArg (fun h : EReal => h * _) (rows_at _ _ _ r d)

/-- On the rows of tokens the kernel's arrays are the reference's. -/
theorem gate_eq (i : Fin 20480) (n : Fin 2048) (hi : i.val < 17408) :
    ((Cert.ConvInIdeal.Gen.dats m 0 c).arrAt 7 Cert.ConvInIdeal.cfg0.N (ix2 i n) : EReal) = gate (projectedOf m c) (ix2 i n) :=
  (final7_at m c ⟨i.val, hi⟩ n).trans
    ((projectedOf_at m c ⟨i.val, hi⟩ ⟨n.val, by omega⟩).symm.trans (gate_at _ ⟨i.val, hi⟩ n).symm)

theorem gated_eq (i : Fin 20480) (n : Fin 2048) (hi : i.val < 17408) :
    ((Cert.ConvInIdeal.Gen.dats m 0 c).arrAt 8 Cert.ConvInIdeal.cfg0.N (ix2 i n) : EReal) = gated (projectedOf m c) (ix2 i n) :=
  (final8_at m c ⟨i.val, hi⟩ n).trans
    ((congrArg₂ (fun a b : EReal => a * b) (projectedOf_at m c ⟨i.val, hi⟩ ⟨2048 + n.val, by omega⟩)
      (projectedOf_at m c ⟨i.val, hi⟩ ⟨4096 + n.val, by omega⟩)).symm.trans (gated_at _ ⟨i.val, hi⟩ n).symm)

end

theorem algebraic : Cert.algebraic_ConvInIdeal_ConvInRefIdeal_on_token_rows
    (hConvInIdeal := Cert.ConvInIdeal.Gen.facts) (hConvInRefIdeal := Cert.ConvInRefIdeal.Gen.facts)
    (hOn_token_rows := on_facts) := by
  intro m g m' g' _ hagree
  refine ⟨fun c => (Cert.ConvInIdeal.Gen.dats m 0 c).arrAt 7 Cert.ConvInIdeal.cfg0.N,
    fun c => (Cert.ConvInIdeal.Gen.dats m 0 c).arrAt 8 Cert.ConvInIdeal.cfg0.N, ?_, ?_⟩
  · exact (θ_run Cert.ConvInIdeal.defs _ _).mono
      (fun r h c => ⟨fun i _ => congrFun (h c).1 i, fun i _ => congrFun (h c).2.1 i, (h c).2.2⟩)
      (Cert.ConvInIdeal.Value.run_blocks (F := Ideal) m g)
  · letI := on_facts
    refine (θ_run Cert.ConvInRefIdeal.defs _ _).mono
      (fun r h c => ⟨fun i hi => (congrFun (h c).1 i).trans ?_, fun i hi => (congrFun (h c).2.1 i).trans ?_, (h c).2.2⟩)
      (Cert.Proof.ConvInRef.run (F := Ideal) m' g')
    all_goals
      obtain ⟨x, y, rfl⟩ : ∃ (x : Fin 20480) (y : Fin 2048), i = ix2 x y := ⟨i 0, i 1, by funext a; fin_cases a <;> rfl⟩
      obtain ⟨h0, h1, h2, h3⟩ := hagree c
      rw [h0, h1, h2, h3]
    · exact (gate_eq m c x y (row_lt _ _ _ _ x y hi)).symm
    · exact (gated_eq m c x y (row_lt (m ((c.tc : Thread Cert.ConvInIdeal.nD Cert.ConvInIdeal.τ).loc Cert.ConvInIdeal.main_arg0))
        (m ((c.tc : Thread Cert.ConvInIdeal.nD Cert.ConvInIdeal.τ).loc Cert.ConvInIdeal.main_arg1))
        (m ((c.tc : Thread Cert.ConvInIdeal.nD Cert.ConvInIdeal.τ).loc Cert.ConvInIdeal.main_arg2))
        (m ((c.tc : Thread Cert.ConvInIdeal.nD Cert.ConvInIdeal.τ).loc Cert.ConvInIdeal.main_arg3)) x y hi)).symm

end Cert.Proof.ConvIn

end
-- ==== Proof.ConvLastBody.lean ====
/-
  What one grid point of the last short convolution's first projection stores: the rows it norms (or finds normed in its
  scratch) times the weights' blocks.
-/
module

public import proofs.«01_k».proof.Proof.ConvInBody
public import proofs.«01_k».proof.Proof.Gen.ConvLastIdeal.Frame

@[expose] public section

noncomputable section

namespace Cert.Proof.ConvLast

open Idealize.ShloMosaic Idealize.SL.Sem Cert.ConvLastIdeal
open Cert.ConvLastIdeal.Gen Idealize.ShloMosaic.TcCoe
open Cert.Proof.ConvInRef (normOf)
open Cert.Proof.Loads (load_held load_stored off2 off5)

section
variable {F : FTy → Type} [FloatOps F]

variable (c : Dev nD) (i : grid0.Coords) (arg2 : Memref sig .tc .vmem S512x2048 .f32) (harg2 : arg2.IsWhole)
    (arg3 : Memref sig .tc .vmem S1x2048 .f32) (harg3 : arg3.IsWhole)
    (arg4 : Memref sig .tc .vmem S1x1x1x1x2048 .f32) (harg4 : arg4.IsWhole)
    (arg5 : Memref sig .tc .vmem S1x1x1x1x2048 .f32) (harg5 : arg5.IsWhole)
    (arg6 : Memref sig .tc .vmem S2048x1024 .bf16) (harg6 : arg6.IsWhole)
    (arg7 : Memref sig .tc .vmem S2048x1024 .bf16) (harg7 : arg7.IsWhole)
    (arg8 : Memref sig .tc .vmem S2048x1024 .bf16) (harg8 : arg8.IsWhole)
    (arg9 : Memref sig .tc .vmem S512x1024 .bf16) (harg9 : arg9.IsWhole)
    (arg10 : Memref sig .tc .vmem S512x1024 .bf16) (harg10 : arg10.IsWhole)
    (arg11 : Memref sig .tc .vmem S512x2048 .bf16) (harg11 : arg11.IsWhole)
    (x0 : Vec F S512x2048 .f32) (x1 : Vec F S1x2048 .f32) (x2 : Vec F S1x1x1x1x2048 .f32) (x3 : Vec F S1x1x1x1x2048 .f32)
    (x4 : Vec F S2048x1024 .bf16) (x5 : Vec F S2048x1024 .bf16) (x6 : Vec F S2048x1024 .bf16) (y : Vec F S512x2048 .bf16)

/-- A grid point that norms its rows leaves them in the scratch, -/
theorem scratchA (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6
      = k0_pay1 x0 x1 x3 x2 := by
  unfold sout0_A_0
  rw [View.read_writes_junk_eq_canon]
  have h : (kernelRun0_A c i arg2 harg2 arg3 harg3 arg4 harg4 arg5 harg5 arg6 harg6 arg7 harg7 arg8 harg8 arg9 harg9 arg10 harg10 arg11 harg11 hc0 x0 x1 x2 x3 x4 x5 x6).2.2.1
      = [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩] := rfl
  rw [h, load_held arg2 harg2 off2, load_held arg3 harg3 off2, load_held arg4 harg4 off5, load_held arg5 harg5 off5]
  exact View.canon_cons_unit_zero off2 _ _ _

/-- stores their product with the first block of the weights, -/
theorem outA_7 (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay2 (k0_pay1 x0 x1 x3 x2) x4 := by
  unfold out0_A_7
  rw [View.read_writes_junk_eq_canon]
  have h : (kernelRun0_A c i arg2 harg2 arg3 harg3 arg4 harg4 arg5 harg5 arg6 harg6 arg7 harg7 arg8 harg8 arg9 harg9 arg10 harg10 arg11 harg11 hc0 x0 x1 x2 x3 x4 x5 x6).1
      = [⟨Rect.unit ![0, 0] S512x1024.size inb_S512x1024_S512x1024_0_0, k0_pay2
          (arg11.view.readCov [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩]
            (Rect.unit ![0, 0] S512x2048.size inb_S512x2048_S512x2048_0_0).toLoadRect)
          (View.readAt (Elt F) arg6.view (Rect.unit ![0, 0] S2048x1024.size inb_S2048x1024_S2048x1024_0_0).toLoadRect (harg6.unread x4))⟩] := rfl
  rw [h, load_held arg2 harg2 off2, load_held arg3 harg3 off2, load_held arg4 harg4 off5, load_held arg5 harg5 off5,
    load_held arg6 harg6 off2, load_stored _ off2]
  exact View.canon_cons_unit_zero off2 _ _ _

/-- and the product of their products with the two others; -/
theorem outA_8 (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6
      = k0_pay3 (k0_pay1 x0 x1 x3 x2) x5 x6 := by
  unfold out0_A_8
  rw [View.read_writes_junk_eq_canon]
  have h : (kernelRun0_A c i arg2 harg2 arg3 harg3 arg4 harg4 arg5 harg5 arg6 harg6 arg7 harg7 arg8 harg8 arg9 harg9 arg10 harg10 arg11 harg11 hc0 x0 x1 x2 x3 x4 x5 x6).2.1
      = [⟨Rect.unit ![0, 0] S512x1024.size inb_S512x1024_S512x1024_0_0, k0_pay3
          (arg11.view.readCov [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩]
            (Rect.unit ![0, 0] S512x2048.size inb_S512x2048_S512x2048_0_0).toLoadRect)
          (View.readAt (Elt F) arg7.view (Rect.unit ![0, 0] S2048x1024.size inb_S2048x1024_S2048x1024_0_0).toLoadRect (harg7.unread x5))
          (View.readAt (Elt F) arg8.view (Rect.unit ![0, 0] S2048x1024.size inb_S2048x1024_S2048x1024_0_0).toLoadRect (harg8.unread x6))⟩] := rfl
  rw [h, load_held arg2 harg2 off2, load_held arg3 harg3 off2, load_held arg4 harg4 off5, load_held arg5 harg5 off5,
    load_held arg7 harg7 off2, load_held arg8 harg8 off2, load_stored _ off2]
  exact View.canon_cons_unit_zero off2 _ _ _

/-- a grid point that finds normed rows in its scratch stores the same of them. -/
theorem outB_7 (hc0 : ¬cond0_0 i) :
    out0_B_7 c i arg2 harg2 arg3 harg3 arg4 harg4 arg5 harg5 arg6 harg6 arg7 harg7 arg8 harg8 arg9 harg9 arg10 harg10 arg11 harg11 hc0 x0 x1 x2 x3 x4 x5 x6 y
      = k0_pay2 y x4 := by
  unfold out0_B_7
  rw [View.read_writes_junk_eq_canon]
  have h : (kernelRun0_B c i arg2 harg2 arg3 harg3 arg4 harg4 arg5 harg5 arg6 harg6 arg7 harg7 arg8 harg8 arg9 harg9 arg10 harg10 arg11 harg11 hc0 x0 x1 x2 x3 x4 x5 x6 y).1
      = [⟨Rect.unit ![0, 0] S512x1024.size inb_S512x1024_S512x1024_0_0, k0_pay2
          (View.readAt (Elt F) arg11.view (Rect.unit ![0, 0] S512x2048.size inb_S512x2048_S512x2048_0_0).toLoadRect (harg11.unread y))
          (View.readAt (Elt F) arg6.view (Rect.unit ![0, 0] S2048x1024.size inb_S2048x1024_S2048x1024_0_0).toLoadRect (harg6.unread x4))⟩] := rfl
  rw [h, load_held arg11 harg11 off2, load_held arg6 harg6 off2]
  exact View.canon_cons_unit_zero off2 _ _ _

theorem outB_8 (hc0 : ¬cond0_0 i) :
    out0_B_8 c i arg2 harg2 arg3 harg3 arg4 harg4 arg5 harg5 arg6 harg6 arg7 harg7 arg8 harg8 arg9 harg9 arg10 harg10 arg11 harg11 hc0 x0 x1 x2 x3 x4 x5 x6 y
      = k0_pay3 y x5 x6 := by
  unfold out0_B_8
  rw [View.read_writes_junk_eq_canon]
  have h : (kernelRun0_B c i arg2 harg2 arg3 harg3 arg4 harg4 arg5 harg5 arg6 harg6 arg7 harg7 arg8 harg8 arg9 harg9 arg10 harg10 arg11 harg11 hc0 x0 x1 x2 x3 x4 x5 x6 y).2.1
      = [⟨Rect.unit ![0, 0] S512x1024.size inb_S512x1024_S512x1024_0_0, k0_pay3
          (View.readAt (Elt F) arg11.view (Rect.unit ![0, 0] S512x2048.size inb_S512x2048_S512x2048_0_0).toLoadRect (harg11.unread y))
          (View.readAt (Elt F) arg7.view (Rect.unit ![0, 0] S2048x1024.size inb_S2048x1024_S2048x1024_0_0).toLoadRect (harg7.unread x5))
          (View.readAt (Elt F) arg8.view (Rect.unit ![0, 0] S2048x1024.size inb_S2048x1024_S2048x1024_0_0).toLoadRect (harg8.unread x6))⟩] := rfl
  rw [h, load_held arg11 harg11 off2, load_held arg7 harg7 off2, load_held arg8 harg8 off2]
  exact View.canon_cons_unit_zero off2 _ _ _

end

/-! ## At an index, over the extended reals -/

theorem pay1_at (x : FVec Ideal S512x2048 .f32) (g : FVec Ideal S1x2048 .f32) (scale shift : FVec Ideal S1x1x1x1x2048 .f32)
    (i : Fin 512) (d : Fin 2048) :
    k0_pay1 (F := Ideal) x g scale shift (ix2 i d)
      = normOf (fun e => x (ix2 i e)) (fun e => g (ix2 0 e)) (fun e => scale (ix5 0 0 0 0 e)) (fun e => shift (ix5 0 0 0 0 e)) d :=
  Cert.Proof.ConvIn.pay1_at x g scale shift i d

theorem pay2_at (h : FVec Ideal S512x2048 .bf16) (w : FVec Ideal S2048x1024 .bf16) (i : Fin 512) (n : Fin 1024) :
    k0_pay2 (F := Ideal) h w (ix2 i n) = ∑ d : Fin 2048, h (ix2 i d) * w (ix2 d n) :=
  Cert.Proof.ConvIn.pay2_at h w i n

theorem pay3_at (h : FVec Ideal S512x2048 .bf16) (v w : FVec Ideal S2048x1024 .bf16) (i : Fin 512) (n : Fin 1024) :
    k0_pay3 (F := Ideal) h v w (ix2 i n) = (∑ d : Fin 2048, h (ix2 i d) * v (ix2 d n)) * ∑ d : Fin 2048, h (ix2 i d) * w (ix2 d n) :=
  Cert.Proof.ConvIn.pay3_at h v w i n

end Cert.Proof.ConvLast

end
-- ==== Proof.ConvLastArray.lean ====
/-
  The two arrays the last short convolution's first projection leaves, on the latents' rows: `normOf` of a latent's row, of the gain
  and of the scale and shift the row is under, times the columns of the weights.
-/
module

public import proofs.«01_k».proof.Proof.ConvLastBody
public import proofs.«01_k».proof.Proof.Gen.ConvLastIdeal.Value
public import Idealize.ShloMosaic.Lib.Pipeline.ValueKit.Geometry

@[expose] public section

noncomputable section

namespace Cert.Proof.ConvLast

open Idealize.ShloMosaic Idealize.SL.Sem Cert.ConvLastIdeal
open Cert.ConvLastIdeal.Gen Idealize.ShloMosaic.TcCoe
open Cert.Proof.ConvInRef (normOf)

/-- The blocks' indices at a grid point: the rows of point `t` are block `t / 2`, under scale and shift `t / 16`, and the
    columns are block `t % 2` of each third of the weights. -/
theorem index0 : ∀ t : Fin cfg0.N, win0_0.index t = ![t.val / 2, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![3, t.val / 16, 0, 0, 0] := (by decide +kernel : ∀ t : Fin grid0.N, _)
theorem index3 : ∀ t : Fin cfg0.N, win0_3.index t = ![3, t.val / 16, 1, 0, 0] := (by decide +kernel : ∀ t : Fin grid0.N, _)
theorem index4 : ∀ t : Fin cfg0.N, win0_4.index t = ![0, t.val % 2] := (by decide +kernel : ∀ t : Fin grid0.N, _)
theorem index5 : ∀ t : Fin cfg0.N, win0_5.index t = ![0, 2 + t.val % 2] := (by decide +kernel : ∀ t : Fin grid0.N, _)
theorem index6 : ∀ t : Fin cfg0.N, win0_6.index t = ![0, 4 + t.val % 2] := (by decide +kernel : ∀ t : Fin grid0.N, _)
theorem index7 : ∀ t : Fin cfg0.N, win0_7.index t = ![t.val / 2, t.val % 2] := (by decide +kernel : ∀ t : Fin grid0.N, _)
theorem index8 : ∀ t : Fin cfg0.N, win0_8.index t = ![t.val / 2, t.val % 2] := (by decide +kernel : ∀ t : Fin grid0.N, _)

theorem flush7 : ∀ t : Fin cfg0.N, (cfg0.win 7).flush t = true :=
  (by decide +kernel : ∀ t : Fin grid0.N, (cfg0.win 7).flush t = true)
theorem flush8 : ∀ t : Fin cfg0.N, (cfg0.win 8).flush t = true :=
  (by decide +kernel : ∀ t : Fin grid0.N, (cfg0.win 8).flush t = true)

section
variable {F : FTy → Type} [FloatOps F]
variable (m : (ℓ : Loc nD τ sig) → Buf (Elt F) ℓ) (c : Dev nD)

/-- The first grid point of a block of rows. -/
def firstPoint (t : Fin cfg0.N) : Fin cfg0.N := ⟨t.val - t.val % 2, Nat.lt_of_le_of_lt (Nat.sub_le _ _) t.isLt⟩

/-- The rows the scratch holds while point `t` runs. -/
def rowsAt (t : Fin cfg0.N) : FVec F S512x2048 .bf16 :=
  k0_pay1 (iblk m c 0 (firstPoint t)) (iblk m c 1 (firstPoint t)) (iblk m c 3 (firstPoint t)) (iblk m c 2 (firstPoint t))

theorem firstPoint_even (t : Fin cfg0.N) (h0 : t.val % 2 = 0) : firstPoint t = t :=
  Fin.ext (by show t.val - t.val % 2 = t.val; omega)

/-- What the point before an odd one left in the scratch. -/
theorem kept (t : Fin cfg0.N) (h0 : ¬t.val % 2 = 0) :
    (outsAt0 m c (t.val - 1) (Nat.lt_of_le_of_lt (Nat.sub_le _ _) t.isLt)).2.2 = rowsAt m c t := by
  have hp : (firstPoint t).val % 2 = 0 := by show (t.val - t.val % 2) % 2 = 0; omega
  have e : (⟨t.val - 1, Nat.lt_of_le_of_lt (Nat.sub_le _ _) t.isLt⟩ : Fin cfg0.N) = firstPoint t :=
    Fin.ext (by show t.val - 1 = t.val - t.val % 2; omega)
  have hs : outsAt0 m c (t.val - 1) (Nat.lt_of_le_of_lt (Nat.sub_le _ _) t.isLt) = outsAt0 m c (firstPoint t).val (firstPoint t).isLt := by
    congr 1
    exact congrArg Fin.val e
  rw [hs, outsAt0_A m c (firstPoint t) hp]
  dsimp only
  rw [scratchA]
  rfl

/-- What point `t` writes back of the first gate, -/
theorem flushed7_eq (t : Fin cfg0.N) :
    (dats m 0 c).flushed 7 t = (cfg0.win 7).cut (grid0.coords t) (k0_pay2 (rowsAt m c t) (iblk m c 4 t)) := by
  by_cases h0 : t.val % 2 = 0
  · rw [Value.flushed7_A m c t h0, outA_7]
    unfold rowsAt
    rw [firstPoint_even t h0]
  · rw [Value.flushed7_B m c t h0, outB_7, kept m c t h0]

/-- and of the gated values. -/
theorem flushed8_eq (t : Fin cfg0.N) :
    (dats m 0 c).flushed 8 t = (cfg0.win 8).cut (grid0.coords t) (k0_pay3 (rowsAt m c t) (iblk m c 5 t) (iblk m c 6 t)) := by
  by_cases h0 : t.val % 2 = 0
  · rw [Value.flushed8_A m c t h0, outA_8]
    unfold rowsAt
    rw [firstPoint_even t h0]
  · rw [Value.flushed8_B m c t h0, outB_8, kept m c t h0]

end

section
variable (m : (ℓ : Loc nD τ sig) → Buf (Elt Ideal) ℓ) (c : Dev nD)

/-- The blocks a point reads, as parts of the arguments. -/
theorem block0 (t : Fin cfg0.N) (i : Fin 512) (d : Fin 2048) :
    iblk m c 0 t (ix2 i d) = m ((c.tc : Thread nD τ).loc main_arg0)
      (ix2 ⟨t.val / 2 * 512 + i.val, by have := t.isLt; have : cfg0.N = 64 := N_0; omega⟩ d) := by
  blk_simp [iblk, V_main_arg0]
  blk_ext [index0]

/-- The gain under a leading unit axis is the gain. -/
theorem row_at (x : FVec Ideal S2048 .f32) (d : Fin 2048) :
    shapeCast S1x2048 x shapeCasts_S2048_S1x2048 (ix2 0 d) = x (ix1 d) := by
  pointwise

theorem gain_row : V m c main_v0 = shapeCast S1x2048 (m ((c.tc : Thread nD τ).loc main_arg1)) shapeCasts_S2048_S1x2048 := rfl

theorem block1 (t : Fin cfg0.N) (d : Fin 2048) :
    iblk m c 1 t (ix2 0 d) = m ((c.tc : Thread nD τ).loc main_arg1) (ix1 d) := by
  have e : iblk m c 1 t (ix2 0 d) = V m c main_v0 (ix2 0 d) := by
    blk_simp [iblk]
    blk_ext [index1]
  rw [e, gain_row]
  exact row_at _ d

theorem block2 (t : Fin cfg0.N) (d : Fin 2048) :
    iblk m c 2 t (ix5 0 0 0 0 d) = m ((c.tc : Thread nD τ).loc main_arg2)
      (ix5 3 ⟨t.val / 16, by have := t.isLt; have : cfg0.N = 64 := N_0; omega⟩ 0 0 d) := by
  blk_simp [iblk, V_main_arg2]
  blk_ext [index2]

theorem block3 (t : Fin cfg0.N) (d : Fin 2048) :
    iblk m c 3 t (ix5 0 0 0 0 d) = m ((c.tc : Thread nD τ).loc main_arg2)
      (ix5 3 ⟨t.val / 16, by have := t.isLt; have : cfg0.N = 64 := N_0; omega⟩ 1 0 d) := by
  blk_simp [iblk, V_main_arg2]
  blk_ext [index3]

/-- The weights, cast on the way in, are the argument. -/
theorem weights_eq (d : Fin 2048) (n : Fin 6144) :
    (V m c main_v1 (ix2 d n) : EReal) = m ((c.tc : Thread nD τ).loc main_arg3) (ix2 d n) := rfl

theorem block4 (t : Fin cfg0.N) (d : Fin 2048) (n : Fin 1024) :
    (iblk m c 4 t (ix2 d n) : EReal) = m ((c.tc : Thread nD τ).loc main_arg3) (ix2 d ⟨t.val % 2 * 1024 + n.val, by omega⟩) := by
  refine Eq.trans ?_ (weights_eq m c d ⟨t.val % 2 * 1024 + n.val, by omega⟩)
  blk_simp [iblk]
  blk_ext [index4]

theorem block5 (t : Fin cfg0.N) (d : Fin 2048) (n : Fin 1024) :
    (iblk m c 5 t (ix2 d n) : EReal) = m ((c.tc : Thread nD τ).loc main_arg3) (ix2 d ⟨(2 + t.val % 2) * 1024 + n.val, by omega⟩) := by
  refine Eq.trans ?_ (weights_eq m c d ⟨(2 + t.val % 2) * 1024 + n.val, by omega⟩)
  blk_simp [iblk]
  blk_ext [index5]

theorem block6 (t : Fin cfg0.N) (d : Fin 2048) (n : Fin 1024) :
    (iblk m c 6 t (ix2 d n) : EReal) = m ((c.tc : Thread nD τ).loc main_arg3) (ix2 d ⟨(4 + t.val % 2) * 1024 + n.val, by omega⟩) := by
  refine Eq.trans ?_ (weights_eq m c d ⟨(4 + t.val % 2) * 1024 + n.val, by omega⟩)
  blk_simp [iblk]
  blk_ext [index6]

/-- A latent's row, normed and under its scale and shift, from the arguments. -/
def rowOf (xc : FVec Ideal S20480x2048 .f32) (g : FVec Ideal S2048 .f32) (mp : FVec Ideal S4x8x6x1x2048 .f32) (r : Fin 16384) :
    Fin 2048 → EReal :=
  normOf (fun e => xc (ix2 ⟨r.val, by omega⟩ e)) (fun e => g (ix1 e)) (fun e => mp (ix5 3 ⟨r.val / 4096, by omega⟩ 1 0 e))
    (fun e => mp (ix5 3 ⟨r.val / 4096, by omega⟩ 0 0 e))

/-- The grid point of a row and a column. -/
def pointOf (r : Fin 16384) (n : Fin 2048) : Fin cfg0.N :=
  ⟨r.val / 512 * 2 + n.val / 1024, by have : cfg0.N = 64 := N_0; omega⟩

theorem rowsAt_eq (r : Fin 16384) (n : Fin 2048) (d : Fin 2048) :
    (rowsAt m c (pointOf r n) (ix2 ⟨r.val % 512, by omega⟩ d) : EReal)
      = rowOf (m ((c.tc : Thread nD τ).loc main_arg0)) (m ((c.tc : Thread nD τ).loc main_arg1))
          (m ((c.tc : Thread nD τ).loc main_arg2)) r d := by
  have hp : (firstPoint (pointOf r n)).val = r.val / 512 * 2 := by
    show (r.val / 512 * 2 + n.val / 1024) - (r.val / 512 * 2 + n.val / 1024) % 2 = _
    omega
  unfold rowsAt rowOf
  refine (pay1_at _ _ _ _ _ d).trans ?_
  simp only [block0, block1, block2, block3]
  have h0 : (⟨(firstPoint (pointOf r n)).val / 2 * 512 + r.val % 512, by rw [hp]; omega⟩ : Fin 20480) = ⟨r.val, by omega⟩ :=
    Fin.ext (by simp only [hp]; omega)
  have h1 : (⟨(firstPoint (pointOf r n)).val / 16, by rw [hp]; omega⟩ : Fin 8) = ⟨r.val / 4096, by omega⟩ :=
    Fin.ext (by simp only [hp]; omega)
  rw [h0, h1]

/-- The arrays after the run, at a latent's row. -/
theorem final7_at (r : Fin 16384) (n : Fin 2048) :
    ((dats m 0 c).arrAt 7 cfg0.N (ix2 ⟨r.val, by omega⟩ n) : EReal)
      = ∑ d : Fin 2048, rowOf (m ((c.tc : Thread nD τ).loc main_arg0)) (m ((c.tc : Thread nD τ).loc main_arg1))
          (m ((c.tc : Thread nD τ).loc main_arg2)) r d
          * (m ((c.tc : Thread nD τ).loc main_arg3) (ix2 d ⟨n.val, by omega⟩) : EReal) := by
  have hp : (pointOf r n).val = r.val / 512 * 2 + n.val / 1024 := rfl
  have he : (ix2 ⟨r.val, by omega⟩ n : S20480x2048.Idx)
      = ((cfg0.win 7).blk (pointOf r n)).view.emb (ix2 ⟨r.val % 512, by omega⟩ ⟨n.val % 1024, by omega⟩ : S512x1024.Idx) := by
    blk_ext [index7, hp]
  rw [he, (dats m 0 c).arrAt_emb_eq_flushed 7 Value.disjoint7 (pointOf r n) (flush7 _), flushed7_eq]
  refine (pay2_at _ _ ⟨r.val % 512, by omega⟩ ⟨n.val % 1024, by omega⟩).trans (Finset.sum_congr rfl fun d _ => ?_)
  rw [rowsAt_eq, block4]
  have h : (⟨(pointOf r n).val % 2 * 1024 + n.val % 1024, by rw [hp]; omega⟩ : Fin 6144) = ⟨n.val, by omega⟩ :=
    Fin.ext (by simp only [hp]; omega)
  rw [h]

theorem final8_at (r : Fin 16384) (n : Fin 2048) :
    ((dats m 0 c).arrAt 8 cfg0.N (ix2 ⟨r.val, by omega⟩ n) : EReal)
      = (∑ d : Fin 2048, rowOf (m ((c.tc : Thread nD τ).loc main_arg0)) (m ((c.tc : Thread nD τ).loc main_arg1))
          (m ((c.tc : Thread nD τ).loc main_arg2)) r d
          * (m ((c.tc : Thread nD τ).loc main_arg3) (ix2 d ⟨2048 + n.val, by omega⟩) : EReal))
        * ∑ d : Fin 2048, rowOf (m ((c.tc : Thread nD τ).loc main_arg0)) (m ((c.tc : Thread nD τ).loc main_arg1))
          (m ((c.tc : Thread nD τ).loc main_arg2)) r d
          * (m ((c.tc : Thread nD τ).loc main_arg3) (ix2 d ⟨4096 + n.val, by omega⟩) : EReal) := by
  have hp : (pointOf r n).val = r.val / 512 * 2 + n.val / 1024 := rfl
  have he : (ix2 ⟨r.val, by omega⟩ n : S20480x2048.Idx)
      = ((cfg0.win 8).blk (pointOf r n)).view.emb (ix2 ⟨r.val % 512, by omega⟩ ⟨n.val % 1024, by omega⟩ : S512x1024.Idx) := by
    blk_ext [index8, hp]
  rw [he, (dats m 0 c).arrAt_emb_eq_flushed 8 Value.disjoint8 (pointOf r n) (flush8 _), flushed8_eq]
  refine (pay3_at _ _ _ ⟨r.val % 512, by omega⟩ ⟨n.val % 1024, by omega⟩).trans
    (congrArg₂ (· * ·) (Finset.sum_congr rfl fun d _ => ?_) (Finset.sum_congr rfl fun d _ => ?_))
  · rw [rowsAt_eq, block5]
    have h : (⟨(2 + (pointOf r n).val % 2) * 1024 + n.val % 1024, by rw [hp]; omega⟩ : Fin 6144) = ⟨2048 + n.val, by omega⟩ :=
      Fin.ext (by simp only [hp]; omega)
    rw [h]
  · rw [rowsAt_eq, block6]
    have h : (⟨(4 + (pointOf r n).val % 2) * 1024 + n.val % 1024, by rw [hp]; omega⟩ : Fin 6144) = ⟨4096 + n.val, by omega⟩ :=
      Fin.ext (by simp only [hp]; omega)
    rw [h]

end

end Cert.Proof.ConvLast

end
-- ==== Proof.ConvLastRef.lean ====
/-
  What the reference of the last short convolution's first projection computes, on the latents alone: its two arrays as
  functions of the arguments, in its own operations, and then at an index over the extended reals.
-/
module

public import proofs.«01_k».proof.Proof.ConvInRef
public import proofs.«01_k».proof.Proof.Gen.ConvLastRefIdeal.Run

@[expose] public section

noncomputable section

namespace Cert.Proof.ConvLastRef

open Idealize.ShloMosaic Idealize.SL.Sem Cert.ConvLastRefIdeal
open Cert.ConvLastRefIdeal.Gen Idealize.ShloMosaic.TcCoe
open Cert.ConvLastRefIdeal.Facts
open Cert.Proof.ConvInRef (latents latentRows latents_at latentRows_at normOf)

variable {F : FTy → Type} [FloatOps F]

/-- The normed latents as rows. -/
def flat (x : FVec F S4x4096x2048 .f32) : FVec F S16384x2048 .f32 := shapeCast _ x shapeCasts_S4x4096x2048_S16384x2048

/-- The rows that are projected. -/
def rows (xc : FVec F S20480x2048 .f32) (g : FVec F S2048 .f32) (mp : FVec F S4x8x6x1x2048 .f32) : FVec F S16384x2048 .f32 :=
  flat (latentRows (latents xc) g (extractStridedSlice S1x4x1x1x2048 ![3, 0, 1, 0, 0] mp slices_S4x8x6x1x2048_S1x4x1x1x2048_3_0_1_0_0)
    (extractStridedSlice S1x4x1x1x2048 ![3, 0, 0, 0, 0] mp slices_S4x8x6x1x2048_S1x4x1x1x2048_3_0_0_0_0))

/-- The projection, of which the three parts are a gate, a gate and the values. -/
def projected (h : FVec F S16384x2048 .f32) (w : FVec F S2048x6144 .f32) : FVec F S16384x6144 .f32 :=
  Host.dotGeneral dot_S16384x2048_S2048x6144_S16384x6144_1_0_0_1_n_n none h w

/-- Rows over zeros. -/
def padded (y : FVec F S16384x2048 .f32) : FVec F S20480x2048 .bf16 :=
  pad S20480x2048 ![0, 0] ![4096, 0] ![0, 0] (truncf .bf16 y bitsLt_bf16_f32) (sitofp .bf16 (constantI S_ 32 0#32))
    pads_S16384x2048_S20480x2048_040960_000 h_S_

/-- The first gate. -/
def gate (p : FVec F S16384x6144 .f32) : FVec F S20480x2048 .bf16 :=
  padded (extractStridedSlice S16384x2048 ![0, 0] p slices_S16384x6144_S16384x2048_0_0)

/-- The values under the second gate. -/
def gated (p : FVec F S16384x6144 .f32) : FVec F S20480x2048 .bf16 :=
  padded (mulf (extractStridedSlice S16384x2048 ![0, 2048] p slices_S16384x6144_S16384x2048_0_2048)
    (extractStridedSlice S16384x2048 ![0, 4096] p slices_S16384x6144_S16384x2048_0_4096))

set_option maxRecDepth 8192 in
/-- The reference's run, its results read as those functions of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = gate (projected (rows (m ((c.tc : Thread nD τ).loc main_arg0)) (m ((c.tc : Thread nD τ).loc main_arg1))
              (m ((c.tc : Thread nD τ).loc main_arg2))) (m ((c.tc : Thread nD τ).loc main_arg3)))
      ∧ r.2.mem ((c.tc : Thread nD τ).loc main_v34)
          = gated (projected (rows (m ((c.tc : Thread nD τ).loc main_arg0)) (m ((c.tc : Thread nD τ).loc main_arg1))
              (m ((c.tc : Thread nD τ).loc main_arg2))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Cert.ConvLastRefIdeal.Value.run m ρ)

/-! ## At an index, over the extended reals -/

theorem flat_at (x : FVec Ideal S4x4096x2048 .f32) (r : Fin 16384) (d : Fin 2048) :
    flat x (ix2 r d) = x (ix3 ⟨r.val / 4096, by omega⟩ ⟨r.val % 4096, by omega⟩ d) := by
  unfold flat
  pointwise

theorem scale_at (mp : FVec Ideal S4x8x6x1x2048 .f32) (b : Fin 4) (e : Fin 2048) :
    extractStridedSlice S1x4x1x1x2048 ![3, 0, 1, 0, 0] mp slices_S4x8x6x1x2048_S1x4x1x1x2048_3_0_1_0_0 (ix5 0 b 0 0 e)
      = mp (ix5 3 ⟨b.val, by omega⟩ 1 0 e) := by
  pointwise

theorem shift_at (mp : FVec Ideal S4x8x6x1x2048 .f32) (b : Fin 4) (e : Fin 2048) :
    extractStridedSlice S1x4x1x1x2048 ![3, 0, 0, 0, 0] mp slices_S4x8x6x1x2048_S1x4x1x1x2048_3_0_0_0_0 (ix5 0 b 0 0 e)
      = mp (ix5 3 ⟨b.val, by omega⟩ 0 0 e) := by
  pointwise

/-- A row of the projection's left side: row `r` is under the scale and shift numbered `r / 4096`. -/
theorem rows_at (xc : FVec Ideal S20480x2048 .f32) (g : FVec Ideal S2048 .f32) (mp : FVec Ideal S4x8x6x1x2048 .f32)
    (r : Fin 16384) (d : Fin 2048) :
    rows xc g mp (ix2 r d)
      = normOf (fun e => xc (ix2 ⟨r.val, by omega⟩ e)) (fun e => g (ix1 e)) (fun e => mp (ix5 3 ⟨r.val / 4096, by omega⟩ 1 0 e))
          (fun e => mp (ix5 3 ⟨r.val / 4096, by omega⟩ 0 0 e)) d := by
  unfold rows
  rw [flat_at]
  refine (latentRows_at _ _ _ _ _ _ d).trans ?_
  simp only [latents_at, scale_at, shift_at]
  have h1 : (⟨r.val / 4096 * 4096 + r.val % 4096, by omega⟩ : Fin 20480) = ⟨r.val, by omega⟩ := Fin.ext (by simp only; omega)
  rw [h1]

theorem projected_at (h : FVec Ideal S16384x2048 .f32) (w : FVec Ideal S2048x6144 .f32) (r : Fin 16384) (n : Fin 6144) :
    projected h w (ix2 r n) = ∑ d : Fin 2048, h (ix2 r d) * w (ix2 d n) := by
  unfold projected
  pointwise [dot_S16384x2048_S2048x6144_S16384x6144_1_0_0_1_n_n]

theorem gate_at (p : FVec Ideal S16384x6144 .f32) (r : Fin 16384) (n : Fin 2048) :
    gate p (ix2 ⟨r.val, by omega⟩ n) = p (ix2 r ⟨n.val, by omega⟩) := by
  unfold gate padded
  pointwise

theorem gated_at (p : FVec Ideal S16384x6144 .f32) (r : Fin 16384) (n : Fin 2048) :
    gated p (ix2 ⟨r.val, by omega⟩ n) = p (ix2 r ⟨2048 + n.val, by omega⟩) * p (ix2 r ⟨4096 + n.val, by omega⟩) := by
  unfold gated padded
  pointwise

end Cert.Proof.ConvLastRef

end
-- ==== Proof.ConvLast.lean ====
/-
  The claims about the last short convolution's first projection: the reference's frame, and that kernel and reference end with
  the same two arrays on the latents' rows.
-/
module

public import proofs.«01_k».proof.Proof.ConvLastArray
public import proofs.«01_k».proof.Proof.ConvLastRef
public import proofs.«01_k».proof.Defs
public import Idealize.ShloMosaic.Lib.Claim

@[expose] public section

noncomputable section

namespace Cert.Proof.ConvLast

open Idealize.ShloMosaic
open Cert.Proof.ConvLastRef (gate gated projected rows gate_at gated_at projected_at rows_at)

theorem frame_ri : Cert.quiescent_ConvLastRefIdeal (hConvLastRefIdeal := Cert.ConvLastRefIdeal.Gen.facts) := fun m ρ _ =>
  (θ_run Cert.ConvLastRefIdeal.defs _ _).mono (fun r h => ⟨fun c => (h c).2.2, sem_eq_zero_of_no_sems (by decide) r.2⟩)
    (Cert.ConvLastRefIdeal.Value.run (F := Ideal) m ρ)

theorem on_facts : Cert.On_latent_row_pairs.Facts := ⟨by decide⟩

/-- The mask holds on the latents' rows alone. -/
theorem row_lt [Cert.On_latent_row_pairs.Facts] (xc : FVec Ideal Cert.On_latent_row_pairs.S20480x2048 .f32)
    (g : FVec Ideal Cert.On_latent_row_pairs.S2048 .f32) (mp : FVec Ideal Cert.On_latent_row_pairs.S4x8x6x1x2048 .f32)
    (w : FVec Ideal Cert.On_latent_row_pairs.S2048x6144 .f32) (i : Fin 20480) (x : Fin 2048)
    (h : (Cert.On_latent_row_pairs.fn (F := Ideal) xc g mp w).1 (ix2 i x) = 1#1) : i.val < 16384 := by
  by_contra hn
  have : (Cert.On_latent_row_pairs.fn (F := Ideal) xc g mp w).1 (ix2 i x) = IntOp.cmpi .slt (BitVec.ofNat 32 i.val) 16384#32 := by
    unfold Cert.On_latent_row_pairs.fn
    pointwise
  rw [this] at h
  have hi : (BitVec.ofNat 32 i.val).toInt = i.val := by
    rw [BitVec.toInt_eq_toNat_of_lt (by rw [BitVec.toNat_ofNat]; omega), BitVec.toNat_ofNat]
    omega
  have h2 : ¬ (BitVec.ofNat 32 i.val).toInt < 16384 := by omega
  simp [IntOp.cmpi, BitVec.slt, h2] at h

section
variable (m : (ℓ : Loc Cert.ConvLastIdeal.nD Cert.ConvLastIdeal.τ Cert.ConvLastIdeal.sig) → Buf (Elt Ideal) ℓ)
  (c : Dev Cert.ConvLastIdeal.nD)

/-- The reference's projection of the kernel's arguments. -/
def projectedOf : FVec Ideal Cert.ConvLastRefIdeal.S16384x6144 .f32 :=
  projected (rows (m ((c.tc : Thread Cert.ConvLastIdeal.nD Cert.ConvLastIdeal.τ).loc Cert.ConvLastIdeal.main_arg0))
      (m ((c.tc : Thread Cert.ConvLastIdeal.nD Cert.ConvLastIdeal.τ).loc Cert.ConvLastIdeal.main_arg1))
      (m ((c.tc : Thread Cert.ConvLastIdeal.nD Cert.ConvLastIdeal.τ).loc Cert.ConvLastIdeal.main_arg2)))
    (m ((c.tc : Thread Cert.ConvLastIdeal.nD Cert.ConvLastIdeal.τ).loc Cert.ConvLastIdeal.main_arg3))

theorem projectedOf_at (r : Fin 16384) (n : Fin 6144) :
    projectedOf m c (ix2 r n)
      = ∑ d : Fin 2048, rowOf (m ((c.tc : Thread Cert.ConvLastIdeal.nD Cert.ConvLastIdeal.τ).loc Cert.ConvLastIdeal.main_arg0))
          (m ((c.tc : Thread Cert.ConvLastIdeal.nD Cert.ConvLastIdeal.τ).loc Cert.ConvLastIdeal.main_arg1))
          (m ((c.tc : Thread Cert.ConvLastIdeal.nD Cert.ConvLastIdeal.τ).loc Cert.ConvLastIdeal.main_arg2)) r d
          * (m ((c.tc : Thread Cert.ConvLastIdeal.nD Cert.ConvLastIdeal.τ).loc Cert.ConvLastIdeal.main_arg3) (ix2 d n) : EReal) := by
  refine (projected_at _ _ r n).trans (Finset.sum_congr rfl fun d _ => ?_)
  exact congrArg (fun h : EReal => h * _) (rows_at _ _ _ r d)

/-- On the latents' rows the kernel's arrays are the reference's. -/
theorem gate_eq (i : Fin 20480) (n : Fin 2048) (hi : i.val < 16384) :
    ((Cert.ConvLastIdeal.Gen.dats m 0 c).arrAt 7 Cert.ConvLastIdeal.cfg0.N (ix2 i n) : EReal) = gate (projectedOf m c) (ix2 i n) :=
  (final7_at m c ⟨i.val, hi⟩ n).trans
    ((projectedOf_at m c ⟨i.val, hi⟩ ⟨n.val, by omega⟩).symm.trans (gate_at _ ⟨i.val, hi⟩ n).symm)

theorem gated_eq (i : Fin 20480) (n : Fin 2048) (hi : i.val < 16384) :
    ((Cert.ConvLastIdeal.Gen.dats m 0 c).arrAt 8 Cert.ConvLastIdeal.cfg0.N (ix2 i n) : EReal) = gated (projectedOf m c) (ix2 i n) :=
  (final8_at m c ⟨i.val, hi⟩ n).trans
    ((congrArg₂ (fun a b : EReal => a * b) (projectedOf_at m c ⟨i.val, hi⟩ ⟨2048 + n.val, by omega⟩)
      (projectedOf_at m c ⟨i.val, hi⟩ ⟨4096 + n.val, by omega⟩)).symm.trans (gated_at _ ⟨i.val, hi⟩ n).symm)

end

theorem algebraic : Cert.algebraic_ConvLastIdeal_ConvLastRefIdeal_on_latent_row_pairs
    (hConvLastIdeal := Cert.ConvLastIdeal.Gen.facts) (hConvLastRefIdeal := Cert.ConvLastRefIdeal.Gen.facts)
    (hOn_latent_row_pairs := on_facts) := by
  intro m g m' g' _ hagree
  refine ⟨fun c => (Cert.ConvLastIdeal.Gen.dats m 0 c).arrAt 7 Cert.ConvLastIdeal.cfg0.N,
    fun c => (Cert.ConvLastIdeal.Gen.dats m 0 c).arrAt 8 Cert.ConvLastIdeal.cfg0.N, ?_, ?_⟩
  · exact (θ_run Cert.ConvLastIdeal.defs _ _).mono
      (fun r h c => ⟨fun i _ => congrFun (h c).1 i, fun i _ => congrFun (h c).2.1 i, (h c).2.2⟩)
      (Cert.ConvLastIdeal.Value.run_blocks (F := Ideal) m g)
  · letI := on_facts
    refine (θ_run Cert.ConvLastRefIdeal.defs _ _).mono
      (fun r h c => ⟨fun i hi => (congrFun (h c).1 i).trans ?_, fun i hi => (congrFun (h c).2.1 i).trans ?_, (h c).2.2⟩)
      (Cert.Proof.ConvLastRef.run (F := Ideal) m' g')
    all_goals
      obtain ⟨x, y, rfl⟩ : ∃ (x : Fin 20480) (y : Fin 2048), i = ix2 x y := ⟨i 0, i 1, by funext a; fin_cases a <;> rfl⟩
      obtain ⟨h0, h1, h2, h3⟩ := hagree c
      rw [h0, h1, h2, h3]
    · exact (gate_eq m c x y (row_lt _ _ _ _ x y hi)).symm
    · exact (gated_eq m c x y (row_lt (m ((c.tc : Thread Cert.ConvLastIdeal.nD Cert.ConvLastIdeal.τ).loc Cert.ConvLastIdeal.main_arg0))
        (m ((c.tc : Thread Cert.ConvLastIdeal.nD Cert.ConvLastIdeal.τ).loc Cert.ConvLastIdeal.main_arg1))
        (m ((c.tc : Thread Cert.ConvLastIdeal.nD Cert.ConvLastIdeal.τ).loc Cert.ConvLastIdeal.main_arg2))
        (m ((c.tc : Thread Cert.ConvLastIdeal.nD Cert.ConvLastIdeal.τ).loc Cert.ConvLastIdeal.main_arg3)) x y hi)).symm

end Cert.Proof.ConvLast

end
-- ==== Proof.ScanInBody.lean ====
/-
  What one grid point of the scan layer's projection stores: its rows, normed, times the weights.
-/
module

public import proofs.«01_k».proof.Proof.ConvInBody
public import proofs.«01_k».proof.Proof.Gen.ScanInIdeal.Frame

@[expose] public section

noncomputable section

namespace Cert.Proof.ScanIn

open Idealize.ShloMosaic Idealize.SL.Sem Cert.ScanInIdeal
open Cert.ScanInIdeal.Gen Idealize.ShloMosaic.TcCoe
open Cert.Proof.ConvInRef (normOf)
open Cert.Proof.Loads (load_held load_stored off2 off5)

section
variable {F : FTy → Type} [FloatOps F]
variable (c : Dev nD) (i : grid0.Coords)
    (arg2 : Memref sig .tc .vmem S512x2048 .f32) (harg2 : arg2.IsWhole)
    (arg3 : Memref sig .tc .vmem S1x2048 .f32) (harg3 : arg3.IsWhole)
    (arg4 : Memref sig .tc .vmem S1x1x1x1x2048 .f32) (harg4 : arg4.IsWhole)
    (arg5 : Memref sig .tc .vmem S1x1x1x1x2048 .f32) (harg5 : arg5.IsWhole)
    (arg6 : Memref sig .tc .vmem S2048x2048 .bf16) (harg6 : arg6.IsWhole)
    (arg7 : Memref sig .tc .vmem S512x2048 .f32) (harg7 : arg7.IsWhole)
    (arg8 : Memref sig .tc .vmem S512x2048 .bf16) (harg8 : arg8.IsWhole)
    (x0 : Vec F S512x2048 .f32) (x1 : Vec F S1x2048 .f32) (x2 : Vec F S1x1x1x1x2048 .f32) (x3 : Vec F S1x1x1x1x2048 .f32)
    (x4 : Vec F S2048x2048 .bf16)

/-- A grid point norms its rows and stores their product with the weights. -/
theorem outA_5 (hc0 : cond0_0 i) :
    out0_A_5 c i arg2 harg2 arg3 harg3 arg4 harg4 arg5 harg5 arg6 harg6 arg7 harg7 arg8 harg8 hc0 x0 x1 x2 x3 x4
      = k0_pay2 (k0_pay1 x0 x1 x3 x2) x4 := by
  unfold out0_A_5
  rw [View.read_writes_junk_eq_canon]
  have h : (kernelRun0_A c i arg2 harg2 arg3 harg3 arg4 harg4 arg5 harg5 arg6 harg6 arg7 harg7 arg8 harg8 hc0 x0 x1 x2 x3 x4).1
      = [⟨Rect.unit ![0, 0] S512x2048.size inb_S512x2048_S512x2048_0_0, k0_pay2
          (arg8.view.readCov [⟨Rect.unit ![0, 0] S512x2048.size inb_S512x2048_S512x2048_0_0, k0_pay1
          (View.readAt (Elt F) arg2.view (Rect.unit ![0, 0] S512x2048.size inb_S512x2048_S512x2048_0_0).toLoadRect (harg2.unread x0))
          (View.readAt (Elt F) arg3.view (Rect.unit ![0, 0] S1x2048.size inb_S1x2048_S1x2048_0_0).toLoadRect (harg3.unread x1))
          (View.readAt (Elt F) arg5.view (Rect.unit ![0, 0, 0, 0, 0] S1x1x1x1x2048.size inb_S1x1x1x1x2048_S1x1x1x1x2048_0_0_0_0_0).toLoadRect (harg5.unread x3))
          (View.readAt (Elt F) arg4.view (Rect.unit ![0, 0, 0, 0, 0] S1x1x1x1x2048.size inb_S1x1x1x1x2048_S1x1x1x1x2048_0_0_0_0_0).toLoadRect (harg4.unread x2))⟩]
            (Rect.unit ![0, 0] S512x2048.size inb_S512x2048_S512x2048_0_0).toLoadRect)
          (View.readAt (Elt F) arg6.view (Rect.unit ![0, 0] S2048x2048.size inb_S2048x2048_S2048x2048_0_0).toLoadRect (harg6.unread x4))⟩] := rfl
  rw [h, load_held arg2 harg2 off2, load_held arg3 harg3 off2, load_held arg4 harg4 off5, load_held arg5 harg5 off5, load_held arg6 harg6 off2, load_stored _ off2]
  exact View.canon_cons_unit_zero off2 _ _ _

end

/-! ## At an index, over the extended reals -/

/-- The norm is the short convolution's. -/
theorem pay1_at (x : FVec Ideal S512x2048 .f32) (g : FVec Ideal S1x2048 .f32) (scale shift : FVec Ideal S1x1x1x1x2048 .f32)
    (i : Fin 512) (d : Fin 2048) :
    k0_pay1 (F := Ideal) x g scale shift (ix2 i d)
      = normOf (fun e => x (ix2 i e)) (fun e => g (ix2 0 e)) (fun e => scale (ix5 0 0 0 0 e)) (fun e => shift (ix5 0 0 0 0 e)) d :=
  Cert.Proof.ConvIn.pay1_at x g scale shift i d

theorem pay2_at (h : FVec Ideal S512x2048 .bf16) (w : FVec Ideal S2048x2048 .bf16) (i : Fin 512) (n : Fin 2048) :
    k0_pay2 (F := Ideal) h w (ix2 i n) = ∑ d : Fin 2048, h (ix2 i d) * w (ix2 d n) := by
  unfold k0_pay2
  pointwise [dot_S512x2048_S2048x2048_S512x2048_1_0_0_1_n_n]

end Cert.Proof.ScanIn

end
-- ==== Proof.ScanInArray.lean ====
/-
  The array the scan layer's projection leaves, on the rows of tokens: `normOf` of a token's row, of the gain and of the scale
  and shift the row is under, times the columns of the weights.
-/
module

public import proofs.«01_k».proof.Proof.ScanInBody
public import proofs.«01_k».proof.Proof.ConvInArray
public import proofs.«01_k».proof.Proof.Gen.ScanInIdeal.Value
public import Idealize.ShloMosaic.Lib.Pipeline.ValueKit.Geometry

@[expose] public section

noncomputable section

namespace Cert.Proof.ScanIn

open Idealize.ShloMosaic Idealize.SL.Sem Cert.ScanInIdeal
open Cert.ScanInIdeal.Gen Idealize.ShloMosaic.TcCoe
open Cert.Proof.ConvInRef (normOf)

/-- The blocks' indices at a grid point: the rows of point `t` are block `t`, under scale and shift `t / 8`. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![1, t.val / 8, 0, 0, 0] := (by decide +kernel : ∀ t : Fin grid0.N, _)
theorem index3 : ∀ t : Fin cfg0.N, win0_3.index t = ![1, t.val / 8, 1, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)

theorem flush5 : ∀ t : Fin cfg0.N, (cfg0.win 5).flush t = true :=
  (by decide +kernel : ∀ t : Fin grid0.N, (cfg0.win 5).flush t = true)

/-- What point `t` writes back. -/
theorem flushed5_eq {F : FTy → Type} [FloatOps F] (m : (ℓ : Loc nD τ sig) → Buf (Elt F) ℓ) (c : Dev nD) (t : Fin cfg0.N) :
    (dats m 0 c).flushed 5 t = (cfg0.win 5).cut (grid0.coords t)
      (k0_pay2 (k0_pay1 (iblk m c 0 t) (iblk m c 1 t) (iblk m c 3 t) (iblk m c 2 t)) (iblk m c 4 t)) := by
  rw [Value.flushed5_A m c t, outA_5]

variable (m : (ℓ : Loc nD τ sig) → Buf (Elt Ideal) ℓ) (c : Dev nD)

/-- The blocks a point reads, as parts of the arguments. -/
theorem block0 (t : Fin cfg0.N) (i : Fin 512) (d : Fin 2048) :
    iblk m c 0 t (ix2 i d) = m ((c.tc : Thread nD τ).loc main_arg0)
      (ix2 ⟨t.val * 512 + i.val, by have := t.isLt; have : cfg0.N = 34 := N_0; omega⟩ d) := by
  blk_simp [iblk, V_main_arg0]
  blk_ext [index0]

theorem gain_row : V m c main_v0 = shapeCast S1x2048 (m ((c.tc : Thread nD τ).loc main_arg1)) shapeCasts_S2048_S1x2048 := rfl

theorem block1 (t : Fin cfg0.N) (d : Fin 2048) :
    iblk m c 1 t (ix2 0 d) = m ((c.tc : Thread nD τ).loc main_arg1) (ix1 d) := by
  have e : iblk m c 1 t (ix2 0 d) = V m c main_v0 (ix2 0 d) := by
    blk_simp [iblk]
    blk_ext [index1]
  rw [e, gain_row]
  exact Cert.Proof.ConvIn.row_at _ d

theorem block2 (t : Fin cfg0.N) (d : Fin 2048) :
    iblk m c 2 t (ix5 0 0 0 0 d) = m ((c.tc : Thread nD τ).loc main_arg2)
      (ix5 1 ⟨t.val / 8, by have := t.isLt; have : cfg0.N = 34 := N_0; omega⟩ 0 0 d) := by
  blk_simp [iblk, V_main_arg2]
  blk_ext [index2]

theorem block3 (t : Fin cfg0.N) (d : Fin 2048) :
    iblk m c 3 t (ix5 0 0 0 0 d) = m ((c.tc : Thread nD τ).loc main_arg2)
      (ix5 1 ⟨t.val / 8, by have := t.isLt; have : cfg0.N = 34 := N_0; omega⟩ 1 0 d) := by
  blk_simp [iblk, V_main_arg2]
  blk_ext [index3]

/-- The weights, cast on the way in, are the argument. -/
theorem weights_eq (d : Fin 2048) (n : Fin 2048) :
    (V m c main_v1 (ix2 d n) : EReal) = m ((c.tc : Thread nD τ).loc main_arg3) (ix2 d n) := rfl

theorem block4 (t : Fin cfg0.N) (d : Fin 2048) (n : Fin 2048) :
    (iblk m c 4 t (ix2 d n) : EReal) = m ((c.tc : Thread nD τ).loc main_arg3) (ix2 d n) := by
  refine Eq.trans ?_ (weights_eq m c d n)
  blk_simp [iblk]
  blk_ext [index4]

/-- A token's row, normed and under its scale and shift, from the arguments. -/
def rowOf (xc : FVec Ideal S20480x2048 .f32) (g : FVec Ideal S2048 .f32) (mp : FVec Ideal S4x8x6x1x2048 .f32) (r : Fin 17408) :
    Fin 2048 → EReal :=
  normOf (fun e => xc (ix2 ⟨r.val, by omega⟩ e)) (fun e => g (ix1 e)) (fun e => mp (ix5 1 ⟨r.val / 4096, by omega⟩ 1 0 e))
    (fun e => mp (ix5 1 ⟨r.val / 4096, by omega⟩ 0 0 e))

/-- The grid point of a row. -/
def pointOf (r : Fin 17408) : Fin cfg0.N := ⟨r.val / 512, by have : cfg0.N = 34 := N_0; omega⟩

theorem rowsAt_eq (r : Fin 17408) (d : Fin 2048) :
    (k0_pay1 (F := Ideal) (iblk m c 0 (pointOf r)) (iblk m c 1 (pointOf r)) (iblk m c 3 (pointOf r)) (iblk m c 2 (pointOf r))
        (ix2 ⟨r.val % 512, by omega⟩ d) : EReal)
      = rowOf (m ((c.tc : Thread nD τ).loc main_arg0)) (m ((c.tc : Thread nD τ).loc main_arg1))
          (m ((c.tc : Thread nD τ).loc main_arg2)) r d := by
  have hp : (pointOf r).val = r.val / 512 := rfl
  unfold rowOf
  refine (pay1_at _ _ _ _ _ d).trans ?_
  simp only [block0, block1, block2, block3]
  have h0 : (⟨(pointOf r).val * 512 + r.val % 512, by rw [hp]; omega⟩ : Fin 20480) = ⟨r.val, by omega⟩ :=
    Fin.ext (by simp only [hp]; omega)
  have h1 : (⟨(pointOf r).val / 8, by rw [hp]; omega⟩ : Fin 8) = ⟨r.val / 4096, by omega⟩ :=
    Fin.ext (by simp only [hp]; omega)
  rw [h0, h1]

/-- The array after the run, at a token's row. -/
theorem final5_at (r : Fin 17408) (n : Fin 2048) :
    ((dats m 0 c).arrAt 5 cfg0.N (ix2 ⟨r.val, by omega⟩ n) : EReal)
      = ∑ d : Fin 2048, rowOf (m ((c.tc : Thread nD τ).loc main_arg0)) (m ((c.tc : Thread nD τ).loc main_arg1))
          (m ((c.tc : Thread nD τ).loc main_arg2)) r d * (m ((c.tc : Thread nD τ).loc main_arg3) (ix2 d n) : EReal) := by
  have hp : (pointOf r).val = r.val / 512 := rfl
  have he : (ix2 ⟨r.val, by omega⟩ n : S20480x2048.Idx)
      = ((cfg0.win 5).blk (pointOf r)).view.emb (ix2 ⟨r.val % 512, by omega⟩ n : S512x2048.Idx) := by
    blk_ext [index5, hp]
  rw [he, (dats m 0 c).arrAt_emb_eq_flushed 5 Value.disjoint5 (pointOf r) (flush5 _), flushed5_eq]
  refine (pay2_at _ _ ⟨r.val % 512, by omega⟩ n).trans (Finset.sum_congr rfl fun d _ => ?_)
  rw [rowsAt_eq, block4]

end Cert.Proof.ScanIn

end
-- ==== Proof.ScanInRef.lean ====
/-
  What the reference of the scan layer's projection computes: its array as a function of the arguments, in its own operations,
  and then at an index over the extended reals.
-/
module

public import proofs.«01_k».proof.Proof.ConvInRef
public import proofs.«01_k».proof.Proof.Gen.ScanInRefIdeal.Run

@[expose] public section

noncomputable section

namespace Cert.Proof.ScanInRef

open Idealize.ShloMosaic Idealize.SL.Sem Cert.ScanInRefIdeal
open Cert.ScanInRefIdeal.Gen Idealize.ShloMosaic.TcCoe
open Cert.ScanInRefIdeal.Facts
open Cert.Proof.ConvInRef (normed normed_at normOf)

variable {F : FTy → Type} [FloatOps F]

/-- The rows that are projected. -/
def rows (xc : FVec F S20480x2048 .f32) (g : FVec F S2048 .f32) (mp : FVec F S4x8x6x1x2048 .f32) : FVec F S17408x2048 .f32 :=
  normed xc g (extractStridedSlice S1x4x1x1x2048 ![1, 0, 1, 0, 0] mp slices_S4x8x6x1x2048_S1x4x1x1x2048_1_0_1_0_0)
    (extractStridedSlice S1x4x1x1x2048 ![1, 0, 0, 0, 0] mp slices_S4x8x6x1x2048_S1x4x1x1x2048_1_0_0_0_0)
    (extractStridedSlice S1x1x1x1x2048 ![1, 4, 1, 0, 0] mp slices_S4x8x6x1x2048_S1x1x1x1x2048_1_4_1_0_0)
    (extractStridedSlice S1x1x1x1x2048 ![1, 4, 0, 0, 0] mp slices_S4x8x6x1x2048_S1x1x1x1x2048_1_4_0_0_0)

/-- The rows' projection over zeros. -/
def projected (h : FVec F S17408x2048 .f32) (w : FVec F S2048x2048 .f32) : FVec F S20480x2048 .f32 :=
  pad S20480x2048 ![0, 0] ![3072, 0] ![0, 0] (Host.dotGeneral dot_S17408x2048_S2048x2048_S17408x2048_1_0_0_1_n_n none h w)
    (sitofp .f32 (constantI S_ 32 0#32)) pads_S17408x2048_S20480x2048_030720_000 h_S_

/-- The array. -/
def result (xc : FVec F S20480x2048 .f32) (g : FVec F S2048 .f32) (mp : FVec F S4x8x6x1x2048 .f32) (w : FVec F S2048x2048 .f32) :
    FVec F S20480x2048 .f32 :=
  projected (rows xc g mp) w

set_option maxRecDepth 8192 in
/-- The reference's run, its result read as that function of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Cert.ScanInRefIdeal.Value.run m ρ)

/-! ## At an index, over the extended reals -/

/-- A row of the projection's left side. -/
theorem rows_at (xc : FVec Ideal S20480x2048 .f32) (g : FVec Ideal S2048 .f32) (mp : FVec Ideal S4x8x6x1x2048 .f32)
    (r : Fin 17408) (d : Fin 2048) :
    rows xc g mp (ix2 r d)
      = normOf (fun e => xc (ix2 ⟨r.val, by omega⟩ e)) (fun e => g (ix1 e)) (fun e => mp (ix5 1 ⟨r.val / 4096, by omega⟩ 1 0 e))
          (fun e => mp (ix5 1 ⟨r.val / 4096, by omega⟩ 0 0 e)) d :=
  normed_at xc g mp 1 _ _ _ _ (fun b e => by pointwise) (fun b e => by pointwise) (fun e => by pointwise) (fun e => by pointwise) r d

theorem projected_at (h : FVec Ideal S17408x2048 .f32) (w : FVec Ideal S2048x2048 .f32) (r : Fin 17408) (n : Fin 2048) :
    projected h w (ix2 ⟨r.val, by omega⟩ n) = ∑ d : Fin 2048, h (ix2 r d) * w (ix2 d n) := by
  unfold projected
  pointwise [dot_S17408x2048_S2048x2048_S17408x2048_1_0_0_1_n_n]

end Cert.Proof.ScanInRef

end
-- ==== Proof.Rows.lean ====
/-
  A row number below a bound, from the comparison a mask makes of it.
-/
module

public import Idealize.ShloMosaic.Lib.Pointwise

@[expose] public section

noncomputable section

namespace Cert.Proof.Rows

open Idealize.ShloMosaic

/-- A comparison of two small numbers as words is one of the numbers. -/
theorem lt_of_slt (i k : Nat) (hi : i < 20480) (hk : k < 20480)
    (h : IntOp.cmpi .slt (BitVec.ofNat 32 i) (BitVec.ofNat 32 k) = 1#1) : i < k := by
  by_contra hn
  have ei : (BitVec.ofNat 32 i).toInt = i := by
    rw [BitVec.toInt_eq_toNat_of_lt (by rw [BitVec.toNat_ofNat]; omega), BitVec.toNat_ofNat]
    omega
  have ek : (BitVec.ofNat 32 k).toInt = k := by
    rw [BitVec.toInt_eq_toNat_of_lt (by rw [BitVec.toNat_ofNat]; omega), BitVec.toNat_ofNat]
    omega
  have h2 : ¬ (BitVec.ofNat 32 i).toInt < (BitVec.ofNat 32 k).toInt := by omega
  simp [IntOp.cmpi, BitVec.slt, h2] at h

end Cert.Proof.Rows

end
-- ==== Proof.ScanIn.lean ====
/-
  The claims about the scan layer's projection: the reference's frame, and that kernel and reference end with the same array on
  the rows of tokens.
-/
module

public import proofs.«01_k».proof.Proof.ScanInArray
public import proofs.«01_k».proof.Proof.ScanInRef
public import proofs.«01_k».proof.Proof.Rows
public import proofs.«01_k».proof.Defs
public import Idealize.ShloMosaic.Lib.Claim

@[expose] public section

noncomputable section

namespace Cert.Proof.ScanIn

open Idealize.ShloMosaic
open Cert.Proof.ScanInRef (result projected_at rows_at)

theorem frame_ri : Cert.quiescent_ScanInRefIdeal (hScanInRefIdeal := Cert.ScanInRefIdeal.Gen.facts) := fun m ρ _ =>
  (θ_run Cert.ScanInRefIdeal.defs _ _).mono (fun r h => ⟨fun c => (h c).2, sem_eq_zero_of_no_sems (by decide) r.2⟩)
    (Cert.ScanInRefIdeal.Value.run (F := Ideal) m ρ)

theorem on_facts : Cert.On_scan_rows.Facts := ⟨by decide⟩

/-- The mask holds on the rows of tokens alone. -/
theorem row_lt [Cert.On_scan_rows.Facts] (a : FVec Ideal Cert.On_scan_rows.S20480x2048 .f32) (b : FVec Ideal Cert.On_scan_rows.S2048 .f32) (c : FVec Ideal Cert.On_scan_rows.S4x8x6x1x2048 .f32) (d : FVec Ideal Cert.On_scan_rows.S2048x2048 .f32)
    (i : Fin 20480) (x : Fin 2048) (h : Cert.On_scan_rows.fn (F := Ideal) a b c d (ix2 i x) = 1#1) : i.val < 17408 := by
  have e : Cert.On_scan_rows.fn (F := Ideal) a b c d (ix2 i x) = IntOp.cmpi .slt (BitVec.ofNat 32 i.val) 17408#32 := by
    unfold Cert.On_scan_rows.fn
    pointwise
  exact Rows.lt_of_slt i.val 17408 i.isLt (by omega) (e.symm.trans h)

section
variable (m : (ℓ : Loc Cert.ScanInIdeal.nD Cert.ScanInIdeal.τ Cert.ScanInIdeal.sig) → Buf (Elt Ideal) ℓ) (c : Dev Cert.ScanInIdeal.nD)

/-- On the rows of tokens the kernel's array is the reference's. -/
theorem result_eq (i : Fin 20480) (n : Fin 2048) (hi : i.val < 17408) :
    ((Cert.ScanInIdeal.Gen.dats m 0 c).arrAt 5 Cert.ScanInIdeal.cfg0.N (ix2 i n) : EReal)
      = result (F := Ideal) (m ((c.tc : Thread Cert.ScanInIdeal.nD Cert.ScanInIdeal.τ).loc Cert.ScanInIdeal.main_arg0)) (m ((c.tc : Thread Cert.ScanInIdeal.nD Cert.ScanInIdeal.τ).loc Cert.ScanInIdeal.main_arg1))
          (m ((c.tc : Thread Cert.ScanInIdeal.nD Cert.ScanInIdeal.τ).loc Cert.ScanInIdeal.main_arg2)) (m ((c.tc : Thread Cert.ScanInIdeal.nD Cert.ScanInIdeal.τ).loc Cert.ScanInIdeal.main_arg3)) (ix2 i n) :=
  (final5_at m c ⟨i.val, hi⟩ n).trans
    (((projected_at _ _ ⟨i.val, hi⟩ n).trans (Finset.sum_congr rfl fun d _ =>
      congrArg (fun h : EReal => h * _) (rows_at _ _ _ ⟨i.val, hi⟩ d))).symm)

end

theorem algebraic : Cert.algebraic_ScanInIdeal_ScanInRefIdeal_on_scan_rows
    (hScanInIdeal := Cert.ScanInIdeal.Gen.facts) (hScanInRefIdeal := Cert.ScanInRefIdeal.Gen.facts)
    (hOn_scan_rows := on_facts) := by
  intro m g m' g' _ hagree
  refine ⟨fun c => (Cert.ScanInIdeal.Gen.dats m 0 c).arrAt 5 Cert.ScanInIdeal.cfg0.N, ?_, ?_⟩
  · exact (θ_run Cert.ScanInIdeal.defs _ _).mono (fun r h c => ⟨fun i _ => congrFun (h c).1 i, (h c).2⟩)
      (Cert.ScanInIdeal.Value.run_blocks (F := Ideal) m g)
  · letI := on_facts
    refine (θ_run Cert.ScanInRefIdeal.defs _ _).mono (fun r h c => ⟨fun i hi => (congrFun (h c).1 i).trans ?_, (h c).2⟩)
      (Cert.Proof.ScanInRef.run (F := Ideal) m' g')
    obtain ⟨x, y, rfl⟩ : ∃ (x : Fin 20480) (y : Fin 2048), i = ix2 x y := ⟨i 0, i 1, by funext a; fin_cases a <;> rfl⟩
    obtain ⟨h0, h1, h2, h3⟩ := hagree c
    rw [h0, h1, h2, h3]
    exact (result_eq m c x y (row_lt (m ((c.tc : Thread Cert.ScanInIdeal.nD Cert.ScanInIdeal.τ).loc Cert.ScanInIdeal.main_arg0))
      (m ((c.tc : Thread Cert.ScanInIdeal.nD Cert.ScanInIdeal.τ).loc Cert.ScanInIdeal.main_arg1))
      (m ((c.tc : Thread Cert.ScanInIdeal.nD Cert.ScanInIdeal.τ).loc Cert.ScanInIdeal.main_arg2))
      (m ((c.tc : Thread Cert.ScanInIdeal.nD Cert.ScanInIdeal.τ).loc Cert.ScanInIdeal.main_arg3)) x y hi)).symm

end Cert.Proof.ScanIn

end
-- ==== Proof.GluRef.lean ====
/-
  What the reference of the scan layer's gated output computes: its array as a function of the arguments, in its own operations,
  and then at an index over the extended reals.
-/
module

public import proofs.«01_k».proof.Proof.ConvInRef
public import proofs.«01_k».proof.Proof.Gen.GluRefIdeal.Run

@[expose] public section

noncomputable section

namespace Cert.Proof.GluRef

open Idealize.ShloMosaic Idealize.SL.Sem Cert.GluRefIdeal
open Cert.GluRefIdeal.Gen Idealize.ShloMosaic.TcCoe
open Cert.GluRefIdeal.Facts
open Cert.Proof.ConvInRef (stacked stacked_at)

variable {F : FTy → Type} [FloatOps F]

/-- The tokens' rows. -/
def tokens (x : FVec F S20480x2048 .f32) : FVec F S17408x2048 .f32 :=
  extractStridedSlice S17408x2048 ![0, 0] x slices_S20480x2048_S17408x2048_0_0

/-- The gate each token's output is added under: its batch's for a latent, the context's for the context. -/
def gates (mp : FVec F S4x8x6x1x2048 .f32) : FVec F S17408x2048 .f32 :=
  stacked (broadcastInDim S4x4096x2048 ![0, 1, 2] bcast_S4x1x2048_S4x4096x2048_0_1_2
      (shapeCast _ (extractStridedSlice S1x4x1x1x2048 ![1, 0, 2, 0, 0] mp slices_S4x8x6x1x2048_S1x4x1x1x2048_1_0_2_0_0)
        shapeCasts_S1x4x1x1x2048_S4x1x2048))
    (broadcastInDim S1024x2048 ![0, 1] bcast_S1x2048_S1024x2048_0_1
      (shapeCast _ (extractStridedSlice S1x1x1x1x2048 ![1, 4, 2, 0, 0] mp slices_S4x8x6x1x2048_S1x1x1x1x2048_1_4_2_0_0)
        shapeCasts_S1x1x1x1x2048_S1x2048))

/-- The projection, of which the two parts are the values and their gate. -/
def projected (y : FVec F S17408x2048 .f32) (w : FVec F S2048x4096 .f32) : FVec F S17408x4096 .f32 :=
  Host.dotGeneral dot_S17408x2048_S2048x4096_S17408x4096_1_0_0_1_n_n none y w

/-- The values times the logistic of their gate. -/
def glu (p : FVec F S17408x4096 .f32) : FVec F S17408x2048 .f32 :=
  mulf (extractStridedSlice S17408x2048 ![0, 0] p slices_S17408x4096_S17408x2048_0_0)
    (Host.divf (broadcastInDim S17408x2048 ![] bcast_S_S17408x2048 (constant S_ .f32 0x3F800000#32))
      (addf (broadcastInDim S17408x2048 ![] bcast_S_S17408x2048 (constant S_ .f32 0x3F800000#32))
        (Host.exp (Host.negf (extractStridedSlice S17408x2048 ![0, 2048] p slices_S17408x4096_S17408x2048_0_2048)))))

/-- The tokens plus the gated output, over zeros. -/
def summed (x g p : FVec F S17408x2048 .f32) : FVec F S20480x2048 .f32 :=
  pad S20480x2048 ![0, 0] ![3072, 0] ![0, 0] (addf x (mulf g p)) (sitofp .f32 (constantI S_ 32 0#32))
    pads_S17408x2048_S20480x2048_030720_000 h_S_

/-- The array. -/
def result (y xc : FVec F S20480x2048 .f32) (mp : FVec F S4x8x6x1x2048 .f32) (w : FVec F S2048x4096 .f32) : FVec F S20480x2048 .f32 :=
  summed (tokens xc) (gates mp) (glu (projected (tokens y) w))

set_option maxRecDepth 8192 in
/-- The reference's run, its result read as that function of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Cert.GluRefIdeal.Value.run m ρ)

/-! ## At an index, over the extended reals -/

theorem tokens_at (x : FVec Ideal S20480x2048 .f32) (r : Fin 17408) (d : Fin 2048) :
    tokens x (ix2 r d) = x (ix2 ⟨r.val, by omega⟩ d) := by
  unfold tokens
  pointwise

theorem latent_gate (mp : FVec Ideal S4x8x6x1x2048 .f32) (b : Fin 4) (t : Fin 4096) (d : Fin 2048) :
    broadcastInDim S4x4096x2048 ![0, 1, 2] bcast_S4x1x2048_S4x4096x2048_0_1_2
      (shapeCast S4x1x2048 (extractStridedSlice S1x4x1x1x2048 ![1, 0, 2, 0, 0] mp slices_S4x8x6x1x2048_S1x4x1x1x2048_1_0_2_0_0)
        shapeCasts_S1x4x1x1x2048_S4x1x2048) (ix3 b t d) = mp (ix5 1 ⟨b.val, by omega⟩ 2 0 d) := by
  pointwise

theorem context_gate (mp : FVec Ideal S4x8x6x1x2048 .f32) (t : Fin 1024) (d : Fin 2048) :
    broadcastInDim S1024x2048 ![0, 1] bcast_S1x2048_S1024x2048_0_1
      (shapeCast S1x2048 (extractStridedSlice S1x1x1x1x2048 ![1, 4, 2, 0, 0] mp slices_S4x8x6x1x2048_S1x1x1x1x2048_1_4_2_0_0)
        shapeCasts_S1x1x1x1x2048_S1x2048) (ix2 t d) = mp (ix5 1 4 2 0 d) := by
  pointwise

theorem gates_at (mp : FVec Ideal S4x8x6x1x2048 .f32) (r : Fin 17408) (d : Fin 2048) :
    gates mp (ix2 r d) = mp (ix5 1 ⟨r.val / 4096, by omega⟩ 2 0 d) := by
  unfold gates
  refine (stacked_at _ _ r d).trans ?_
  split
  · exact latent_gate mp _ _ d
  · next h =>
    have h2 : (⟨r.val / 4096, by omega⟩ : Fin 8) = 4 := Fin.ext (by simp only; omega)
    rw [h2]
    exact context_gate mp _ d

theorem projected_at (y : FVec Ideal S17408x2048 .f32) (w : FVec Ideal S2048x4096 .f32) (r : Fin 17408) (n : Fin 4096) :
    projected y w (ix2 r n) = ∑ d : Fin 2048, y (ix2 r d) * w (ix2 d n) := by
  unfold projected
  pointwise [dot_S17408x2048_S2048x4096_S17408x4096_1_0_0_1_n_n]

theorem glu_at (p : FVec Ideal S17408x4096 .f32) (r : Fin 17408) (n : Fin 2048) :
    glu p (ix2 r n) = p (ix2 r ⟨n.val, by omega⟩) * Ideal.logistic (p (ix2 r ⟨2048 + n.val, by omega⟩)) := by
  unfold glu
  pointwise
  rfl

theorem summed_at (x g p : FVec Ideal S17408x2048 .f32) (r : Fin 17408) (n : Fin 2048) :
    summed x g p (ix2 ⟨r.val, by omega⟩ n) = x (ix2 r n) + g (ix2 r n) * p (ix2 r n) := by
  unfold summed
  pointwise

/-- A number plus, under a gate, a row's product with one column times the logistic of its product with another. -/
def gluOf (x g : EReal) (y v w : Fin 2048 → EReal) : EReal :=
  x + g * ((∑ d, y d * v d) * Ideal.logistic (∑ d, y d * w d))

/-- The array at a token's row. -/
theorem result_at (y xc : FVec Ideal S20480x2048 .f32) (mp : FVec Ideal S4x8x6x1x2048 .f32) (w : FVec Ideal S2048x4096 .f32)
    (r : Fin 17408) (n : Fin 2048) :
    result y xc mp w (ix2 ⟨r.val, by omega⟩ n)
      = gluOf (xc (ix2 ⟨r.val, by omega⟩ n)) (mp (ix5 1 ⟨r.val / 4096, by omega⟩ 2 0 n)) (fun d => y (ix2 ⟨r.val, by omega⟩ d))
          (fun d => w (ix2 d ⟨n.val, by omega⟩)) (fun d => w (ix2 d ⟨2048 + n.val, by omega⟩)) := by
  unfold result gluOf
  rw [summed_at, glu_at, gates_at, projected_at, projected_at]
  simp only [tokens_at]

end Cert.Proof.GluRef

end
-- ==== Proof.GluBody.lean ====
/-
  What one grid point of the scan layer's gated output stores.
-/
module

public import proofs.«01_k».proof.Proof.Loads
public import proofs.«01_k».proof.Proof.GluRef
public import proofs.«01_k».proof.Proof.Gen.GluIdeal.Frame

@[expose] public section

noncomputable section

namespace Cert.Proof.Glu

open Idealize.ShloMosaic Idealize.SL.Sem Cert.GluIdeal
open Cert.GluIdeal.Gen Idealize.ShloMosaic.TcCoe
open Cert.Proof.GluRef (gluOf)
open Cert.Proof.Loads (load_held load_stored off2 off5)

section
variable {F : FTy → Type} [FloatOps F]
variable (c : Dev nD) (i : grid0.Coords)
    (arg2 : Memref sig .tc .vmem S512x2048 .f32) (harg2 : arg2.IsWhole)
    (arg3 : Memref sig .tc .vmem S2048x1024 .bf16) (harg3 : arg3.IsWhole)
    (arg4 : Memref sig .tc .vmem S2048x1024 .bf16) (harg4 : arg4.IsWhole)
    (arg5 : Memref sig .tc .vmem S512x1024 .f32) (harg5 : arg5.IsWhole)
    (arg6 : Memref sig .tc .vmem S1x1x1x1x1024 .f32) (harg6 : arg6.IsWhole)
    (arg7 : Memref sig .tc .vmem S512x1024 .f32) (harg7 : arg7.IsWhole)
    (arg8 : Memref sig .tc .vmem S512x2048 .bf16) (harg8 : arg8.IsWhole)
    (x0 : Vec F S512x2048 .f32) (x1 x2 : Vec F S2048x1024 .bf16) (x3 : Vec F S512x1024 .f32) (x4 : Vec F S1x1x1x1x1024 .f32)
    (y : Vec F S512x2048 .bf16)

/-- A grid point that is the first of its rows leaves them in the scratch -/
theorem scratchA (hc0 : cond0_0 i) :
    sout0_A_0 c i arg2 harg2 arg3 harg3 arg4 harg4 arg5 harg5 arg6 harg6 arg7 harg7 arg8 harg8 hc0 x0 x1 x2 x3 x4
      = k0_pay1 x0 := by
  unfold sout0_A_0
  rw [View.read_writes_junk_eq_canon]
  have h : (kernelRun0_A c i arg2 harg2 arg3 harg3 arg4 harg4 arg5 harg5 arg6 harg6 arg7 harg7 arg8 harg8 hc0 x0 x1 x2 x3 x4).2.1
      = [⟨Rect.unit ![0, 0] S512x2048.size inb_S512x2048_S512x2048_0_0, k0_pay1 (View.readAt (Elt F) arg2.view (Rect.unit ![0, 0] S512x2048.size inb_S512x2048_S512x2048_0_0).toLoadRect (harg2.unread x0))⟩] := rfl
  rw [h, load_held arg2 harg2 off2]
  exact View.canon_cons_unit_zero off2 _ _ _

/-- and stores its block of the output from them; -/
theorem outA_5 (hc0 : cond0_0 i) :
    out0_A_5 c i arg2 harg2 arg3 harg3 arg4 harg4 arg5 harg5 arg6 harg6 arg7 harg7 arg8 harg8 hc0 x0 x1 x2 x3 x4
      = k0_pay2 (k0_pay1 x0) x1 x2 x3 x4 := by
  unfold out0_A_5
  rw [View.read_writes_junk_eq_canon]
  have h : (kernelRun0_A c i arg2 harg2 arg3 harg3 arg4 harg4 arg5 harg5 arg6 harg6 arg7 harg7 arg8 harg8 hc0 x0 x1 x2 x3 x4).1
      = [⟨Rect.unit ![0, 0] S512x1024.size inb_S512x1024_S512x1024_0_0, k0_pay2
          (arg8.view.readCov [⟨Rect.unit ![0, 0] S512x2048.size inb_S512x2048_S512x2048_0_0, k0_pay1 (View.readAt (Elt F) arg2.view (Rect.unit ![0, 0] S512x2048.size inb_S512x2048_S512x2048_0_0).toLoadRect (harg2.unread x0))⟩]
            (Rect.unit ![0, 0] S512x2048.size inb_S512x2048_S512x2048_0_0).toLoadRect)
          (View.readAt (Elt F) arg3.view (Rect.unit ![0, 0] S2048x1024.size inb_S2048x1024_S2048x1024_0_0).toLoadRect (harg3.unread x1))
          (View.readAt (Elt F) arg4.view (Rect.unit ![0, 0] S2048x1024.size inb_S2048x1024_S2048x1024_0_0).toLoadRect (harg4.unread x2))
          (View.readAt (Elt F) arg5.view (Rect.unit ![0, 0] S512x1024.size inb_S512x1024_S512x1024_0_0).toLoadRect (harg5.unread x3))
          (View.readAt (Elt F) arg6.view (Rect.unit ![0, 0, 0, 0, 0] S1x1x1x1x1024.size inb_S1x1x1x1x1024_S1x1x1x1x1024_0_0_0_0_0).toLoadRect (harg6.unread x4))⟩] := rfl
  rw [h, load_held arg2 harg2 off2, load_held arg3 harg3 off2, load_held arg4 harg4 off2, load_held arg5 harg5 off2, load_held arg6 harg6 off5, load_stored _ off2]
  exact View.canon_cons_unit_zero off2 _ _ _

/-- the other stores its block from the rows it finds there. -/
theorem outB_5 (hc0 : ¬cond0_0 i) :
    out0_B_5 c i arg2 harg2 arg3 harg3 arg4 harg4 arg5 harg5 arg6 harg6 arg7 harg7 arg8 harg8 hc0 x0 x1 x2 x3 x4 y
      = k0_pay2 y x1 x2 x3 x4 := by
  unfold out0_B_5
  rw [View.read_writes_junk_eq_canon]
  have h : (kernelRun0_B c i arg2 harg2 arg3 harg3 arg4 harg4 arg5 harg5 arg6 harg6 arg7 harg7 arg8 harg8 hc0 x0 x1 x2 x3 x4 y).1
      = [⟨Rect.unit ![0, 0] S512x1024.size inb_S512x1024_S512x1024_0_0, k0_pay2
          (View.readAt (Elt F) arg8.view (Rect.unit ![0, 0] S512x2048.size inb_S512x2048_S512x2048_0_0).toLoadRect (harg8.unread y))
          (View.readAt (Elt F) arg3.view (Rect.unit ![0, 0] S2048x1024.size inb_S2048x1024_S2048x1024_0_0).toLoadRect (harg3.unread x1))
          (View.readAt (Elt F) arg4.view (Rect.unit ![0, 0] S2048x1024.size inb_S2048x1024_S2048x1024_0_0).toLoadRect (harg4.unread x2))
          (View.readAt (Elt F) arg5.view (Rect.unit ![0, 0] S512x1024.size inb_S512x1024_S512x1024_0_0).toLoadRect (harg5.unread x3))
          (View.readAt (Elt F) arg6.view (Rect.unit ![0, 0, 0, 0, 0] S1x1x1x1x1024.size inb_S1x1x1x1x1024_S1x1x1x1x1024_0_0_0_0_0).toLoadRect (harg6.unread x4))⟩] := rfl
  rw [h, load_held arg8 harg8 off2, load_held arg3 harg3 off2, load_held arg4 harg4 off2, load_held arg5 harg5 off2, load_held arg6 harg6 off5]
  exact View.canon_cons_unit_zero off2 _ _ _

end

/-! ## At an index, over the extended reals -/

theorem pay1_at (x : FVec Ideal S512x2048 .f32) (i : Fin 512) (d : Fin 2048) :
    k0_pay1 (F := Ideal) x (ix2 i d) = x (ix2 i d) := by
  unfold k0_pay1
  pointwise

theorem pay2_at (h : FVec Ideal S512x2048 .bf16) (v w : FVec Ideal S2048x1024 .bf16) (x : FVec Ideal S512x1024 .f32)
    (g : FVec Ideal S1x1x1x1x1024 .f32) (i : Fin 512) (n : Fin 1024) :
    k0_pay2 (F := Ideal) h v w x g (ix2 i n)
      = gluOf (x (ix2 i n)) (g (ix5 0 0 0 0 n)) (fun d => h (ix2 i d)) (fun d => v (ix2 d n)) (fun d => w (ix2 d n)) := by
  unfold k0_pay2 gluOf
  pointwise [dot_S512x2048_S2048x1024_S512x1024_1_0_0_1_n_n]

end Cert.Proof.Glu

end
-- ==== Proof.GluArray.lean ====
/-
  The array the scan layer's gated output leaves, on the rows of tokens: `gluOf` of a token's number, its gate, the row it is
  projected from and the two columns.
-/
module

public import proofs.«01_k».proof.Proof.GluBody
public import proofs.«01_k».proof.Proof.Gen.GluIdeal.Value
public import Idealize.ShloMosaic.Lib.Pipeline.ValueKit.Geometry

@[expose] public section

noncomputable section

namespace Cert.Proof.Glu

open Idealize.ShloMosaic Idealize.SL.Sem Cert.GluIdeal
open Cert.GluIdeal.Gen Idealize.ShloMosaic.TcCoe
open Cert.Proof.GluRef (gluOf)

/-- The blocks' indices at a grid point: the rows of point `t` are block `t / 2`, under gate `t / 16`, and the columns are
    block `t % 2`, of each half of the weights. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![0, 2 + t.val % 2] := (by decide +kernel : ∀ t : Fin grid0.N, _)
theorem index3 : ∀ t : Fin cfg0.N, win0_3.index t = ![t.val / 2, t.val % 2] := (by decide +kernel : ∀ t : Fin grid0.N, _)
theorem index4 : ∀ t : Fin cfg0.N, win0_4.index t = ![1, t.val / 16, 2, 0, t.val % 2] := (by decide +kernel : ∀ t : Fin grid0.N, _)
theorem index5 : ∀ t : Fin cfg0.N, win0_5.index t = ![t.val / 2, t.val % 2] := (by decide +kernel : ∀ t : Fin grid0.N, _)

theorem flush5 : ∀ t : Fin cfg0.N, (cfg0.win 5).flush t = true :=
  (by decide +kernel : ∀ t : Fin grid0.N, (cfg0.win 5).flush t = true)

section
variable {F : FTy → Type} [FloatOps F]
variable (m : (ℓ : Loc nD τ sig) → Buf (Elt F) ℓ) (c : Dev nD)

/-- The first grid point of a block of rows. -/
def firstPoint (t : Fin cfg0.N) : Fin cfg0.N := ⟨t.val - t.val % 2, Nat.lt_of_le_of_lt (Nat.sub_le _ _) t.isLt⟩

theorem firstPoint_even (t : Fin cfg0.N) (h0 : t.val % 2 = 0) : firstPoint t = t :=
  Fin.ext (by show t.val - t.val % 2 = t.val; omega)

/-- What the point before an odd one left in the scratch. -/
theorem kept (t : Fin cfg0.N) (h0 : ¬t.val % 2 = 0) :
    (outsAt0 m c (t.val - 1) (Nat.lt_of_le_of_lt (Nat.sub_le _ _) t.isLt)).2 = k0_pay1 (iblk m c 0 (firstPoint t)) := by
  have hp : (firstPoint t).val % 2 = 0 := by show (t.val - t.val % 2) % 2 = 0; omega
  have e : (⟨t.val - 1, Nat.lt_of_le_of_lt (Nat.sub_le _ _) t.isLt⟩ : Fin cfg0.N) = firstPoint t :=
    Fin.ext (by show t.val - 1 = t.val - t.val % 2; omega)
  have hs : outsAt0 m c (t.val - 1) (Nat.lt_of_le_of_lt (Nat.sub_le _ _) t.isLt) = outsAt0 m c (firstPoint t).val (firstPoint t).isLt := by
    congr 1
    exact congrArg Fin.val e
  rw [hs, outsAt0_A m c (firstPoint t) hp]
  dsimp only
  rw [scratchA]

/-- What point `t` writes back. -/
theorem flushed5_eq (t : Fin cfg0.N) :
    (dats m 0 c).flushed 5 t = (cfg0.win 5).cut (grid0.coords t)
      (k0_pay2 (k0_pay1 (iblk m c 0 (firstPoint t))) (iblk m c 1 t) (iblk m c 2 t) (iblk m c 3 t) (iblk m c 4 t)) := by
  by_cases h0 : t.val % 2 = 0
  · rw [Value.flushed5_A m c t h0, outA_5, firstPoint_even t h0]
  · rw [Value.flushed5_B m c t h0, outB_5, kept m c t h0]

end

variable (m : (ℓ : Loc nD τ sig) → Buf (Elt Ideal) ℓ) (c : Dev nD)

/-- The blocks a point reads, as parts of the arguments. -/
theorem block0 (t : Fin cfg0.N) (i : Fin 512) (d : Fin 2048) :
    iblk m c 0 t (ix2 i d) = m ((c.tc : Thread nD τ).loc main_arg0)
      (ix2 ⟨t.val / 2 * 512 + i.val, by have := t.isLt; have : cfg0.N = 68 := N_0; omega⟩ d) := by
  blk_simp [iblk, V_main_arg0]
  blk_ext [index0]

/-- The weights, cast on the way in, are the argument. -/
theorem weights_eq (d : Fin 2048) (n : Fin 4096) :
    (V m c main_v0 (ix2 d n) : EReal) = m ((c.tc : Thread nD τ).loc main_arg3) (ix2 d n) := rfl

theorem block1 (t : Fin cfg0.N) (d : Fin 2048) (n : Fin 1024) :
    (iblk m c 1 t (ix2 d n) : EReal) = m ((c.tc : Thread nD τ).loc main_arg3) (ix2 d ⟨t.val % 2 * 1024 + n.val, by omega⟩) := by
  refine Eq.trans ?_ (weights_eq m c d ⟨t.val % 2 * 1024 + n.val, by omega⟩)
  blk_simp [iblk]
  blk_ext [index1]

theorem block2 (t : Fin cfg0.N) (d : Fin 2048) (n : Fin 1024) :
    (iblk m c 2 t (ix2 d n) : EReal) = m ((c.tc : Thread nD τ).loc main_arg3) (ix2 d ⟨(2 + t.val % 2) * 1024 + n.val, by omega⟩) := by
  refine Eq.trans ?_ (weights_eq m c d ⟨(2 + t.val % 2) * 1024 + n.val, by omega⟩)
  blk_simp [iblk]
  blk_ext [index2]

theorem block3 (t : Fin cfg0.N) (i : Fin 512) (n : Fin 1024) :
    iblk m c 3 t (ix2 i n) = m ((c.tc : Thread nD τ).loc main_arg1)
      (ix2 ⟨t.val / 2 * 512 + i.val, by have := t.isLt; have : cfg0.N = 68 := N_0; omega⟩ ⟨t.val % 2 * 1024 + n.val, by omega⟩) := by
  blk_simp [iblk, V_main_arg1]
  blk_ext [index3]

theorem block4 (t : Fin cfg0.N) (n : Fin 1024) :
    iblk m c 4 t (ix5 0 0 0 0 n) = m ((c.tc : Thread nD τ).loc main_arg2)
      (ix5 1 ⟨t.val / 16, by have := t.isLt; have : cfg0.N = 68 := N_0; omega⟩ 2 0 ⟨t.val % 2 * 1024 + n.val, by omega⟩) := by
  blk_simp [iblk, V_main_arg2]
  blk_ext [index4]

/-- The grid point of a row and a column. -/
def pointOf (r : Fin 17408) (n : Fin 2048) : Fin cfg0.N :=
  ⟨r.val / 512 * 2 + n.val / 1024, by have : cfg0.N = 68 := N_0; omega⟩

/-- The array after the run, at a token's row. -/
theorem final5_at (r : Fin 17408) (n : Fin 2048) :
    ((dats m 0 c).arrAt 5 cfg0.N (ix2 ⟨r.val, by omega⟩ n) : EReal)
      = gluOf (m ((c.tc : Thread nD τ).loc main_arg1) (ix2 ⟨r.val, by omega⟩ n))
          (m ((c.tc : Thread nD τ).loc main_arg2) (ix5 1 ⟨r.val / 4096, by omega⟩ 2 0 n))
          (fun d => m ((c.tc : Thread nD τ).loc main_arg0) (ix2 ⟨r.val, by omega⟩ d))
          (fun d => m ((c.tc : Thread nD τ).loc main_arg3) (ix2 d ⟨n.val, by omega⟩))
          (fun d => m ((c.tc : Thread nD τ).loc main_arg3) (ix2 d ⟨2048 + n.val, by omega⟩)) := by
  have hp : (pointOf r n).val = r.val / 512 * 2 + n.val / 1024 := rfl
  have hf : (firstPoint (pointOf r n)).val = r.val / 512 * 2 := by
    show (r.val / 512 * 2 + n.val / 1024) - (r.val / 512 * 2 + n.val / 1024) % 2 = _
    omega
  have he : (ix2 ⟨r.val, by omega⟩ n : S20480x2048.Idx)
      = ((cfg0.win 5).blk (pointOf r n)).view.emb (ix2 ⟨r.val % 512, by omega⟩ ⟨n.val % 1024, by omega⟩ : S512x1024.Idx) := by
    blk_ext [index5, hp]
  have h0 : (⟨(firstPoint (pointOf r n)).val / 2 * 512 + r.val % 512, by rw [hf]; omega⟩ : Fin 20480) = ⟨r.val, by omega⟩ :=
    Fin.ext (by simp only [hf]; omega)
  have h1 : (⟨(pointOf r n).val % 2 * 1024 + n.val % 1024, by omega⟩ : Fin 4096) = ⟨n.val, by omega⟩ :=
    Fin.ext (by simp only [hp]; omega)
  have h2 : (⟨(2 + (pointOf r n).val % 2) * 1024 + n.val % 1024, by omega⟩ : Fin 4096) = ⟨2048 + n.val, by omega⟩ :=
    Fin.ext (by simp only [hp]; omega)
  have h3 : (⟨(pointOf r n).val / 2 * 512 + r.val % 512, by rw [hp]; omega⟩ : Fin 20480) = ⟨r.val, by omega⟩ :=
    Fin.ext (by simp only [hp]; omega)
  have h4 : (⟨(pointOf r n).val % 2 * 1024 + n.val % 1024, by omega⟩ : Fin 2048) = n := Fin.ext (by simp only [hp]; omega)
  have h5 : (⟨(pointOf r n).val / 16, by rw [hp]; omega⟩ : Fin 8) = ⟨r.val / 4096, by omega⟩ :=
    Fin.ext (by simp only [hp]; omega)
  rw [he, (dats m 0 c).arrAt_emb_eq_flushed 5 Value.disjoint5 (pointOf r n) (flush5 _), flushed5_eq, ← he]
  refine (pay2_at _ _ _ _ _ ⟨r.val % 512, by omega⟩ ⟨n.val % 1024, by omega⟩).trans ?_
  simp only [pay1_at, block0, block1, block2, block3, block4]
  rw [h0, h1, h2, h3, h4, h5]

end Cert.Proof.Glu

end
-- ==== Proof.Glu.lean ====
/-
  The claims about the scan layer's gated output: the reference's frame, and that kernel and reference end with the same array on
  the rows of tokens.
-/
module

public import proofs.«01_k».proof.Proof.GluArray
public import proofs.«01_k».proof.Proof.GluRef
public import proofs.«01_k».proof.Proof.Rows
public import proofs.«01_k».proof.Defs
public import Idealize.ShloMosaic.Lib.Claim

@[expose] public section

noncomputable section

namespace Cert.Proof.Glu

open Idealize.ShloMosaic
open Cert.Proof.GluRef (result result_at)

theorem frame_ri : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩)
    (Cert.GluRefIdeal.Value.run (F := Ideal) m ρ)

theorem on_facts : Cert.On_glu_rows.Facts := ⟨by decide⟩

/-- The mask holds on the rows of tokens alone. -/
theorem row_lt [Cert.On_glu_rows.Facts] (a : FVec Ideal Cert.On_glu_rows.S20480x2048 .f32) (b : FVec Ideal Cert.On_glu_rows.S20480x2048 .f32) (c : FVec Ideal Cert.On_glu_rows.S4x8x6x1x2048 .f32) (d : FVec Ideal Cert.On_glu_rows.S2048x4096 .f32)
    (i : Fin 20480) (x : Fin 2048) (h : Cert.On_glu_rows.fn (F := Ideal) a b c d (ix2 i x) = 1#1) : i.val < 17408 := by
  have e : Cert.On_glu_rows.fn (F := Ideal) a b c d (ix2 i x) = IntOp.cmpi .slt (BitVec.ofNat 32 i.val) 17408#32 := by
    unfold Cert.On_glu_rows.fn
    pointwise
  exact Rows.lt_of_slt i.val 17408 i.isLt (by omega) (e.symm.trans h)

section
variable (m : (ℓ : Loc Cert.GluIdeal.nD Cert.GluIdeal.τ Cert.GluIdeal.sig) → Buf (Elt Ideal) ℓ) (c : Dev Cert.GluIdeal.nD)

/-- On the rows of tokens the kernel's array is the reference's. -/
theorem result_eq (i : Fin 20480) (n : Fin 2048) (hi : i.val < 17408) :
    ((Cert.GluIdeal.Gen.dats m 0 c).arrAt 5 Cert.GluIdeal.cfg0.N (ix2 i n) : EReal)
      = result (F := Ideal) (m ((c.tc : Thread Cert.GluIdeal.nD Cert.GluIdeal.τ).loc Cert.GluIdeal.main_arg0)) (m ((c.tc : Thread Cert.GluIdeal.nD Cert.GluIdeal.τ).loc Cert.GluIdeal.main_arg1))
          (m ((c.tc : Thread Cert.GluIdeal.nD Cert.GluIdeal.τ).loc Cert.GluIdeal.main_arg2)) (m ((c.tc : Thread Cert.GluIdeal.nD Cert.GluIdeal.τ).loc Cert.GluIdeal.main_arg3)) (ix2 i n) :=
  (final5_at m c ⟨i.val, hi⟩ n).trans (result_at _ _ _ _ ⟨i.val, hi⟩ n).symm

end

theorem algebraic : Cert.algebraic_GluIdeal_GluRefIdeal_on_glu_rows
    (hGluIdeal := Cert.GluIdeal.Gen.facts) (hGluRefIdeal := Cert.GluRefIdeal.Gen.facts)
    (hOn_glu_rows := on_facts) := by
  intro m g m' g' _ hagree
  refine ⟨fun c => (Cert.GluIdeal.Gen.dats m 0 c).arrAt 5 Cert.GluIdeal.cfg0.N, ?_, ?_⟩
  · exact (θ_run Cert.GluIdeal.defs _ _).mono (fun r h c => ⟨fun i _ => congrFun (h c).1 i, (h c).2⟩)
      (Cert.GluIdeal.Value.run_blocks (F := Ideal) m g)
  · letI := on_facts
    refine (θ_run Cert.GluRefIdeal.defs _ _).mono (fun r h c => ⟨fun i hi => (congrFun (h c).1 i).trans ?_, (h c).2⟩)
      (Cert.Proof.GluRef.run (F := Ideal) m' g')
    obtain ⟨x, y, rfl⟩ : ∃ (x : Fin 20480) (y : Fin 2048), i = ix2 x y := ⟨i 0, i 1, by funext a; fin_cases a <;> rfl⟩
    obtain ⟨h0, h1, h2, h3⟩ := hagree c
    rw [h0, h1, h2, h3]
    exact (result_eq m c x y (row_lt (m ((c.tc : Thread Cert.GluIdeal.nD Cert.GluIdeal.τ).loc Cert.GluIdeal.main_arg0))
      (m ((c.tc : Thread Cert.GluIdeal.nD Cert.GluIdeal.τ).loc Cert.GluIdeal.main_arg1))
      (m ((c.tc : Thread Cert.GluIdeal.nD Cert.GluIdeal.τ).loc Cert.GluIdeal.main_arg2))
      (m ((c.tc : Thread Cert.GluIdeal.nD Cert.GluIdeal.τ).loc Cert.GluIdeal.main_arg3)) x y hi)).symm

end Cert.Proof.Glu

end
-- ==== Proof.AttnOutRef.lean ====
/-
  What the reference of the attention's output projection computes, on the latents alone: its array as a function of the
  arguments, in its own operations, and then at an index over the extended reals.
-/
module

public import proofs.«01_k».proof.Proof.ConvLastRef
public import proofs.«01_k».proof.Proof.Gen.AttnOutRefIdeal.Run

@[expose] public section

noncomputable section

namespace Cert.Proof.AttnOutRef

open Idealize.ShloMosaic Idealize.SL.Sem Cert.AttnOutRefIdeal
open Cert.AttnOutRefIdeal.Gen Idealize.ShloMosaic.TcCoe
open Cert.AttnOutRefIdeal.Facts
open Cert.Proof.ConvInRef (latents latents_at)
open Cert.Proof.ConvLastRef (flat flat_at)

variable {F : FTy → Type} [FloatOps F]

/-- The attention's rows times the weights, by batch and position. -/
def projected (o : FVec F S20480x2048 .bf16) (w : FVec F S2048x2048 .f32) : FVec F S4x4096x2048 .f32 :=
  shapeCast _ (Host.dotGeneral dot_S16384x2048_S2048x2048_S16384x2048_1_0_0_1_n_n none
    (extf .f32 (extractStridedSlice S16384x2048 ![0, 0] o slices_S20480x2048_S16384x2048_0_0) bitsLt_bf16_f32) w)
    shapeCasts_S16384x2048_S4x4096x2048

/-- The latents plus, under their batch's gate, their projected rows. -/
def summed (x : FVec F S4x4096x2048 .f32) (mp : FVec F S4x8x6x1x2048 .f32) (p : FVec F S4x4096x2048 .f32) : FVec F S4x4096x2048 .f32 :=
  addf x (mulf (broadcastInDim S4x4096x2048 ![0, 1, 2] bcast_S4x1x2048_S4x4096x2048_0_1_2
    (shapeCast _ (extractStridedSlice S1x4x1x1x2048 ![2, 0, 2, 0, 0] mp slices_S4x8x6x1x2048_S1x4x1x1x2048_2_0_2_0_0)
      shapeCasts_S1x4x1x1x2048_S4x1x2048)) p)

/-- Rows over zeros. -/
def padded (y : FVec F S16384x2048 .f32) : FVec F S20480x2048 .f32 :=
  pad S20480x2048 ![0, 0] ![4096, 0] ![0, 0] y (sitofp .f32 (constantI S_ 32 0#32)) pads_S16384x2048_S20480x2048_040960_000 h_S_

/-- The array. -/
def result (o : FVec F S20480x2048 .bf16) (xc : FVec F S20480x2048 .f32) (mp : FVec F S4x8x6x1x2048 .f32)
    (w : FVec F S2048x2048 .f32) : FVec F S20480x2048 .f32 :=
  padded (flat (summed (latents xc) mp (projected o w)))

set_option maxRecDepth 8192 in
/-- The reference's run, its result read as that function of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Cert.AttnOutRefIdeal.Value.run m ρ)

/-! ## At an index, over the extended reals -/

theorem projected_at (o : FVec Ideal S20480x2048 .bf16) (w : FVec Ideal S2048x2048 .f32) (b : Fin 4) (t : Fin 4096) (n : Fin 2048) :
    projected o w (ix3 b t n) = ∑ d : Fin 2048, o (ix2 ⟨b.val * 4096 + t.val, by omega⟩ d) * w (ix2 d n) := by
  unfold projected
  pointwise [dot_S16384x2048_S2048x2048_S16384x2048_1_0_0_1_n_n]

theorem summed_at (x : FVec Ideal S4x4096x2048 .f32) (mp : FVec Ideal S4x8x6x1x2048 .f32) (p : FVec Ideal S4x4096x2048 .f32)
    (b : Fin 4) (t : Fin 4096) (n : Fin 2048) :
    summed x mp p (ix3 b t n) = x (ix3 b t n) + mp (ix5 2 ⟨b.val, by omega⟩ 2 0 n) * p (ix3 b t n) := by
  unfold summed
  pointwise

theorem padded_at (y : FVec Ideal S16384x2048 .f32) (r : Fin 16384) (n : Fin 2048) :
    padded y (ix2 ⟨r.val, by omega⟩ n) = y (ix2 r n) := by
  unfold padded
  pointwise

/-- A number plus, under a gate, a row's product with a column. -/
def sumOf (x g : EReal) (o w : Fin 2048 → EReal) : EReal := x + g * ∑ d, o d * w d

/-- The array at a latent's row. -/
theorem result_at (o : FVec Ideal S20480x2048 .bf16) (xc : FVec Ideal S20480x2048 .f32) (mp : FVec Ideal S4x8x6x1x2048 .f32)
    (w : FVec Ideal S2048x2048 .f32) (r : Fin 16384) (n : Fin 2048) :
    result o xc mp w (ix2 ⟨r.val, by omega⟩ n)
      = sumOf (xc (ix2 ⟨r.val, by omega⟩ n)) (mp (ix5 2 ⟨r.val / 4096, by omega⟩ 2 0 n)) (fun d => o (ix2 ⟨r.val, by omega⟩ d))
          (fun d => w (ix2 d n)) := by
  have h1 : (⟨r.val / 4096 * 4096 + r.val % 4096, by omega⟩ : Fin 20480) = ⟨r.val, by omega⟩ := Fin.ext (by simp only; omega)
  unfold result sumOf
  rw [padded_at]
  refine (flat_at _ r n).trans ?_
  rw [summed_at, projected_at]
  refine (congrArg (fun x : EReal => x + _) (latents_at xc _ _ n)).trans ?_
  rw [h1]

end Cert.Proof.AttnOutRef

end
-- ==== Proof.AttnOutBody.lean ====
/-
  What one grid point of the attention's output projection stores.
-/
module

public import proofs.«01_k».proof.Proof.Loads
public import proofs.«01_k».proof.Proof.AttnOutRef
public import proofs.«01_k».proof.Proof.Gen.AttnOutIdeal.Frame

@[expose] public section

noncomputable section

namespace Cert.Proof.AttnOut

open Idealize.ShloMosaic Idealize.SL.Sem Cert.AttnOutIdeal
open Cert.AttnOutIdeal.Gen Idealize.ShloMosaic.TcCoe
open Cert.Proof.AttnOutRef (sumOf)
open Cert.Proof.Loads (load_held load_stored off2 off5)

section
variable {F : FTy → Type} [FloatOps F]
variable (c : Dev nD) (i : grid0.Coords)
    (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole)
    (arg5 : Memref sig .tc .vmem S1x1x1x1x2048 .f32) (harg5 : arg5.IsWhole)
    (arg6 : Memref sig .tc .vmem S512x2048 .f32) (harg6 : arg6.IsWhole)
    (arg7 : Memref sig .tc .vmem S512x2048 .bf16) (harg7 : arg7.IsWhole)
    (x0 : Vec F S512x2048 .bf16) (x1 : Vec F S2048x2048 .bf16) (x2 : Vec F S512x2048 .f32) (x3 : Vec F S1x1x1x1x2048 .f32)

/-- A grid point copies its rows to the scratch and stores its block of the output from them. -/
theorem outA_4 (hc0 : cond0_0 i) :
    out0_A_4 c i arg2 harg2 arg3 harg3 arg4 harg4 arg5 harg5 arg6 harg6 arg7 harg7 hc0 x0 x1 x2 x3
      = k0_pay2 (k0_pay1 x0) x1 x2 x3 := by
  unfold out0_A_4
  rw [View.read_writes_junk_eq_canon]
  have h : (kernelRun0_A c i arg2 harg2 arg3 harg3 arg4 harg4 arg5 harg5 arg6 harg6 arg7 harg7 hc0 x0 x1 x2 x3).1
      = [⟨Rect.unit ![0, 0] S512x2048.size inb_S512x2048_S512x2048_0_0, k0_pay2
          (arg7.view.readCov [⟨Rect.unit ![0, 0] S512x2048.size inb_S512x2048_S512x2048_0_0, k0_pay1 (View.readAt (Elt F) arg2.view (Rect.unit ![0, 0] S512x2048.size inb_S512x2048_S512x2048_0_0).toLoadRect (harg2.unread x0))⟩]
            (Rect.unit ![0, 0] S512x2048.size inb_S512x2048_S512x2048_0_0).toLoadRect)
          (View.readAt (Elt F) arg3.view (Rect.unit ![0, 0] S2048x2048.size inb_S2048x2048_S2048x2048_0_0).toLoadRect (harg3.unread x1))
          (View.readAt (Elt F) arg4.view (Rect.unit ![0, 0] S512x2048.size inb_S512x2048_S512x2048_0_0).toLoadRect (harg4.unread x2))
          (View.readAt (Elt F) arg5.view (Rect.unit ![0, 0, 0, 0, 0] S1x1x1x1x2048.size inb_S1x1x1x1x2048_S1x1x1x1x2048_0_0_0_0_0).toLoadRect (harg5.unread x3))⟩] := rfl
  rw [h, load_held arg2 harg2 off2, load_held arg3 harg3 off2, load_held arg4 harg4 off2, load_held arg5 harg5 off5, load_stored _ off2]
  exact View.canon_cons_unit_zero off2 _ _ _

end

/-! ## At an index, over the extended reals -/

theorem pay1_at (x : FVec Ideal S512x2048 .bf16) (i : Fin 512) (d : Fin 2048) :
    k0_pay1 (F := Ideal) x (ix2 i d) = x (ix2 i d) := by
  unfold k0_pay1
  pointwise

theorem pay2_at (h : FVec Ideal S512x2048 .bf16) (w : FVec Ideal S2048x2048 .bf16) (x : FVec Ideal S512x2048 .f32)
    (g : FVec Ideal S1x1x1x1x2048 .f32) (i : Fin 512) (n : Fin 2048) :
    k0_pay2 (F := Ideal) h w x g (ix2 i n)
      = sumOf (x (ix2 i n)) (g (ix5 0 0 0 0 n)) (fun d => h (ix2 i d)) (fun d => w (ix2 d n)) := by
  unfold k0_pay2 sumOf
  pointwise [dot_S512x2048_S2048x2048_S512x2048_1_0_0_1_n_n]

end Cert.Proof.AttnOut

end
-- ==== Proof.AttnOutArray.lean ====
/-
  The array the attention's output projection leaves, on the latents' rows: `sumOf` of a latent's number, its gate, the
  attention's row and the column of the weights.
-/
module

public import proofs.«01_k».proof.Proof.AttnOutBody
public import proofs.«01_k».proof.Proof.Gen.AttnOutIdeal.Value
public import Idealize.ShloMosaic.Lib.Pipeline.ValueKit.Geometry

@[expose] public section

noncomputable section

namespace Cert.Proof.AttnOut

open Idealize.ShloMosaic Idealize.SL.Sem Cert.AttnOutIdeal
open Cert.AttnOutIdeal.Gen Idealize.ShloMosaic.TcCoe
open Cert.Proof.AttnOutRef (sumOf)

/-- The blocks' indices at a grid point: the rows of point `t` are block `t`, under gate `t / 8`. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![2, t.val / 8, 2, 0, 0] := (by decide +kernel : ∀ t : Fin grid0.N, _)
theorem index4 : ∀ t : Fin cfg0.N, win0_4.index t = ![t.val, 0] := (by decide +kernel : ∀ t : Fin grid0.N, _)

theorem flush4 : ∀ t : Fin cfg0.N, (cfg0.win 4).flush t = true :=
  (by decide +kernel : ∀ t : Fin grid0.N, (cfg0.win 4).flush t = true)

/-- What point `t` writes back. -/
theorem flushed4_eq {F : FTy → Type} [FloatOps F] (m : (ℓ : Loc nD τ sig) → Buf (Elt F) ℓ) (c : Dev nD) (t : Fin cfg0.N) :
    (dats m 0 c).flushed 4 t = (cfg0.win 4).cut (grid0.coords t)
      (k0_pay2 (k0_pay1 (iblk m c 0 t)) (iblk m c 1 t) (iblk m c 2 t) (iblk m c 3 t)) := by
  rw [Value.flushed4_A m c t, outA_4]

variable (m : (ℓ : Loc nD τ sig) → Buf (Elt Ideal) ℓ) (c : Dev nD)

/-- The blocks a point reads, as parts of the arguments. -/
theorem block0 (t : Fin cfg0.N) (i : Fin 512) (d : Fin 2048) :
    iblk m c 0 t (ix2 i d) = m ((c.tc : Thread nD τ).loc main_arg0)
      (ix2 ⟨t.val * 512 + i.val, by have := t.isLt; have : cfg0.N = 32 := N_0; omega⟩ d) := by
  blk_simp [iblk, V_main_arg0]
  blk_ext [index0]

/-- The weights, cast on the way in, are the argument. -/
theorem weights_eq (d n : Fin 2048) :
    (V m c main_v0 (ix2 d n) : EReal) = m ((c.tc : Thread nD τ).loc main_arg3) (ix2 d n) := rfl

theorem block1 (t : Fin cfg0.N) (d n : Fin 2048) :
    (iblk m c 1 t (ix2 d n) : EReal) = m ((c.tc : Thread nD τ).loc main_arg3) (ix2 d n) := by
  refine Eq.trans ?_ (weights_eq m c d n)
  blk_simp [iblk]
  blk_ext [index1]

theorem block2 (t : Fin cfg0.N) (i : Fin 512) (n : Fin 2048) :
    iblk m c 2 t (ix2 i n) = m ((c.tc : Thread nD τ).loc main_arg1)
      (ix2 ⟨t.val * 512 + i.val, by have := t.isLt; have : cfg0.N = 32 := N_0; omega⟩ n) := by
  blk_simp [iblk, V_main_arg1]
  blk_ext [index2]

theorem block3 (t : Fin cfg0.N) (n : Fin 2048) :
    iblk m c 3 t (ix5 0 0 0 0 n) = m ((c.tc : Thread nD τ).loc main_arg2)
      (ix5 2 ⟨t.val / 8, by have := t.isLt; have : cfg0.N = 32 := N_0; omega⟩ 2 0 n) := by
  blk_simp [iblk, V_main_arg2]
  blk_ext [index3]

/-- The grid point of a row. -/
def pointOf (r : Fin 16384) : Fin cfg0.N := ⟨r.val / 512, by have : cfg0.N = 32 := N_0; omega⟩

/-- The array after the run, at a latent's row. -/
theorem final4_at (r : Fin 16384) (n : Fin 2048) :
    ((dats m 0 c).arrAt 4 cfg0.N (ix2 ⟨r.val, by omega⟩ n) : EReal)
      = sumOf (m ((c.tc : Thread nD τ).loc main_arg1) (ix2 ⟨r.val, by omega⟩ n))
          (m ((c.tc : Thread nD τ).loc main_arg2) (ix5 2 ⟨r.val / 4096, by omega⟩ 2 0 n))
          (fun d => m ((c.tc : Thread nD τ).loc main_arg0) (ix2 ⟨r.val, by omega⟩ d))
          (fun d => m ((c.tc : Thread nD τ).loc main_arg3) (ix2 d n)) := by
  have hp : (pointOf r).val = r.val / 512 := rfl
  have he : (ix2 ⟨r.val, by omega⟩ n : S20480x2048.Idx)
      = ((cfg0.win 4).blk (pointOf r)).view.emb (ix2 ⟨r.val % 512, by omega⟩ n : S512x2048.Idx) := by
    blk_ext [index4, hp]
  have h0 : (⟨(pointOf r).val * 512 + r.val % 512, by rw [hp]; omega⟩ : Fin 20480) = ⟨r.val, by omega⟩ :=
    Fin.ext (by simp only [hp]; omega)
  have h1 : (⟨(pointOf r).val / 8, by rw [hp]; omega⟩ : Fin 8) = ⟨r.val / 4096, by omega⟩ :=
    Fin.ext (by simp only [hp]; omega)
  rw [he, (dats m 0 c).arrAt_emb_eq_flushed 4 Value.disjoint4 (pointOf r) (flush4 _), flushed4_eq, ← he]
  refine (pay2_at _ _ _ _ ⟨r.val % 512, by omega⟩ n).trans ?_
  simp only [pay1_at, block0, block1, block2, block3]
  rw [h0, h1]

end Cert.Proof.AttnOut

end
-- ==== Proof.AttnOut.lean ====
/-
  The claims about the attention's output projection: the reference's frame, and that kernel and reference end with the same array on
  the latents' rows.
-/
module

public import proofs.«01_k».proof.Proof.AttnOutArray
public import proofs.«01_k».proof.Proof.AttnOutRef
public import proofs.«01_k».proof.Proof.Rows
public import proofs.«01_k».proof.Defs
public import Idealize.ShloMosaic.Lib.Claim

@[expose] public section

noncomputable section

namespace Cert.Proof.AttnOut

open Idealize.ShloMosaic
open Cert.Proof.AttnOutRef (result result_at)

theorem frame_ri : Cert.quiescent_AttnOutRefIdeal (hAttnOutRefIdeal := Cert.AttnOutRefIdeal.Gen.facts) := fun m ρ _ =>
  (θ_run Cert.AttnOutRefIdeal.defs _ _).mono (fun r h => ⟨fun c => (h c).2, sem_eq_zero_of_no_sems (by decide) r.2⟩)
    (Cert.AttnOutRefIdeal.Value.run (F := Ideal) m ρ)

theorem on_facts : Cert.On_out_rows.Facts := ⟨by decide⟩

/-- The mask holds on the latents' rows alone. -/
theorem row_lt [Cert.On_out_rows.Facts] (a : FVec Ideal Cert.On_out_rows.S20480x2048 .bf16) (b : FVec Ideal Cert.On_out_rows.S20480x2048 .f32) (c : FVec Ideal Cert.On_out_rows.S4x8x6x1x2048 .f32) (d : FVec Ideal Cert.On_out_rows.S2048x2048 .f32)
    (i : Fin 20480) (x : Fin 2048) (h : Cert.On_out_rows.fn (F := Ideal) a b c d (ix2 i x) = 1#1) : i.val < 16384 := by
  have e : Cert.On_out_rows.fn (F := Ideal) a b c d (ix2 i x) = IntOp.cmpi .slt (BitVec.ofNat 32 i.val) 16384#32 := by
    unfold Cert.On_out_rows.fn
    pointwise
  exact Rows.lt_of_slt i.val 16384 i.isLt (by omega) (e.symm.trans h)

section
variable (m : (ℓ : Loc Cert.AttnOutIdeal.nD Cert.AttnOutIdeal.τ Cert.AttnOutIdeal.sig) → Buf (Elt Ideal) ℓ) (c : Dev Cert.AttnOutIdeal.nD)

/-- On the latents' rows the kernel's array is the reference's. -/
theorem result_eq (i : Fin 20480) (n : Fin 2048) (hi : i.val < 16384) :
    ((Cert.AttnOutIdeal.Gen.dats m 0 c).arrAt 4 Cert.AttnOutIdeal.cfg0.N (ix2 i n) : EReal)
      = result (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1))
          (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (ix2 i n) :=
  (final4_at m c ⟨i.val, hi⟩ n).trans (result_at _ _ _ _ ⟨i.val, hi⟩ n).symm

end

theorem algebraic : Cert.algebraic_AttnOutIdeal_AttnOutRefIdeal_on_out_rows
    (hAttnOutIdeal := Cert.AttnOutIdeal.Gen.facts) (hAttnOutRefIdeal := Cert.AttnOutRefIdeal.Gen.facts)
    (hOn_out_rows := on_facts) := by
  intro m g m' g' _ hagree
  refine ⟨fun c => (Cert.AttnOutIdeal.Gen.dats m 0 c).arrAt 4 Cert.AttnOutIdeal.cfg0.N, ?_, ?_⟩
  · exact (θ_run Cert.AttnOutIdeal.defs _ _).mono (fun r h c => ⟨fun i _ => congrFun (h c).1 i, (h c).2⟩)
      (Cert.AttnOutIdeal.Value.run_blocks (F := Ideal) m g)
  · letI := on_facts
    refine (θ_run Cert.AttnOutRefIdeal.defs _ _).mono (fun r h c => ⟨fun i hi => (congrFun (h c).1 i).trans ?_, (h c).2⟩)
      (Cert.Proof.AttnOutRef.run (F := Ideal) m' g')
    obtain ⟨x, y, rfl⟩ : ∃ (x : Fin 20480) (y : Fin 2048), i = ix2 x y := ⟨i 0, i 1, by funext a; fin_cases a <;> rfl⟩
    obtain ⟨h0, h1, h2, h3⟩ := hagree c
    rw [h0, h1, h2, h3]
    exact (result_eq m c x y (row_lt (m ((c.tc : Thread Cert.AttnOutIdeal.nD Cert.AttnOutIdeal.τ).loc Cert.AttnOutIdeal.main_arg0))
      (m ((c.tc : Thread Cert.AttnOutIdeal.nD Cert.AttnOutIdeal.τ).loc Cert.AttnOutIdeal.main_arg1))
      (m ((c.tc : Thread Cert.AttnOutIdeal.nD Cert.AttnOutIdeal.τ).loc Cert.AttnOutIdeal.main_arg2))
      (m ((c.tc : Thread Cert.AttnOutIdeal.nD Cert.AttnOutIdeal.τ).loc Cert.AttnOutIdeal.main_arg3)) x y hi)).symm

end Cert.Proof.AttnOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.ExpertsRefIdeal.Run
public import proofs.«01_k».proof.Proof.Gen.ExpertsCtx
public import proofs.«01_k».proof.Proof.Gen.ExpertsCtx.Skeleton
public import proofs.«01_k».proof.Proof.Gen.ExpertsCtx.Launch
public import proofs.«01_k».proof.Proof.Gen.ExpertsCtx.Points
public import proofs.«01_k».proof.Proof.Gen.ExpertsCtx.Frame
public import proofs.«01_k».proof.Proof.Gen.ExpertsCtxIdeal
public import proofs.«01_k».proof.Proof.Gen.ExpertsCtxIdeal.Skeleton
public import proofs.«01_k».proof.Proof.Gen.ExpertsCtxIdeal.Launch
public import proofs.«01_k».proof.Proof.Gen.ExpertsCtxIdeal.Points
public import proofs.«01_k».proof.Proof.Gen.ExpertsCtxIdeal.Frame
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ExpertsCtxRefIdeal
public import proofs.«01_k».proof.Proof.Gen.ExpertsCtxRefIdeal.Run
public import proofs.«01_k».proof.Proof.Gen.ConvInRefIdeal
public import proofs.«01_k».proof.Proof.Gen.ConvInRefIdeal.Run
public import proofs.«01_k».proof.Proof.Gen.ConvLast
public import proofs.«01_k».proof.Proof.Gen.ConvLast.Skeleton
public import proofs.«01_k».proof.Proof.Gen.ConvLast.Launch
public import proofs.«01_k».proof.Proof.Gen.ConvLast.Points
public import proofs.«01_k».proof.Proof.Gen.ConvLast.Frame
public import proofs.«01_k».proof.Proof.Gen.ConvLastIdeal
public import proofs.«01_k».proof.Proof.Gen.ConvLastIdeal.Skeleton
public import proofs.«01_k».proof.Proof.Gen.ConvLastIdeal.Launch
public import proofs.«01_k».proof.Proof.Gen.ConvLastIdeal.Points
public import proofs.«01_k».proof.Proof.Gen.ConvLastIdeal.Frame
public import proofs.«01_k».proof.Proof.Gen.ConvLastIdeal.Value
public import proofs.«01_k».proof.Proof.Gen.ConvLastRefIdeal
public import proofs.«01_k».proof.Proof.Gen.ConvLastRefIdeal.Run
public import proofs.«01_k».proof.Proof.Gen.ScanIn
public import proofs.«01_k».proof.Proof.Gen.ScanIn.Skeleton
public import proofs.«01_k».proof.Proof.Gen.ScanIn.Launch
public import proofs.«01_k».proof.Proof.Gen.ScanIn.Points
public import proofs.«01_k».proof.Proof.Gen.ScanIn.Frame
public import proofs.«01_k».proof.Proof.Gen.ScanInIdeal
public import proofs.«01_k».proof.Proof.Gen.ScanInIdeal.Skeleton
public import proofs.«01_k».proof.Proof.Gen.ScanInIdeal.Launch
public import proofs.«01_k».proof.Proof.Gen.ScanInIdeal.Points
public import proofs.«01_k».proof.Proof.Gen.ScanInIdeal.Frame
public import proofs.«01_k».proof.Proof.Gen.ScanInIdeal.Value
public import proofs.«01_k».proof.Proof.Gen.ScanInRefIdeal
public import proofs.«01_k».proof.Proof.Gen.ScanInRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Attention
public import proofs.«01_k».proof.Proof.Moe
public import proofs.«01_k».proof.Proof.MoeCtx
public import proofs.«01_k».proof.Proof.ConvIn
public import proofs.«01_k».proof.Proof.ConvLast
public import proofs.«01_k».proof.Proof.ScanIn
public import proofs.«01_k».proof.Proof.Glu
public import proofs.«01_k».proof.Proof.AttnOut
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsRefIdeal.Gen.facts,
    Cert.ExpertsCtx.Gen.facts, Cert.ExpertsCtxIdeal.Gen.facts, Cert.ExpertsCtxRefIdeal.Gen.facts,
    Cert.ConvIn.Gen.facts, Cert.ConvInIdeal.Gen.facts, Cert.ConvInRefIdeal.Gen.facts,
    Cert.ConvLast.Gen.facts, Cert.ConvLastIdeal.Gen.facts, Cert.ConvLastRefIdeal.Gen.facts,
    Cert.ScanIn.Gen.facts, Cert.ScanInIdeal.Gen.facts, Cert.ScanInRefIdeal.Gen.facts,
    Cert.Glu.Gen.facts, Cert.GluIdeal.Gen.facts, Cert.GluRefIdeal.Gen.facts,
    Cert.AttnOut.Gen.facts, Cert.AttnOutIdeal.Gen.facts, Cert.AttnOutRefIdeal.Gen.facts,
    Attn.pre_facts, Attn.on_facts, MoeCtx.on_facts, ConvIn.on_facts,
    ConvLast.on_facts, ScanIn.on_facts, Glu.on_facts, AttnOut.on_facts,
    fun m g _ => Cert.Kernel.Gen.frame m g,
    fun m g _ => Cert.KernelIdeal.Gen.frame m g,
    fun m g _ => Cert.KernelIdeal.Gen.frame m g,
    Attn.frame_ri,
    Attn.frame_ri_pre,
    Moe.frame_p, Moe.frame_pi, Moe.frame_ri,
    MoeCtx.frame_p, MoeCtx.frame_pi, MoeCtx.frame_ri,
    fun m g _ => Cert.ConvIn.Gen.frame m g,
    fun m g _ => Cert.ConvInIdeal.Gen.frame m g,
    ConvIn.frame_ri,
    fun m g _ => Cert.ConvLast.Gen.frame m g,
    fun m g _ => Cert.ConvLastIdeal.Gen.frame m g,
    ConvLast.frame_ri,
    fun m g _ => Cert.ScanIn.Gen.frame m g,
    fun m g _ => Cert.ScanInIdeal.Gen.frame m g,
    ScanIn.frame_ri,
    fun m g _ => Cert.Glu.Gen.frame m g,
    fun m g _ => Cert.GluIdeal.Gen.frame m g,
    Glu.frame_ri,
    fun m g _ => Cert.AttnOut.Gen.frame m g,
    fun m g _ => Cert.AttnOutIdeal.Gen.frame m g,
    AttnOut.frame_ri,
    trivial,
    Attn.algebraic,
    trivial,
    Moe.algebraic,
    trivial,
    MoeCtx.algebraic,
    trivial,
    ConvIn.algebraic,
    trivial,
    ConvLast.algebraic,
    trivial,
    ScanIn.algebraic,
    trivial,
    Glu.algebraic,
    trivial,
    AttnOut.algebraic⟩

end Cert.Proof

end
